-- ==== Defs.lean ====
def Pre_Kernel [hPre_indices_name_nodes : Cert.Pre_indices_name_nodes.Facts] (m : (ℓ : Loc Cert.Kernel.nD Cert.Kernel.τ Cert.Kernel.sig) → Buf (Elt Bits) ℓ) : Prop :=
  ∀ c : Dev Cert.Kernel.nD,
    (Cert.Pre_indices_name_nodes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_indices_name_nodes : Cert.Pre_indices_name_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_indices_name_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_indices_and_finite [hPre_indices_and_finite : Cert.Pre_indices_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_indices_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_and_finite [hPre_indices_and_finite : Cert.Pre_indices_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_indices_name_nodes : Cert.Pre_indices_name_nodes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_indices_name_nodes : Cert.Pre_indices_name_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_indices_and_finite [hKernelIdeal : Cert.KernelIdeal.Facts] [hPre_indices_and_finite : Cert.Pre_indices_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_indices_and_finite [hReferenceIdeal : Cert.ReferenceIdeal.Facts] [hPre_indices_and_finite : Cert.Pre_indices_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_indices_and_finite [hKernelIdeal : Cert.KernelIdeal.Facts] [hReferenceIdeal : Cert.ReferenceIdeal.Facts] [hPre_indices_and_finite : Cert.Pre_indices_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_indices_name_nodes : Cert.Pre_indices_name_nodes.Facts) (hPre_indices_and_finite : Cert.Pre_indices_and_finite.Facts),
    quiescent_Kernel (hKernel := hKernel) (hPre_indices_name_nodes := hPre_indices_name_nodes)
    ∧ quiescent_KernelIdeal (hKernelIdeal := hKernelIdeal) (hPre_indices_name_nodes := hPre_indices_name_nodes)
    ∧ quiescent_KernelIdeal_pre_indices_and_finite (hKernelIdeal := hKernelIdeal) (hPre_indices_and_finite := hPre_indices_and_finite)
    ∧ quiescent_ReferenceIdeal (hReferenceIdeal := hReferenceIdeal)
    ∧ quiescent_ReferenceIdeal_pre_indices_and_finite (hReferenceIdeal := hReferenceIdeal) (hPre_indices_and_finite := hPre_indices_and_finite)
    ∧ preserves_Kernel_KernelIdeal
    ∧ algebraic_KernelIdeal_ReferenceIdeal_pre_indices_and_finite (hKernelIdeal := hKernelIdeal) (hReferenceIdeal := hReferenceIdeal) (hPre_indices_and_finite := hPre_indices_and_finite)
-- ==== Pre_indices_and_finite.lean ====
abbrev S32x2 : Shape := ⟨2, ![32, 2]⟩
abbrev S32x20000x2 : Shape := ⟨3, ![32, 20000, 2]⟩
abbrev S32x20000x32 : Shape := ⟨3, ![32, 20000, 32]⟩
abbrev S32x20000 : Shape := ⟨2, ![32, 20000]⟩
abbrev S_ : Shape := ⟨0, ![]⟩

class Facts : Prop where
  bcast_S_S32x20000x32 : S_.BroadcastsInDim S32x20000x32 (![] : Fin 0 → Fin S32x20000x32.rank)
  reducesTo_S32x20000x32_S_d0_1_2 : S32x20000x32.ReducesTo [0, 1, 2] S_
  h_S_ : 0 < S_.numel
  bcast_S_S32x20000x2 : S_.BroadcastsInDim S32x20000x2 (![] : Fin 0 → Fin S32x20000x2.rank)
  reducesTo_S32x20000x2_S_d0_1_2 : S32x20000x2.ReducesTo [0, 1, 2] S_

variable [Facts]

def fn {F : FTy → Type} [FloatOps F] (main_arg0 : FVec F S32x2 .f32) (main_arg1 : FVec F S32x20000x2 .f32) (main_arg2 : IVec S32x20000x32 32) (main_arg3 : IVec S32x20000 1) (main_arg4 : FVec F S32x2 .f32) (main_arg5 : FVec F S32x20000x2 .f32) (main_arg6 : FVec F S_ .f32) (main_arg7 : FVec F S_ .f32) : IVec S_ 1 :=
  let main_c : IVec S_ 32 := constantI S_ 32 0#32
  let main_v0 : IVec S32x20000x32 32 := broadcastInDim S32x20000x32 ![] bcast_S_S32x20000x32 main_c
  let main_v1 : IVec S32x20000x32 1 := cmpi .sge main_arg2 main_v0
  let main_c_0 : IVec S_ 32 := constantI S_ 32 20000#32
  let main_v2 : IVec S32x20000x32 32 := broadcastInDim S32x20000x32 ![] bcast_S_S32x20000x32 main_c_0
  let main_v3 : IVec S32x20000x32 1 := cmpi .slt main_arg2 main_v2
  let main_v4 : IVec S32x20000x32 1 := andi main_v1 main_v3
  let main_c_1 : IVec S_ 1 := constantI S_ 1 1#1
  let main_v5 : IVec S_ 1 := (fun x v => Host.reduce IntOp.andi x v reducesTo_S32x20000x32_S_d0_1_2 h_S_) main_v4 main_c_1
  let main_v6 : FVec F S32x20000x2 .f32 := Host.absf main_arg1
  let main_cst : FVec F S_ .f32 := constant S_ .f32 0x7F800000#32
  let main_v7 : FVec F S32x20000x2 .f32 := broadcastInDim S32x20000x2 ![] bcast_S_S32x20000x2 main_cst
  let main_v8 : IVec S32x20000x2 1 := cmpf .olt main_v6 main_v7
  let main_c_2 : IVec S_ 1 := constantI S_ 1 1#1
  let main_v9 : IVec S_ 1 := (fun x v => Host.reduce IntOp.andi x v reducesTo_S32x20000x2_S_d0_1_2 h_S_) main_v8 main_c_2
  let main_v10 : FVec F S_ .f32 := Host.absf main_arg6
  let main_cst_3 : FVec F S_ .f32 := constant S_ .f32 0x7F800000#32
  let main_v11 : IVec S_ 1 := cmpf .olt main_v10 main_cst_3
  let main_v12 : IVec S_ 1 := andi main_v9 main_v11
  let main_v13 : IVec S_ 1 := andi main_v5 main_v12
  let main_cst_4 : FVec F S_ .f32 := constant S_ .f32 0x00000000#32
  let main_v14 : IVec S_ 1 := cmpf .oge main_arg7 main_cst_4
  let main_v15 : IVec S_ 1 := andi main_v13 main_v14
  main_v15
-- ==== Pre_indices_name_nodes.lean ====
abbrev S32x2 : Shape := ⟨2, ![32, 2]⟩
abbrev S32x20000x2 : Shape := ⟨3, ![32, 20000, 2]⟩
abbrev S32x20000x32 : Shape := ⟨3, ![32, 20000, 32]⟩
abbrev S32x20000 : Shape := ⟨2, ![32, 20000]⟩
abbrev S_ : Shape := ⟨0, ![]⟩

class Facts : Prop where
  bcast_S_S32x20000x32 : S_.BroadcastsInDim S32x20000x32 (![] : Fin 0 → Fin S32x20000x32.rank)
  reducesTo_S32x20000x32_S_d0_1_2 : S32x20000x32.ReducesTo [0, 1, 2] S_
  h_S_ : 0 < S_.numel

variable [Facts]

def fn {F : FTy → Type} [FloatOps F] (main_arg0 : FVec F S32x2 .f32) (main_arg1 : FVec F S32x20000x2 .f32) (main_arg2 : IVec S32x20000x32 32) (main_arg3 : IVec S32x20000 1) (main_arg4 : FVec F S32x2 .f32) (main_arg5 : FVec F S32x20000x2 .f32) (main_arg6 : FVec F S_ .f32) (main_arg7 : FVec F S_ .f32) : IVec S_ 1 :=
  let main_c : IVec S_ 32 := constantI S_ 32 0#32
  let main_v0 : IVec S32x20000x32 32 := broadcastInDim S32x20000x32 ![] bcast_S_S32x20000x32 main_c
  let main_v1 : IVec S32x20000x32 1 := cmpi .sge main_arg2 main_v0
  let main_c_0 : IVec S_ 32 := constantI S_ 32 20000#32
  let main_v2 : IVec S32x20000x32 32 := broadcastInDim S32x20000x32 ![] bcast_S_S32x20000x32 main_c_0
  let main_v3 : IVec S32x20000x32 1 := cmpi .slt main_arg2 main_v2
  let main_v4 : IVec S32x20000x32 1 := andi main_v1 main_v3
  let main_c_1 : IVec S_ 1 := constantI S_ 1 1#1
  let main_v5 : IVec S_ 1 := (fun x v => Host.reduce IntOp.andi x v reducesTo_S32x20000x32_S_d0_1_2 h_S_) main_v4 main_c_1
  main_v5
-- ==== Kernel.lean ====
abbrev S32x2 : Shape := ⟨2, ![32, 2]⟩
abbrev S32x20000x2 : Shape := ⟨3, ![32, 20000, 2]⟩
abbrev S32x20000x32 : Shape := ⟨3, ![32, 20000, 32]⟩
abbrev S32x20000 : Shape := ⟨2, ![32, 20000]⟩
abbrev S_ : Shape := ⟨0, ![]⟩
abbrev S32x16 : Shape := ⟨2, ![32, 16]⟩
abbrev S32x1 : Shape := ⟨2, ![32, 1]⟩
abbrev S32 : Shape := ⟨1, ![32]⟩
abbrev S1 : Shape := ⟨1, ![1]⟩
abbrev S32x2x20000 : Shape := ⟨3, ![32, 2, 20000]⟩
abbrev S32x32x20000 : Shape := ⟨3, ![32, 32, 20000]⟩
abbrev S512 : Shape := ⟨1, ![512]⟩
abbrev S640000 : Shape := ⟨1, ![640000]⟩
abbrev S2x20000 : Shape := ⟨2, ![2, 20000]⟩
abbrev S16 : Shape := ⟨1, ![16]⟩
abbrev S32x640 : Shape := ⟨2, ![32, 640]⟩
abbrev S2x640 : Shape := ⟨2, ![2, 640]⟩
abbrev S640 : Shape := ⟨1, ![640]⟩
abbrev S32x800 : Shape := ⟨2, ![32, 800]⟩
abbrev S2x800 : Shape := ⟨2, ![2, 800]⟩
abbrev S800 : Shape := ⟨1, ![800]⟩
abbrev S1x2x20000 : Shape := ⟨3, ![1, 2, 20000]⟩
abbrev S8x640 : Shape := ⟨2, ![8, 640]⟩
abbrev S1x8x640 : Shape := ⟨3, ![1, 8, 640]⟩
abbrev S1x2x640 : Shape := ⟨3, ![1, 2, 640]⟩
abbrev S1x16 : Shape := ⟨2, ![1, 16]⟩
abbrev S8x800 : Shape := ⟨2, ![8, 800]⟩
abbrev S1x8x800 : Shape := ⟨3, ![1, 8, 800]⟩
abbrev S1x2x800 : Shape := ⟨3, ![1, 2, 800]⟩
abbrev S8x20000 : Shape := ⟨2, ![8, 20000]⟩
abbrev S8 : Shape := ⟨1, ![8]⟩
abbrev S8x1 : Shape := ⟨2, ![8, 1]⟩

abbrev nBuf : Table → Nat
  | .hbm => 49
  | .local .tc .vmem => 8
  | .local .scVector .vmem => 14
  | _ => 0

abbrev bufTy : (tb : Table) → Fin (nBuf tb) → BufTy
  | .hbm, ⟨0, _⟩ => ⟨S32x2, .f32⟩
  | .hbm, ⟨1, _⟩ => ⟨S32x20000x2, .f32⟩
  | .hbm, ⟨2, _⟩ => ⟨S32x20000x32, .i32⟩
  | .hbm, ⟨3, _⟩ => ⟨S32x20000, .i1⟩
  | .hbm, ⟨4, _⟩ => ⟨S32x2, .f32⟩
  | .hbm, ⟨5, _⟩ => ⟨S32x20000x2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x16, .f32⟩
  | .hbm, ⟨10, _⟩ => ⟨S32x1, .f32⟩
  | .hbm, ⟨11, _⟩ => ⟨S32, .f32⟩
  | .hbm, ⟨12, _⟩ => ⟨S_, .i32⟩
  | .hbm, ⟨13, _⟩ => ⟨S1, .i32⟩
  | .hbm, ⟨14, _⟩ => ⟨S32x16, .f32⟩
  | .hbm, ⟨15, _⟩ => ⟨S32x1, .f32⟩
  | .hbm, ⟨16, _⟩ => ⟨S32, .f32⟩
  | .hbm, ⟨17, _⟩ => ⟨S_, .i32⟩
  | .hbm, ⟨18, _⟩ => ⟨S1, .i32⟩
  | .hbm, ⟨19, _⟩ => ⟨S32x16, .f32⟩
  | .hbm, ⟨20, _⟩ => ⟨S_, .i32⟩
  | .hbm, ⟨21, _⟩ => ⟨S1, .i32⟩
  | .hbm, ⟨22, _⟩ => ⟨S32, .f32⟩
  | .hbm, ⟨23, _⟩ => ⟨S32x16, .f32⟩
  | .hbm, ⟨24, _⟩ => ⟨S_, .f32⟩
  | .hbm, ⟨25, _⟩ => ⟨S_, .i32⟩
  | .hbm, ⟨26, _⟩ => ⟨S1, .i32⟩
  | .hbm, ⟨27, _⟩ => ⟨S32, .f32⟩
  | .hbm, ⟨28, _⟩ => ⟨S32x16, .f32⟩
  | .hbm, ⟨29, _⟩ => ⟨S32x1, .f32⟩
  | .hbm, ⟨30, _⟩ => ⟨S32, .f32⟩
  | .hbm, ⟨31, _⟩ => ⟨S_, .i32⟩
  | .hbm, ⟨32, _⟩ => ⟨S1, .i32⟩
  | .hbm, ⟨33, _⟩ => ⟨S32x16, .f32⟩
  | .hbm, ⟨34, _⟩ => ⟨S32x1, .f32⟩
  | .hbm, ⟨35, _⟩ => ⟨S32, .f32⟩
  | .hbm, ⟨36, _⟩ => ⟨S_, .i32⟩
  | .hbm, ⟨37, _⟩ => ⟨S1, .i32⟩
  | .hbm, ⟨38, _⟩ => ⟨S32x16, .f32⟩
  | .hbm, ⟨39, _⟩ => ⟨S32x2x20000, .f32⟩
  | .hbm, ⟨40, _⟩ => ⟨S32x2x20000, .f32⟩
  | .hbm, ⟨41, _⟩ => ⟨S32x32x20000, .i32⟩
  | .hbm, ⟨42, _⟩ => ⟨S512, .f32⟩
  | .hbm, ⟨43, _⟩ => ⟨S640000, .f32⟩
  | .hbm, ⟨44, _⟩ => ⟨S640000, .f32⟩
  | .hbm, ⟨45, _⟩ => ⟨S32x20000, .f32⟩
  | .hbm, ⟨46, _⟩ => ⟨S32x20000, .f32⟩
  | .hbm, ⟨47, _⟩ => ⟨S32x20000, .f32⟩
  | .hbm, ⟨48, _⟩ => ⟨S32x20000, .f32⟩
  | .local .tc .vmem, ⟨0, _⟩ => ⟨S8x20000, .f32⟩
  | .local .tc .vmem, ⟨1, _⟩ => ⟨S8x20000, .f32⟩
  | .local .tc .vmem, ⟨2, _⟩ => ⟨S8x20000, .f32⟩
  | .local .tc .vmem, ⟨3, _⟩ => ⟨S8x20000, .f32⟩
  | .local .tc .vmem, ⟨4, _⟩ => ⟨S8x20000, .f32⟩
  | .local .tc .vmem, ⟨5, _⟩ => ⟨S8x20000, .f32⟩
  | .local .tc .vmem, ⟨6, _⟩ => ⟨S8x20000, .f32⟩
  | .local .tc .vmem, ⟨7, _⟩ => ⟨S8x20000, .f32⟩
  | .local .scVector .vmem, ⟨0, _⟩ => ⟨S2x20000, .f32⟩
  | .local .scVector .vmem, ⟨1, _⟩ => ⟨S16, .f32⟩
  | .local .scVector .vmem, ⟨2, _⟩ => ⟨S32x640, .i32⟩
  | .local .scVector .vmem, ⟨3, _⟩ => ⟨S32x640, .i32⟩
  | .local .scVector .vmem, ⟨4, _⟩ => ⟨S2x640, .f32⟩
  | .local .scVector .vmem, ⟨5, _⟩ => ⟨S2x640, .f32⟩
  | .local .scVector .vmem, ⟨6, _⟩ => ⟨S640, .f32⟩
  | .local .scVector .vmem, ⟨7, _⟩ => ⟨S640, .f32⟩
  | .local .scVector .vmem, ⟨8, _⟩ => ⟨S640, .f32⟩
  | .local .scVector .vmem, ⟨9, _⟩ => ⟨S640, .f32⟩
  | .local .scVector .vmem, ⟨10, _⟩ => ⟨S32x800, .i32⟩
  | .local .scVector .vmem, ⟨11, _⟩ => ⟨S2x800, .f32⟩
  | .local .scVector .vmem, ⟨12, _⟩ => ⟨S800, .f32⟩
  | .local .scVector .vmem, ⟨13, _⟩ => ⟨S800, .f32⟩
  | _, _ => ⟨S32x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v24_scv : Ref sig .scVector := ⟨.hbm, 39, rfl⟩
abbrev main_v25_scv : Ref sig .scVector := ⟨.hbm, 40, rfl⟩
abbrev main_v26_scv : Ref sig .scVector := ⟨.hbm, 41, rfl⟩
abbrev main_v27_scv : Ref sig .scVector := ⟨.hbm, 42, rfl⟩
abbrev main_v28_0_scv : Ref sig .scVector := ⟨.hbm, 43, rfl⟩
abbrev main_v28_1_scv : Ref sig .scVector := ⟨.hbm, 44, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_117_r0 : BitVec 32 := 0#32
  let c0_i32_118_r0 : BitVec 32 := 0#32
  ![v1.toNat, 0, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c0_i32_2 : BitVec 32 := 0#32
  ![v1.toNat, 0, 0]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_8 : BitVec 32 := 8#32
  let c0_i32_9 : BitVec 32 := 0#32
  ![v1.toNat, 8, 0]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_16 : BitVec 32 := 16#32
  let c0_i32_17 : BitVec 32 := 0#32
  ![v1.toNat, 16, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_23 : BitVec 32 := 24#32
  let c0_i32_24 : BitVec 32 := 0#32
  ![v1.toNat, 24, 0]
def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29 : BitVec 32 := 0#32
  let c0_i32_30 : BitVec 32 := 0#32
  ![v1.toNat, 0, 0]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35 : BitVec 32 := 0#32
  let c640_i32 : BitVec 32 := 640#32
  ![v1.toNat, 0, 640]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_42 : BitVec 32 := 8#32
  let c640_i32_43 : BitVec 32 := 640#32
  ![v1.toNat, 8, 640]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_50 : BitVec 32 := 16#32
  let c640_i32_51 : BitVec 32 := 640#32
  ![v1.toNat, 16, 640]
def k0_off11 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_58 : BitVec 32 := 24#32
  let c640_i32_59 : BitVec 32 := 640#32
  ![v1.toNat, 24, 640]
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64 : BitVec 32 := 0#32
  let c640_i32_65 : BitVec 32 := 640#32
  ![v1.toNat, 0, 640]
@[reducible] def k0_t1_loop : Scf.Loop 32 :=
  let c0_i32_69 : BitVec 32 := 0#32
  let c15_i32 : BitVec 32 := 15#32
  let v73 : BitVec 32 := Scalar.addi c0_i32_69 c15_i32
  let c1_i32 : BitVec 32 := 1#32
  ⟨c0_i32_69, v73, c1_i32⟩
def k0_cond1 (k0_t1 : Fin k0_t1_loop.trips) : BitVec 1 :=
  let c0_i32_69 : BitVec 32 := 0#32
  let c1_i32 : BitVec 32 := 1#32
  let arg31 : BitVec 32 := Scf.iv c0_i32_69 c1_i32 k0_t1
  let c0_i32_161 : BitVec 32 := 0#32
  let v152 : BitVec 1 := Scalar.cmpi .sgt arg31 c0_i32_161
  let v153 : BitVec 32 := Scalar.extui v152
  let c0_i32_162 : BitVec 32 := 0#32
  let v154 : BitVec 1 := Scalar.cmpi .ne v153 c0_i32_162
  v154

def k0_off13 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v16 : BitVec 32 := Scalar.muli v1 c20000_i32
  ![v16.toNat]
@[reducible] def k0_t2_loop : Scf.Loop 32 :=
  let c0_i32_164 : BitVec 32 := 0#32
  let c40_i32 : BitVec 32 := 40#32
  let v155 : BitVec 32 := Scalar.addi c0_i32_164 c40_i32
  let c1_i32_165 : BitVec 32 := 1#32
  ⟨c0_i32_164, v155, c1_i32_165⟩
def k0_off14 (k0_t2 : Fin k0_t2_loop.trips) : Fin 2 → Nat :=
  let c0_i32_232 : BitVec 32 := 0#32
  let v223 : Index := Scalar.indexCast c0_i32_232
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v224 : Index := Scalar.indexCast v214
  ![0, v224.toNat]

def k0_chk1 (v225 : IVec S16 32) (v226 : IVec S16 32) : Prop :=
  (∀ a x, ((![v226, v225] : Fin 2 → IVec S16 32) a x).toNat < S2x20000.size a)
theorem k0_idx1_inb : ∀ (v225 : IVec S16 32) (v226 : IVec S16 32) (k0_hw1 : k0_chk1 v225 v226), ∀ a x, ((![v226, v225] : Fin 2 → IVec S16 32) a x).toNat < S2x20000.size a := fun v225 v226 k0_hw1 => k0_hw1

def k0_chk2 (v225 : IVec S16 32) (v229 : IVec S16 32) : Prop :=
  (∀ a x, ((![v229, v225] : Fin 2 → IVec S16 32) a x).toNat < S2x20000.size a)
theorem k0_idx2_inb : ∀ (v225 : IVec S16 32) (v229 : IVec S16 32) (k0_hw2 : k0_chk2 v225 v229), ∀ a x, ((![v229, v225] : Fin 2 → IVec S16 32) a x).toNat < S2x20000.size a := fun v225 v229 k0_hw2 => k0_hw2
def k0_off15 (k0_t2 : Fin k0_t2_loop.trips) : Fin 2 → Nat :=
  let c1_i32_235 : BitVec 32 := 1#32
  let v232 : Index := Scalar.indexCast c1_i32_235
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v233 : Index := Scalar.indexCast v214
  ![1, v233.toNat]

def k0_chk3 (v234 : IVec S16 32) (v235 : IVec S16 32) : Prop :=
  (∀ a x, ((![v235, v234] : Fin 2 → IVec S16 32) a x).toNat < S2x20000.size a)
theorem k0_idx3_inb : ∀ (v234 : IVec S16 32) (v235 : IVec S16 32) (k0_hw3 : k0_chk3 v234 v235), ∀ a x, ((![v235, v234] : Fin 2 → IVec S16 32) a x).toNat < S2x20000.size a := fun v234 v235 k0_hw3 => k0_hw3

def k0_chk4 (v234 : IVec S16 32) (v238 : IVec S16 32) : Prop :=
  (∀ a x, ((![v238, v234] : Fin 2 → IVec S16 32) a x).toNat < S2x20000.size a)
theorem k0_idx4_inb : ∀ (v234 : IVec S16 32) (v238 : IVec S16 32) (k0_hw4 : k0_chk4 v234 v238), ∀ a x, ((![v238, v234] : Fin 2 → IVec S16 32) a x).toNat < S2x20000.size a := fun v234 v238 k0_hw4 => k0_hw4
def k0_off16 (k0_t2 : Fin k0_t2_loop.trips) : Fin 2 → Nat :=
  let c2_i32_238 : BitVec 32 := 2#32
  let v241 : Index := Scalar.indexCast c2_i32_238
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v242 : Index := Scalar.indexCast v214
  ![2, v242.toNat]

def k0_chk5 (v243 : IVec S16 32) (v244 : IVec S16 32) : Prop :=
  (∀ a x, ((![v244, v243] : Fin 2 → IVec S16 32) a x).toNat < S2x20000.size a)
theorem k0_idx5_inb : ∀ (v243 : IVec S16 32) (v244 : IVec S16 32) (k0_hw5 : k0_chk5 v243 v244), ∀ a x, ((![v244, v243] : Fin 2 → IVec S16 32) a x).toNat < S2x20000.size a := fun v243 v244 k0_hw5 => k0_hw5

def k0_chk6 (v243 : IVec S16 32) (v247 : IVec S16 32) : Prop :=
  (∀ a x, ((![v247, v243] : Fin 2 → IVec S16 32) a x).toNat < S2x20000.size a)
theorem k0_idx6_inb : ∀ (v243 : IVec S16 32) (v247 : IVec S16 32) (k0_hw6 : k0_chk6 v243 v247), ∀ a x, ((![v247, v243] : Fin 2 → IVec S16 32) a x).toNat < S2x20000.size a := fun v243 v247 k0_hw6 => k0_hw6
def k0_off17 (k0_t2 : Fin k0_t2_loop.trips) : Fin 2 → Nat :=
  let c3_i32 : BitVec 32 := 3#32
  let v250 : Index := Scalar.indexCast c3_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v251 : Index := Scalar.indexCast v214
  ![3, v251.toNat]

def k0_chk7 (v252 : IVec S16 32) (v253 : IVec S16 32) : Prop :=
  (∀ a x, ((![v253, v252] : Fin 2 → IVec S16 32) a x).toNat < S2x20000.size a)
theorem k0_idx7_inb : ∀ (v252 : IVec S16 32) (v253 : IVec S16 32) (k0_hw7 : k0_chk7 v252 v253), ∀ a x, ((![v253, v252] : Fin 2 → IVec S16 32) a x).toNat < S2x20000.size a := fun v252 v253 k0_hw7 => k0_hw7

def k0_chk8 (v252 : IVec S16 32) (v256 : IVec S16 32) : Prop :=
  (∀ a x, ((![v256, v252] : Fin 2 → IVec S16 32) a x).toNat < S2x20000.size a)
theorem k0_idx8_inb : ∀ (v252 : IVec S16 32) (v256 : IVec S16 32) (k0_hw8 : k0_chk8 v252 v256), ∀ a x, ((![v256, v252] : Fin 2 → IVec S16 32) a x).toNat < S2x20000.size a := fun v252 v256 k0_hw8 => k0_hw8
def k0_off18 (k0_t2 : Fin k0_t2_loop.trips) : Fin 2 → Nat :=
  let c4_i32 : BitVec 32 := 4#32
  let v259 : Index := Scalar.indexCast c4_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v260 : Index := Scalar.indexCast v214
  ![4, v260.toNat]

def k0_chk9 (v261 : IVec S16 32) (v262 : IVec S16 32) : Prop :=
  (∀ a x, ((![v262, v261] : Fin 2 → IVec S16 32) a x).toNat < S2x20000.size a)
theorem k0_idx9_inb : ∀ (v261 : IVec S16 32) (v262 : IVec S16 32) (k0_hw9 : k0_chk9 v261 v262), ∀ a x, ((![v262, v261] : Fin 2 → IVec S16 32) a x).toNat < S2x20000.size a := fun v261 v262 k0_hw9 => k0_hw9

def k0_chk10 (v261 : IVec S16 32) (v265 : IVec S16 32) : Prop :=
  (∀ a x, ((![v265, v261] : Fin 2 → IVec S16 32) a x).toNat < S2x20000.size a)
theorem k0_idx10_inb : ∀ (v261 : IVec S16 32) (v265 : IVec S16 32) (k0_hw10 : k0_chk10 v261 v265), ∀ a x, ((![v265, v261] : Fin 2 → IVec S16 32) a x).toNat < S2x20000.size a := fun v261 v265 k0_hw10 => k0_hw10
def k0_off19 (k0_t2 : Fin k0_t2_loop.trips) : Fin 2 → Nat :=
  let c5_i32 : BitVec 32 := 5#32
  let v268 : Index := Scalar.indexCast c5_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v269 : Index := Scalar.indexCast v214
  ![5, v269.toNat]

def k0_chk11 (v270 : IVec S16 32) (v271 : IVec S16 32) : Prop :=
  (∀ a x, ((![v271, v270] : Fin 2 → IVec S16 32) a x).toNat < S2x20000.size a)
theorem k0_idx11_inb : ∀ (v270 : IVec S16 32) (v271 : IVec S16 32) (k0_hw11 : k0_chk11 v270 v271), ∀ a x, ((![v271, v270] : Fin 2 → IVec S16 32) a x).toNat < S2x20000.size a := fun v270 v271 k0_hw11 => k0_hw11

def k0_chk12 (v270 : IVec S16 32) (v274 : IVec S16 32) : Prop :=
  (∀ a x, ((![v274, v270] : Fin 2 → IVec S16 32) a x).toNat < S2x20000.size a)
theorem k0_idx12_inb : ∀ (v270 : IVec S16 32) (v274 : IVec S16 32) (k0_hw12 : k0_chk12 v270 v274), ∀ a x, ((![v274, v270] : Fin 2 → IVec S16 32) a x).toNat < S2x20000.size a := fun v270 v274 k0_hw12 => k0_hw12
def k0_off20 (k0_t2 : Fin k0_t2_loop.trips) : Fin 2 → Nat :=
  let c6_i32 : BitVec 32 := 6#32
  let v277 : Index := Scalar.indexCast c6_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v278 : Index := Scalar.indexCast v214
  ![6, v278.toNat]

def k0_chk13 (v279 : IVec S16 32) (v280 : IVec S16 32) : Prop :=
  (∀ a x, ((![v280, v279] : Fin 2 → IVec S16 32) a x).toNat < S2x20000.size a)
theorem k0_idx13_inb : ∀ (v279 : IVec S16 32) (v280 : IVec S16 32) (k0_hw13 : k0_chk13 v279 v280), ∀ a x, ((![v280, v279] : Fin 2 → IVec S16 32) a x).toNat < S2x20000.size a := fun v279 v280 k0_hw13 => k0_hw13

def k0_chk14 (v279 : IVec S16 32) (v283 : IVec S16 32) : Prop :=
  (∀ a x, ((![v283, v279] : Fin 2 → IVec S16 32) a x).toNat < S2x20000.size a)
theorem k0_idx14_inb : ∀ (v279 : IVec S16 32) (v283 : IVec S16 32) (k0_hw14 : k0_chk14 v279 v283), ∀ a x, ((![v283, v279] : Fin 2 → IVec S16 32) a x).toNat < S2x20000.size a := fun v279 v283 k0_hw14 => k0_hw14
def k0_off21 (k0_t2 : Fin k0_t2_loop.trips) : Fin 2 → Nat :=
  let c7_i32 : BitVec 32 := 7#32
  let v286 : Index := Scalar.indexCast c7_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v287 : Index := Scalar.indexCast v214
  ![7, v287.toNat]

def k0_chk15 (v288 : IVec S16 32) (v289 : IVec S16 32) : Prop :=
  (∀ a x, ((![v289, v288] : Fin 2 → IVec S16 32) a x).toNat < S2x20000.size a)
theorem k0_idx15_inb : ∀ (v288 : IVec S16 32) (v289 : IVec S16 32) (k0_hw15 : k0_chk15 v288 v289), ∀ a x, ((![v289, v288] : Fin 2 → IVec S16 32) a x).toNat < S2x20000.size a := fun v288 v289 k0_hw15 => k0_hw15

def k0_chk16 (v288 : IVec S16 32) (v292 : IVec S16 32) : Prop :=
  (∀ a x, ((![v292, v288] : Fin 2 → IVec S16 32) a x).toNat < S2x20000.size a)
theorem k0_idx16_inb : ∀ (v288 : IVec S16 32) (v292 : IVec S16 32) (k0_hw16 : k0_chk16 v288 v292), ∀ a x, ((![v292, v288] : Fin 2 → IVec S16 32) a x).toNat < S2x20000.size a := fun v288 v292 k0_hw16 => k0_hw16
def k0_off22 (k0_t2 : Fin k0_t2_loop.trips) : Fin 2 → Nat :=
  let c8_i32_251 : BitVec 32 := 8#32
  let v295 : Index := Scalar.indexCast c8_i32_251
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v296 : Index := Scalar.indexCast v214
  ![8, v296.toNat]

def k0_chk17 (v297 : IVec S16 32) (v298 : IVec S16 32) : Prop :=
  (∀ a x, ((![v298, v297] : Fin 2 → IVec S16 32) a x).toNat < S2x20000.size a)
theorem k0_idx17_inb : ∀ (v297 : IVec S16 32) (v298 : IVec S16 32) (k0_hw17 : k0_chk17 v297 v298), ∀ a x, ((![v298, v297] : Fin 2 → IVec S16 32) a x).toNat < S2x20000.size a := fun v297 v298 k0_hw17 => k0_hw17

def k0_chk18 (v297 : IVec S16 32) (v301 : IVec S16 32) : Prop :=
  (∀ a x, ((![v301, v297] : Fin 2 → IVec S16 32) a x).toNat < S2x20000.size a)
theorem k0_idx18_inb : ∀ (v297 : IVec S16 32) (v301 : IVec S16 32) (k0_hw18 : k0_chk18 v297 v301), ∀ a x, ((![v301, v297] : Fin 2 → IVec S16 32) a x).toNat < S2x20000.size a := fun v297 v301 k0_hw18 => k0_hw18
def k0_off23 (k0_t2 : Fin k0_t2_loop.trips) : Fin 2 → Nat :=
  let c9_i32 : BitVec 32 := 9#32
  let v304 : Index := Scalar.indexCast c9_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v305 : Index := Scalar.indexCast v214
  ![9, v305.toNat]

def k0_chk19 (v306 : IVec S16 32) (v307 : IVec S16 32) : Prop :=
  (∀ a x, ((![v307, v306] : Fin 2 → IVec S16 32) a x).toNat < S2x20000.size a)
theorem k0_idx19_inb : ∀ (v306 : IVec S16 32) (v307 : IVec S16 32) (k0_hw19 : k0_chk19 v306 v307), ∀ a x, ((![v307, v306] : Fin 2 → IVec S16 32) a x).toNat < S2x20000.size a := fun v306 v307 k0_hw19 => k0_hw19

def k0_chk20 (v306 : IVec S16 32) (v310 : IVec S16 32) : Prop :=
  (∀ a x, ((![v310, v306] : Fin 2 → IVec S16 32) a x).toNat < S2x20000.size a)
theorem k0_idx20_inb : ∀ (v306 : IVec S16 32) (v310 : IVec S16 32) (k0_hw20 : k0_chk20 v306 v310), ∀ a x, ((![v310, v306] : Fin 2 → IVec S16 32) a x).toNat < S2x20000.size a := fun v306 v310 k0_hw20 => k0_hw20
def k0_off24 (k0_t2 : Fin k0_t2_loop.trips) : Fin 2 → Nat :=
  let c10_i32 : BitVec 32 := 10#32
  let v313 : Index := Scalar.indexCast c10_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v314 : Index := Scalar.indexCast v214
  ![10, v314.toNat]

def k0_chk21 (v315 : IVec S16 32) (v316 : IVec S16 32) : Prop :=
  (∀ a x, ((![v316, v315] : Fin 2 → IVec S16 32) a x).toNat < S2x20000.size a)
theorem k0_idx21_inb : ∀ (v315 : IVec S16 32) (v316 : IVec S16 32) (k0_hw21 : k0_chk21 v315 v316), ∀ a x, ((![v316, v315] : Fin 2 → IVec S16 32) a x).toNat < S2x20000.size a := fun v315 v316 k0_hw21 => k0_hw21

def k0_chk22 (v315 : IVec S16 32) (v319 : IVec S16 32) : Prop :=
  (∀ a x, ((![v319, v315] : Fin 2 → IVec S16 32) a x).toNat < S2x20000.size a)
theorem k0_idx22_inb : ∀ (v315 : IVec S16 32) (v319 : IVec S16 32) (k0_hw22 : k0_chk22 v315 v319), ∀ a x, ((![v319, v315] : Fin 2 → IVec S16 32) a x).toNat < S2x20000.size a := fun v315 v319 k0_hw22 => k0_hw22
def k0_off25 (k0_t2 : Fin k0_t2_loop.trips) : Fin 2 → Nat :=
  let c11_i32 : BitVec 32 := 11#32
  let v322 : Index := Scalar.indexCast c11_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v323 : Index := Scalar.indexCast v214
  ![11, v323.toNat]

def k0_chk23 (v324 : IVec S16 32) (v325 : IVec S16 32) : Prop :=
  (∀ a x, ((![v325, v324] : Fin 2 → IVec S16 32) a x).toNat < S2x20000.size a)
theorem k0_idx23_inb : ∀ (v324 : IVec S16 32) (v325 : IVec S16 32) (k0_hw23 : k0_chk23 v324 v325), ∀ a x, ((![v325, v324] : Fin 2 → IVec S16 32) a x).toNat < S2x20000.size a := fun v324 v325 k0_hw23 => k0_hw23

def k0_chk24 (v324 : IVec S16 32) (v328 : IVec S16 32) : Prop :=
  (∀ a x, ((![v328, v324] : Fin 2 → IVec S16 32) a x).toNat < S2x20000.size a)
theorem k0_idx24_inb : ∀ (v324 : IVec S16 32) (v328 : IVec S16 32) (k0_hw24 : k0_chk24 v324 v328), ∀ a x, ((![v328, v324] : Fin 2 → IVec S16 32) a x).toNat < S2x20000.size a := fun v324 v328 k0_hw24 => k0_hw24
def k0_off26 (k0_t2 : Fin k0_t2_loop.trips) : Fin 2 → Nat :=
  let c12_i32 : BitVec 32 := 12#32
  let v331 : Index := Scalar.indexCast c12_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v332 : Index := Scalar.indexCast v214
  ![12, v332.toNat]

def k0_chk25 (v333 : IVec S16 32) (v334 : IVec S16 32) : Prop :=
  (∀ a x, ((![v334, v333] : Fin 2 → IVec S16 32) a x).toNat < S2x20000.size a)
theorem k0_idx25_inb : ∀ (v333 : IVec S16 32) (v334 : IVec S16 32) (k0_hw25 : k0_chk25 v333 v334), ∀ a x, ((![v334, v333] : Fin 2 → IVec S16 32) a x).toNat < S2x20000.size a := fun v333 v334 k0_hw25 => k0_hw25

def k0_chk26 (v333 : IVec S16 32) (v337 : IVec S16 32) : Prop :=
  (∀ a x, ((![v337, v333] : Fin 2 → IVec S16 32) a x).toNat < S2x20000.size a)
theorem k0_idx26_inb : ∀ (v333 : IVec S16 32) (v337 : IVec S16 32) (k0_hw26 : k0_chk26 v333 v337), ∀ a x, ((![v337, v333] : Fin 2 → IVec S16 32) a x).toNat < S2x20000.size a := fun v333 v337 k0_hw26 => k0_hw26
def k0_off27 (k0_t2 : Fin k0_t2_loop.trips) : Fin 2 → Nat :=
  let c13_i32 : BitVec 32 := 13#32
  let v340 : Index := Scalar.indexCast c13_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v341 : Index := Scalar.indexCast v214
  ![13, v341.toNat]

def k0_chk27 (v342 : IVec S16 32) (v343 : IVec S16 32) : Prop :=
  (∀ a x, ((![v343, v342] : Fin 2 → IVec S16 32) a x).toNat < S2x20000.size a)
theorem k0_idx27_inb : ∀ (v342 : IVec S16 32) (v343 : IVec S16 32) (k0_hw27 : k0_chk27 v342 v343), ∀ a x, ((![v343, v342] : Fin 2 → IVec S16 32) a x).toNat < S2x20000.size a := fun v342 v343 k0_hw27 => k0_hw27

def k0_chk28 (v342 : IVec S16 32) (v346 : IVec S16 32) : Prop :=
  (∀ a x, ((![v346, v342] : Fin 2 → IVec S16 32) a x).toNat < S2x20000.size a)
theorem k0_idx28_inb : ∀ (v342 : IVec S16 32) (v346 : IVec S16 32) (k0_hw28 : k0_chk28 v342 v346), ∀ a x, ((![v346, v342] : Fin 2 → IVec S16 32) a x).toNat < S2x20000.size a := fun v342 v346 k0_hw28 => k0_hw28
def k0_off28 (k0_t2 : Fin k0_t2_loop.trips) : Fin 2 → Nat :=
  let c14_i32_264 : BitVec 32 := 14#32
  let v349 : Index := Scalar.indexCast c14_i32_264
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v350 : Index := Scalar.indexCast v214
  ![14, v350.toNat]

def k0_chk29 (v351 : IVec S16 32) (v352 : IVec S16 32) : Prop :=
  (∀ a x, ((![v352, v351] : Fin 2 → IVec S16 32) a x).toNat < S2x20000.size a)
theorem k0_idx29_inb : ∀ (v351 : IVec S16 32) (v352 : IVec S16 32) (k0_hw29 : k0_chk29 v351 v352), ∀ a x, ((![v352, v351] : Fin 2 → IVec S16 32) a x).toNat < S2x20000.size a := fun v351 v352 k0_hw29 => k0_hw29

def k0_chk30 (v351 : IVec S16 32) (v355 : IVec S16 32) : Prop :=
  (∀ a x, ((![v355, v351] : Fin 2 → IVec S16 32) a x).toNat < S2x20000.size a)
theorem k0_idx30_inb : ∀ (v351 : IVec S16 32) (v355 : IVec S16 32) (k0_hw30 : k0_chk30 v351 v355), ∀ a x, ((![v355, v351] : Fin 2 → IVec S16 32) a x).toNat < S2x20000.size a := fun v351 v355 k0_hw30 => k0_hw30
def k0_off29 (k0_t2 : Fin k0_t2_loop.trips) : Fin 2 → Nat :=
  let c15_i32_267 : BitVec 32 := 15#32
  let v358 : Index := Scalar.indexCast c15_i32_267
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v359 : Index := Scalar.indexCast v214
  ![15, v359.toNat]

def k0_chk31 (v360 : IVec S16 32) (v361 : IVec S16 32) : Prop :=
  (∀ a x, ((![v361, v360] : Fin 2 → IVec S16 32) a x).toNat < S2x20000.size a)
theorem k0_idx31_inb : ∀ (v360 : IVec S16 32) (v361 : IVec S16 32) (k0_hw31 : k0_chk31 v360 v361), ∀ a x, ((![v361, v360] : Fin 2 → IVec S16 32) a x).toNat < S2x20000.size a := fun v360 v361 k0_hw31 => k0_hw31

def k0_chk32 (v360 : IVec S16 32) (v364 : IVec S16 32) : Prop :=
  (∀ a x, ((![v364, v360] : Fin 2 → IVec S16 32) a x).toNat < S2x20000.size a)
theorem k0_idx32_inb : ∀ (v360 : IVec S16 32) (v364 : IVec S16 32) (k0_hw32 : k0_chk32 v360 v364), ∀ a x, ((![v364, v360] : Fin 2 → IVec S16 32) a x).toNat < S2x20000.size a := fun v360 v364 k0_hw32 => k0_hw32
def k0_off30 (k0_t2 : Fin k0_t2_loop.trips) : Fin 2 → Nat :=
  let c16_i32_270 : BitVec 32 := 16#32
  let v367 : Index := Scalar.indexCast c16_i32_270
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v368 : Index := Scalar.indexCast v214
  ![16, v368.toNat]

def k0_chk33 (v369 : IVec S16 32) (v370 : IVec S16 32) : Prop :=
  (∀ a x, ((![v370, v369] : Fin 2 → IVec S16 32) a x).toNat < S2x20000.size a)
theorem k0_idx33_inb : ∀ (v369 : IVec S16 32) (v370 : IVec S16 32) (k0_hw33 : k0_chk33 v369 v370), ∀ a x, ((![v370, v369] : Fin 2 → IVec S16 32) a x).toNat < S2x20000.size a := fun v369 v370 k0_hw33 => k0_hw33

def k0_chk34 (v369 : IVec S16 32) (v373 : IVec S16 32) : Prop :=
  (∀ a x, ((![v373, v369] : Fin 2 → IVec S16 32) a x).toNat < S2x20000.size a)
theorem k0_idx34_inb : ∀ (v369 : IVec S16 32) (v373 : IVec S16 32) (k0_hw34 : k0_chk34 v369 v373), ∀ a x, ((![v373, v369] : Fin 2 → IVec S16 32) a x).toNat < S2x20000.size a := fun v369 v373 k0_hw34 => k0_hw34
def k0_off31 (k0_t2 : Fin k0_t2_loop.trips) : Fin 2 → Nat :=
  let c17_i32 : BitVec 32 := 17#32
  let v376 : Index := Scalar.indexCast c17_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v377 : Index := Scalar.indexCast v214
  ![17, v377.toNat]

def k0_chk35 (v378 : IVec S16 32) (v379 : IVec S16 32) : Prop :=
  (∀ a x, ((![v379, v378] : Fin 2 → IVec S16 32) a x).toNat < S2x20000.size a)
theorem k0_idx35_inb : ∀ (v378 : IVec S16 32) (v379 : IVec S16 32) (k0_hw35 : k0_chk35 v378 v379), ∀ a x, ((![v379, v378] : Fin 2 → IVec S16 32) a x).toNat < S2x20000.size a := fun v378 v379 k0_hw35 => k0_hw35

def k0_chk36 (v378 : IVec S16 32) (v382 : IVec S16 32) : Prop :=
  (∀ a x, ((![v382, v378] : Fin 2 → IVec S16 32) a x).toNat < S2x20000.size a)
theorem k0_idx36_inb : ∀ (v378 : IVec S16 32) (v382 : IVec S16 32) (k0_hw36 : k0_chk36 v378 v382), ∀ a x, ((![v382, v378] : Fin 2 → IVec S16 32) a x).toNat < S2x20000.size a := fun v378 v382 k0_hw36 => k0_hw36
def k0_off32 (k0_t2 : Fin k0_t2_loop.trips) : Fin 2 → Nat :=
  let c18_i32 : BitVec 32 := 18#32
  let v385 : Index := Scalar.indexCast c18_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v386 : Index := Scalar.indexCast v214
  ![18, v386.toNat]

def k0_chk37 (v387 : IVec S16 32) (v388 : IVec S16 32) : Prop :=
  (∀ a x, ((![v388, v387] : Fin 2 → IVec S16 32) a x).toNat < S2x20000.size a)
theorem k0_idx37_inb : ∀ (v387 : IVec S16 32) (v388 : IVec S16 32) (k0_hw37 : k0_chk37 v387 v388), ∀ a x, ((![v388, v387] : Fin 2 → IVec S16 32) a x).toNat < S2x20000.size a := fun v387 v388 k0_hw37 => k0_hw37

def k0_chk38 (v387 : IVec S16 32) (v391 : IVec S16 32) : Prop :=
  (∀ a x, ((![v391, v387] : Fin 2 → IVec S16 32) a x).toNat < S2x20000.size a)
theorem k0_idx38_inb : ∀ (v387 : IVec S16 32) (v391 : IVec S16 32) (k0_hw38 : k0_chk38 v387 v391), ∀ a x, ((![v391, v387] : Fin 2 → IVec S16 32) a x).toNat < S2x20000.size a := fun v387 v391 k0_hw38 => k0_hw38
def k0_off33 (k0_t2 : Fin k0_t2_loop.trips) : Fin 2 → Nat :=
  let c19_i32 : BitVec 32 := 19#32
  let v394 : Index := Scalar.indexCast c19_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v395 : Index := Scalar.indexCast v214
  ![19, v395.toNat]

def k0_chk39 (v396 : IVec S16 32) (v397 : IVec S16 32) : Prop :=
  (∀ a x, ((![v397, v396] : Fin 2 → IVec S16 32) a x).toNat < S2x20000.size a)
theorem k0_idx39_inb : ∀ (v396 : IVec S16 32) (v397 : IVec S16 32) (k0_hw39 : k0_chk39 v396 v397), ∀ a x, ((![v397, v396] : Fin 2 → IVec S16 32) a x).toNat < S2x20000.size a := fun v396 v397 k0_hw39 => k0_hw39

def k0_chk40 (v396 : IVec S16 32) (v400 : IVec S16 32) : Prop :=
  (∀ a x, ((![v400, v396] : Fin 2 → IVec S16 32) a x).toNat < S2x20000.size a)
theorem k0_idx40_inb : ∀ (v396 : IVec S16 32) (v400 : IVec S16 32) (k0_hw40 : k0_chk40 v396 v400), ∀ a x, ((![v400, v396] : Fin 2 → IVec S16 32) a x).toNat < S2x20000.size a := fun v396 v400 k0_hw40 => k0_hw40
def k0_off34 (k0_t2 : Fin k0_t2_loop.trips) : Fin 2 → Nat :=
  let c20_i32 : BitVec 32 := 20#32
  let v403 : Index := Scalar.indexCast c20_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v404 : Index := Scalar.indexCast v214
  ![20, v404.toNat]

def k0_chk41 (v405 : IVec S16 32) (v406 : IVec S16 32) : Prop :=
  (∀ a x, ((![v406, v405] : Fin 2 → IVec S16 32) a x).toNat < S2x20000.size a)
theorem k0_idx41_inb : ∀ (v405 : IVec S16 32) (v406 : IVec S16 32) (k0_hw41 : k0_chk41 v405 v406), ∀ a x, ((![v406, v405] : Fin 2 → IVec S16 32) a x).toNat < S2x20000.size a := fun v405 v406 k0_hw41 => k0_hw41

def k0_chk42 (v405 : IVec S16 32) (v409 : IVec S16 32) : Prop :=
  (∀ a x, ((![v409, v405] : Fin 2 → IVec S16 32) a x).toNat < S2x20000.size a)
theorem k0_idx42_inb : ∀ (v405 : IVec S16 32) (v409 : IVec S16 32) (k0_hw42 : k0_chk42 v405 v409), ∀ a x, ((![v409, v405] : Fin 2 → IVec S16 32) a x).toNat < S2x20000.size a := fun v405 v409 k0_hw42 => k0_hw42
def k0_off35 (k0_t2 : Fin k0_t2_loop.trips) : Fin 2 → Nat :=
  let c21_i32 : BitVec 32 := 21#32
  let v412 : Index := Scalar.indexCast c21_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v413 : Index := Scalar.indexCast v214
  ![21, v413.toNat]

def k0_chk43 (v414 : IVec S16 32) (v415 : IVec S16 32) : Prop :=
  (∀ a x, ((![v415, v414] : Fin 2 → IVec S16 32) a x).toNat < S2x20000.size a)
theorem k0_idx43_inb : ∀ (v414 : IVec S16 32) (v415 : IVec S16 32) (k0_hw43 : k0_chk43 v414 v415), ∀ a x, ((![v415, v414] : Fin 2 → IVec S16 32) a x).toNat < S2x20000.size a := fun v414 v415 k0_hw43 => k0_hw43

def k0_chk44 (v414 : IVec S16 32) (v418 : IVec S16 32) : Prop :=
  (∀ a x, ((![v418, v414] : Fin 2 → IVec S16 32) a x).toNat < S2x20000.size a)
theorem k0_idx44_inb : ∀ (v414 : IVec S16 32) (v418 : IVec S16 32) (k0_hw44 : k0_chk44 v414 v418), ∀ a x, ((![v418, v414] : Fin 2 → IVec S16 32) a x).toNat < S2x20000.size a := fun v414 v418 k0_hw44 => k0_hw44
def k0_off36 (k0_t2 : Fin k0_t2_loop.trips) : Fin 2 → Nat :=
  let c22_i32 : BitVec 32 := 22#32
  let v421 : Index := Scalar.indexCast c22_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v422 : Index := Scalar.indexCast v214
  ![22, v422.toNat]

def k0_chk45 (v423 : IVec S16 32) (v424 : IVec S16 32) : Prop :=
  (∀ a x, ((![v424, v423] : Fin 2 → IVec S16 32) a x).toNat < S2x20000.size a)
theorem k0_idx45_inb : ∀ (v423 : IVec S16 32) (v424 : IVec S16 32) (k0_hw45 : k0_chk45 v423 v424), ∀ a x, ((![v424, v423] : Fin 2 → IVec S16 32) a x).toNat < S2x20000.size a := fun v423 v424 k0_hw45 => k0_hw45

def k0_chk46 (v423 : IVec S16 32) (v427 : IVec S16 32) : Prop :=
  (∀ a x, ((![v427, v423] : Fin 2 → IVec S16 32) a x).toNat < S2x20000.size a)
theorem k0_idx46_inb : ∀ (v423 : IVec S16 32) (v427 : IVec S16 32) (k0_hw46 : k0_chk46 v423 v427), ∀ a x, ((![v427, v423] : Fin 2 → IVec S16 32) a x).toNat < S2x20000.size a := fun v423 v427 k0_hw46 => k0_hw46
def k0_off37 (k0_t2 : Fin k0_t2_loop.trips) : Fin 2 → Nat :=
  let c23_i32 : BitVec 32 := 23#32
  let v430 : Index := Scalar.indexCast c23_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v431 : Index := Scalar.indexCast v214
  ![23, v431.toNat]

def k0_chk47 (v432 : IVec S16 32) (v433 : IVec S16 32) : Prop :=
  (∀ a x, ((![v433, v432] : Fin 2 → IVec S16 32) a x).toNat < S2x20000.size a)
theorem k0_idx47_inb : ∀ (v432 : IVec S16 32) (v433 : IVec S16 32) (k0_hw47 : k0_chk47 v432 v433), ∀ a x, ((![v433, v432] : Fin 2 → IVec S16 32) a x).toNat < S2x20000.size a := fun v432 v433 k0_hw47 => k0_hw47

def k0_chk48 (v432 : IVec S16 32) (v436 : IVec S16 32) : Prop :=
  (∀ a x, ((![v436, v432] : Fin 2 → IVec S16 32) a x).toNat < S2x20000.size a)
theorem k0_idx48_inb : ∀ (v432 : IVec S16 32) (v436 : IVec S16 32) (k0_hw48 : k0_chk48 v432 v436), ∀ a x, ((![v436, v432] : Fin 2 → IVec S16 32) a x).toNat < S2x20000.size a := fun v432 v436 k0_hw48 => k0_hw48
def k0_off38 (k0_t2 : Fin k0_t2_loop.trips) : Fin 2 → Nat :=
  let c24_i32_287 : BitVec 32 := 24#32
  let v439 : Index := Scalar.indexCast c24_i32_287
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v440 : Index := Scalar.indexCast v214
  ![24, v440.toNat]

def k0_chk49 (v441 : IVec S16 32) (v442 : IVec S16 32) : Prop :=
  (∀ a x, ((![v442, v441] : Fin 2 → IVec S16 32) a x).toNat < S2x20000.size a)
theorem k0_idx49_inb : ∀ (v441 : IVec S16 32) (v442 : IVec S16 32) (k0_hw49 : k0_chk49 v441 v442), ∀ a x, ((![v442, v441] : Fin 2 → IVec S16 32) a x).toNat < S2x20000.size a := fun v441 v442 k0_hw49 => k0_hw49

def k0_chk50 (v441 : IVec S16 32) (v445 : IVec S16 32) : Prop :=
  (∀ a x, ((![v445, v441] : Fin 2 → IVec S16 32) a x).toNat < S2x20000.size a)
theorem k0_idx50_inb : ∀ (v441 : IVec S16 32) (v445 : IVec S16 32) (k0_hw50 : k0_chk50 v441 v445), ∀ a x, ((![v445, v441] : Fin 2 → IVec S16 32) a x).toNat < S2x20000.size a := fun v441 v445 k0_hw50 => k0_hw50
def k0_off39 (k0_t2 : Fin k0_t2_loop.trips) : Fin 2 → Nat :=
  let c25_i32 : BitVec 32 := 25#32
  let v448 : Index := Scalar.indexCast c25_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v449 : Index := Scalar.indexCast v214
  ![25, v449.toNat]

def k0_chk51 (v450 : IVec S16 32) (v451 : IVec S16 32) : Prop :=
  (∀ a x, ((![v451, v450] : Fin 2 → IVec S16 32) a x).toNat < S2x20000.size a)
theorem k0_idx51_inb : ∀ (v450 : IVec S16 32) (v451 : IVec S16 32) (k0_hw51 : k0_chk51 v450 v451), ∀ a x, ((![v451, v450] : Fin 2 → IVec S16 32) a x).toNat < S2x20000.size a := fun v450 v451 k0_hw51 => k0_hw51

def k0_chk52 (v450 : IVec S16 32) (v454 : IVec S16 32) : Prop :=
  (∀ a x, ((![v454, v450] : Fin 2 → IVec S16 32) a x).toNat < S2x20000.size a)
theorem k0_idx52_inb : ∀ (v450 : IVec S16 32) (v454 : IVec S16 32) (k0_hw52 : k0_chk52 v450 v454), ∀ a x, ((![v454, v450] : Fin 2 → IVec S16 32) a x).toNat < S2x20000.size a := fun v450 v454 k0_hw52 => k0_hw52
def k0_off40 (k0_t2 : Fin k0_t2_loop.trips) : Fin 2 → Nat :=
  let c26_i32 : BitVec 32 := 26#32
  let v457 : Index := Scalar.indexCast c26_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v458 : Index := Scalar.indexCast v214
  ![26, v458.toNat]

def k0_chk53 (v459 : IVec S16 32) (v460 : IVec S16 32) : Prop :=
  (∀ a x, ((![v460, v459] : Fin 2 → IVec S16 32) a x).toNat < S2x20000.size a)
theorem k0_idx53_inb : ∀ (v459 : IVec S16 32) (v460 : IVec S16 32) (k0_hw53 : k0_chk53 v459 v460), ∀ a x, ((![v460, v459] : Fin 2 → IVec S16 32) a x).toNat < S2x20000.size a := fun v459 v460 k0_hw53 => k0_hw53

def k0_chk54 (v459 : IVec S16 32) (v463 : IVec S16 32) : Prop :=
  (∀ a x, ((![v463, v459] : Fin 2 → IVec S16 32) a x).toNat < S2x20000.size a)
theorem k0_idx54_inb : ∀ (v459 : IVec S16 32) (v463 : IVec S16 32) (k0_hw54 : k0_chk54 v459 v463), ∀ a x, ((![v463, v459] : Fin 2 → IVec S16 32) a x).toNat < S2x20000.size a := fun v459 v463 k0_hw54 => k0_hw54
def k0_off41 (k0_t2 : Fin k0_t2_loop.trips) : Fin 2 → Nat :=
  let c27_i32 : BitVec 32 := 27#32
  let v466 : Index := Scalar.indexCast c27_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v467 : Index := Scalar.indexCast v214
  ![27, v467.toNat]

def k0_chk55 (v468 : IVec S16 32) (v469 : IVec S16 32) : Prop :=
  (∀ a x, ((![v469, v468] : Fin 2 → IVec S16 32) a x).toNat < S2x20000.size a)
theorem k0_idx55_inb : ∀ (v468 : IVec S16 32) (v469 : IVec S16 32) (k0_hw55 : k0_chk55 v468 v469), ∀ a x, ((![v469, v468] : Fin 2 → IVec S16 32) a x).toNat < S2x20000.size a := fun v468 v469 k0_hw55 => k0_hw55

def k0_chk56 (v468 : IVec S16 32) (v472 : IVec S16 32) : Prop :=
  (∀ a x, ((![v472, v468] : Fin 2 → IVec S16 32) a x).toNat < S2x20000.size a)
theorem k0_idx56_inb : ∀ (v468 : IVec S16 32) (v472 : IVec S16 32) (k0_hw56 : k0_chk56 v468 v472), ∀ a x, ((![v472, v468] : Fin 2 → IVec S16 32) a x).toNat < S2x20000.size a := fun v468 v472 k0_hw56 => k0_hw56
def k0_off42 (k0_t2 : Fin k0_t2_loop.trips) : Fin 2 → Nat :=
  let c28_i32 : BitVec 32 := 28#32
  let v475 : Index := Scalar.indexCast c28_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v476 : Index := Scalar.indexCast v214
  ![28, v476.toNat]

def k0_chk57 (v477 : IVec S16 32) (v478 : IVec S16 32) : Prop :=
  (∀ a x, ((![v478, v477] : Fin 2 → IVec S16 32) a x).toNat < S2x20000.size a)
theorem k0_idx57_inb : ∀ (v477 : IVec S16 32) (v478 : IVec S16 32) (k0_hw57 : k0_chk57 v477 v478), ∀ a x, ((![v478, v477] : Fin 2 → IVec S16 32) a x).toNat < S2x20000.size a := fun v477 v478 k0_hw57 => k0_hw57

def k0_chk58 (v477 : IVec S16 32) (v481 : IVec S16 32) : Prop :=
  (∀ a x, ((![v481, v477] : Fin 2 → IVec S16 32) a x).toNat < S2x20000.size a)
theorem k0_idx58_inb : ∀ (v477 : IVec S16 32) (v481 : IVec S16 32) (k0_hw58 : k0_chk58 v477 v481), ∀ a x, ((![v481, v477] : Fin 2 → IVec S16 32) a x).toNat < S2x20000.size a := fun v477 v481 k0_hw58 => k0_hw58
def k0_off43 (k0_t2 : Fin k0_t2_loop.trips) : Fin 2 → Nat :=
  let c29_i32 : BitVec 32 := 29#32
  let v484 : Index := Scalar.indexCast c29_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v485 : Index := Scalar.indexCast v214
  ![29, v485.toNat]

def k0_chk59 (v486 : IVec S16 32) (v487 : IVec S16 32) : Prop :=
  (∀ a x, ((![v487, v486] : Fin 2 → IVec S16 32) a x).toNat < S2x20000.size a)
theorem k0_idx59_inb : ∀ (v486 : IVec S16 32) (v487 : IVec S16 32) (k0_hw59 : k0_chk59 v486 v487), ∀ a x, ((![v487, v486] : Fin 2 → IVec S16 32) a x).toNat < S2x20000.size a := fun v486 v487 k0_hw59 => k0_hw59

def k0_chk60 (v486 : IVec S16 32) (v490 : IVec S16 32) : Prop :=
  (∀ a x, ((![v490, v486] : Fin 2 → IVec S16 32) a x).toNat < S2x20000.size a)
theorem k0_idx60_inb : ∀ (v486 : IVec S16 32) (v490 : IVec S16 32) (k0_hw60 : k0_chk60 v486 v490), ∀ a x, ((![v490, v486] : Fin 2 → IVec S16 32) a x).toNat < S2x20000.size a := fun v486 v490 k0_hw60 => k0_hw60
def k0_off44 (k0_t2 : Fin k0_t2_loop.trips) : Fin 2 → Nat :=
  let c30_i32_300 : BitVec 32 := 30#32
  let v493 : Index := Scalar.indexCast c30_i32_300
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v494 : Index := Scalar.indexCast v214
  ![30, v494.toNat]

def k0_chk61 (v495 : IVec S16 32) (v496 : IVec S16 32) : Prop :=
  (∀ a x, ((![v496, v495] : Fin 2 → IVec S16 32) a x).toNat < S2x20000.size a)
theorem k0_idx61_inb : ∀ (v495 : IVec S16 32) (v496 : IVec S16 32) (k0_hw61 : k0_chk61 v495 v496), ∀ a x, ((![v496, v495] : Fin 2 → IVec S16 32) a x).toNat < S2x20000.size a := fun v495 v496 k0_hw61 => k0_hw61

def k0_chk62 (v495 : IVec S16 32) (v499 : IVec S16 32) : Prop :=
  (∀ a x, ((![v499, v495] : Fin 2 → IVec S16 32) a x).toNat < S2x20000.size a)
theorem k0_idx62_inb : ∀ (v495 : IVec S16 32) (v499 : IVec S16 32) (k0_hw62 : k0_chk62 v495 v499), ∀ a x, ((![v499, v495] : Fin 2 → IVec S16 32) a x).toNat < S2x20000.size a := fun v495 v499 k0_hw62 => k0_hw62
def k0_off45 (k0_t2 : Fin k0_t2_loop.trips) : Fin 2 → Nat :=
  let c31_i32 : BitVec 32 := 31#32
  let v502 : Index := Scalar.indexCast c31_i32
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v503 : Index := Scalar.indexCast v214
  ![31, v503.toNat]

def k0_chk63 (v504 : IVec S16 32) (v505 : IVec S16 32) : Prop :=
  (∀ a x, ((![v505, v504] : Fin 2 → IVec S16 32) a x).toNat < S2x20000.size a)
theorem k0_idx63_inb : ∀ (v504 : IVec S16 32) (v505 : IVec S16 32) (k0_hw63 : k0_chk63 v504 v505), ∀ a x, ((![v505, v504] : Fin 2 → IVec S16 32) a x).toNat < S2x20000.size a := fun v504 v505 k0_hw63 => k0_hw63

def k0_chk64 (v504 : IVec S16 32) (v508 : IVec S16 32) : Prop :=
  (∀ a x, ((![v508, v504] : Fin 2 → IVec S16 32) a x).toNat < S2x20000.size a)
theorem k0_idx64_inb : ∀ (v504 : IVec S16 32) (v508 : IVec S16 32) (k0_hw64 : k0_chk64 v504 v508), ∀ a x, ((![v508, v504] : Fin 2 → IVec S16 32) a x).toNat < S2x20000.size a := fun v504 v508 k0_hw64 => k0_hw64
def k0_off46 (k0_t1 : Fin k0_t1_loop.trips) (k0_t2 : Fin k0_t2_loop.trips) : Fin 2 → Nat :=
  let c0_i32_305 : BitVec 32 := 0#32
  let v518 : Index := Scalar.indexCast c0_i32_305
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let c0_i32_118 : BitVec 32 := 0#32
  let v122 : BitVec 32 := Scalar.addi v121 c0_i32_118
  let c640_i32_119 : BitVec 32 := 640#32
  let v123 : BitVec 32 := Scalar.muli v122 c640_i32_119
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v517 : BitVec 32 := Scalar.addi v123 v214
  let v519 : Index := Scalar.indexCast v517
  ![0, v519.toNat]
def k0_off47 (k0_t1 : Fin k0_t1_loop.trips) (k0_t2 : Fin k0_t2_loop.trips) : Fin 2 → Nat :=
  let c1_i32_306 : BitVec 32 := 1#32
  let v522 : Index := Scalar.indexCast c1_i32_306
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let c0_i32_118 : BitVec 32 := 0#32
  let v122 : BitVec 32 := Scalar.addi v121 c0_i32_118
  let c640_i32_119 : BitVec 32 := 640#32
  let v123 : BitVec 32 := Scalar.muli v122 c640_i32_119
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v521 : BitVec 32 := Scalar.addi v123 v214
  let v523 : Index := Scalar.indexCast v521
  ![1, v523.toNat]
def k0_off48 (k0_t2 : Fin k0_t2_loop.trips) : Fin 2 → Nat :=
  let c0_i32_307 : BitVec 32 := 0#32
  let v536 : Index := Scalar.indexCast c0_i32_307
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v537 : Index := Scalar.indexCast v214
  ![0, v537.toNat]
def k0_off49 (k0_t2 : Fin k0_t2_loop.trips) : Fin 2 → Nat :=
  let c1_i32_308 : BitVec 32 := 1#32
  let v541 : Index := Scalar.indexCast c1_i32_308
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v542 : Index := Scalar.indexCast v214
  ![1, v542.toNat]
def k0_off50 (k0_t2 : Fin k0_t2_loop.trips) : Fin 1 → Nat :=
  let c0_i32_164 : BitVec 32 := 0#32
  let c1_i32_165 : BitVec 32 := 1#32
  let arg32 : BitVec 32 := Scf.iv c0_i32_164 c1_i32_165 k0_t2
  let c16_i32_224 : BitVec 32 := 16#32
  let v214 : BitVec 32 := Scalar.muli arg32 c16_i32_224
  let v551 : Index := Scalar.indexCast v214
  ![v551.toNat]
def k0_off51 (i : grid0.Coords) (k0_t1 : Fin k0_t1_loop.trips) (c0_i32_118 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v16 : BitVec 32 := Scalar.muli v1 c20000_i32
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let v122 : BitVec 32 := Scalar.addi v121 c0_i32_118
  let c640_i32_119 : BitVec 32 := 640#32
  let v123 : BitVec 32 := Scalar.muli v122 c640_i32_119
  let v156 : BitVec 32 := Scalar.addi v16 v123
  ![v156.toNat]
def k0_cond2 (k0_t1 : Fin k0_t1_loop.trips) : BitVec 1 :=
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let c0_i32_118 : BitVec 32 := 0#32
  let v122 : BitVec 32 := Scalar.addi v121 c0_i32_118
  let c2_i32_167 : BitVec 32 := 2#32
  let v162 : BitVec 32 := Scalar.addi v122 c2_i32_167
  let c30_i32 : BitVec 32 := 30#32
  let v163 : BitVec 1 := Scalar.cmpi .slt v162 c30_i32
  let v164 : BitVec 32 := Scalar.extui v163
  let c0_i32_168 : BitVec 32 := 0#32
  let v165 : BitVec 1 := Scalar.cmpi .ne v164 c0_i32_168
  v165

def k0_off52 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_228 : BitVec 32 := 0#32
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let c0_i32_118 : BitVec 32 := 0#32
  let v122 : BitVec 32 := Scalar.addi v121 c0_i32_118
  let c2_i32_224 : BitVec 32 := 2#32
  let v214 : BitVec 32 := Scalar.addi v122 c2_i32_224
  let c640_i32_225 : BitVec 32 := 640#32
  let v215 : BitVec 32 := Scalar.muli v214 c640_i32_225
  ![v1.toNat, 0, v215.toNat]
def k0_off53 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_234 : BitVec 32 := 8#32
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let c0_i32_118 : BitVec 32 := 0#32
  let v122 : BitVec 32 := Scalar.addi v121 c0_i32_118
  let c2_i32_224 : BitVec 32 := 2#32
  let v214 : BitVec 32 := Scalar.addi v122 c2_i32_224
  let c640_i32_225 : BitVec 32 := 640#32
  let v215 : BitVec 32 := Scalar.muli v214 c640_i32_225
  ![v1.toNat, 8, v215.toNat]
def k0_off54 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_240 : BitVec 32 := 16#32
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let c0_i32_118 : BitVec 32 := 0#32
  let v122 : BitVec 32 := Scalar.addi v121 c0_i32_118
  let c2_i32_224 : BitVec 32 := 2#32
  let v214 : BitVec 32 := Scalar.addi v122 c2_i32_224
  let c640_i32_225 : BitVec 32 := 640#32
  let v215 : BitVec 32 := Scalar.muli v214 c640_i32_225
  ![v1.toNat, 16, v215.toNat]
def k0_off55 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_246 : BitVec 32 := 24#32
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let c0_i32_118 : BitVec 32 := 0#32
  let v122 : BitVec 32 := Scalar.addi v121 c0_i32_118
  let c2_i32_224 : BitVec 32 := 2#32
  let v214 : BitVec 32 := Scalar.addi v122 c2_i32_224
  let c640_i32_225 : BitVec 32 := 640#32
  let v215 : BitVec 32 := Scalar.muli v214 c640_i32_225
  ![v1.toNat, 24, v215.toNat]
def k0_off56 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_250 : BitVec 32 := 0#32
  let c2_i32_117 : BitVec 32 := 2#32
  let c0_i32_69 : BitVec 32 := 0#32
  let c1_i32 : BitVec 32 := 1#32
  let arg31 : BitVec 32 := Scf.iv c0_i32_69 c1_i32 k0_t1
  let v121 : BitVec 32 := Scalar.muli c2_i32_117 arg31
  let c0_i32_118 : BitVec 32 := 0#32
  let v122 : BitVec 32 := Scalar.addi v121 c0_i32_118
  let c2_i32_224 : BitVec 32 := 2#32
  let v214 : BitVec 32 := Scalar.addi v122 c2_i32_224
  let c640_i32_225 : BitVec 32 := 640#32
  let v215 : BitVec 32 := Scalar.muli v214 c640_i32_225
  ![v1.toNat, 0, v215.toNat]
def k0_cond3 (k0_t1 : Fin k0_t1_loop.trips) : BitVec 1 :=
  let c0_i32_69 : BitVec 32 := 0#32
  let c1_i32 : BitVec 32 := 1#32
  let arg31 : BitVec 32 := Scf.iv c0_i32_69 c1_i32 k0_t1
  let c14_i32 : BitVec 32 := 14#32
  let v166 : BitVec 1 := Scalar.cmpi .eq arg31 c14_i32
  let v167 : BitVec 32 := Scalar.extui v166
  let c0_i32_169 : BitVec 32 := 0#32
  let v168 : BitVec 1 := Scalar.cmpi .ne v167 c0_i32_169
  v168

def k0_off57 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_226 : BitVec 32 := 0#32
  let c19200_i32_227 : BitVec 32 := 19200#32
  ![v1.toNat, 0, 19200]
def k0_off58 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_234 : BitVec 32 := 8#32
  let c19200_i32_235 : BitVec 32 := 19200#32
  ![v1.toNat, 8, 19200]
def k0_off59 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_242 : BitVec 32 := 16#32
  let c19200_i32_243 : BitVec 32 := 19200#32
  ![v1.toNat, 16, 19200]
def k0_off60 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_250 : BitVec 32 := 24#32
  let c19200_i32_251 : BitVec 32 := 19200#32
  ![v1.toNat, 24, 19200]
def k0_off61 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_256 : BitVec 32 := 0#32
  let c19200_i32_257 : BitVec 32 := 19200#32
  ![v1.toNat, 0, 19200]
def k0_cond4 (k0_t1 : Fin k0_t1_loop.trips) : BitVec 1 :=
  let c0_i32_69 : BitVec 32 := 0#32
  let c1_i32 : BitVec 32 := 1#32
  let arg31 : BitVec 32 := Scf.iv c0_i32_69 c1_i32 k0_t1
  let c0_i32_214 : BitVec 32 := 0#32
  let v200 : BitVec 1 := Scalar.cmpi .sgt arg31 c0_i32_214
  let v201 : BitVec 32 := Scalar.extui v200
  let c0_i32_215 : BitVec 32 := 0#32
  let v202 : BitVec 1 := Scalar.cmpi .ne v201 c0_i32_215
  v202

def k0_off62 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v16 : BitVec 32 := Scalar.muli v1 c20000_i32
  ![v16.toNat]
@[reducible] def k0_t3_loop : Scf.Loop 32 :=
  let c0_i32_217 : BitVec 32 := 0#32
  let c40_i32_218 : BitVec 32 := 40#32
  let v203 : BitVec 32 := Scalar.addi c0_i32_217 c40_i32_218
  let c1_i32_219 : BitVec 32 := 1#32
  ⟨c0_i32_217, v203, c1_i32_219⟩
def k0_off63 (k0_t3 : Fin k0_t3_loop.trips) : Fin 2 → Nat :=
  let c0_i32_232 : BitVec 32 := 0#32
  let v223 : Index := Scalar.indexCast c0_i32_232
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v224 : Index := Scalar.indexCast v214
  ![0, v224.toNat]

def k0_chk65 (v225 : IVec S16 32) (v226 : IVec S16 32) : Prop :=
  (∀ a x, ((![v226, v225] : Fin 2 → IVec S16 32) a x).toNat < S2x20000.size a)
theorem k0_idx65_inb : ∀ (v225 : IVec S16 32) (v226 : IVec S16 32) (k0_hw65 : k0_chk65 v225 v226), ∀ a x, ((![v226, v225] : Fin 2 → IVec S16 32) a x).toNat < S2x20000.size a := fun v225 v226 k0_hw65 => k0_hw65

def k0_chk66 (v225 : IVec S16 32) (v229 : IVec S16 32) : Prop :=
  (∀ a x, ((![v229, v225] : Fin 2 → IVec S16 32) a x).toNat < S2x20000.size a)
theorem k0_idx66_inb : ∀ (v225 : IVec S16 32) (v229 : IVec S16 32) (k0_hw66 : k0_chk66 v225 v229), ∀ a x, ((![v229, v225] : Fin 2 → IVec S16 32) a x).toNat < S2x20000.size a := fun v225 v229 k0_hw66 => k0_hw66
def k0_off64 (k0_t3 : Fin k0_t3_loop.trips) : Fin 2 → Nat :=
  let c1_i32_235 : BitVec 32 := 1#32
  let v232 : Index := Scalar.indexCast c1_i32_235
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v233 : Index := Scalar.indexCast v214
  ![1, v233.toNat]

def k0_chk67 (v234 : IVec S16 32) (v235 : IVec S16 32) : Prop :=
  (∀ a x, ((![v235, v234] : Fin 2 → IVec S16 32) a x).toNat < S2x20000.size a)
theorem k0_idx67_inb : ∀ (v234 : IVec S16 32) (v235 : IVec S16 32) (k0_hw67 : k0_chk67 v234 v235), ∀ a x, ((![v235, v234] : Fin 2 → IVec S16 32) a x).toNat < S2x20000.size a := fun v234 v235 k0_hw67 => k0_hw67

def k0_chk68 (v234 : IVec S16 32) (v238 : IVec S16 32) : Prop :=
  (∀ a x, ((![v238, v234] : Fin 2 → IVec S16 32) a x).toNat < S2x20000.size a)
theorem k0_idx68_inb : ∀ (v234 : IVec S16 32) (v238 : IVec S16 32) (k0_hw68 : k0_chk68 v234 v238), ∀ a x, ((![v238, v234] : Fin 2 → IVec S16 32) a x).toNat < S2x20000.size a := fun v234 v238 k0_hw68 => k0_hw68
def k0_off65 (k0_t3 : Fin k0_t3_loop.trips) : Fin 2 → Nat :=
  let c2_i32_238 : BitVec 32 := 2#32
  let v241 : Index := Scalar.indexCast c2_i32_238
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v242 : Index := Scalar.indexCast v214
  ![2, v242.toNat]

def k0_chk69 (v243 : IVec S16 32) (v244 : IVec S16 32) : Prop :=
  (∀ a x, ((![v244, v243] : Fin 2 → IVec S16 32) a x).toNat < S2x20000.size a)
theorem k0_idx69_inb : ∀ (v243 : IVec S16 32) (v244 : IVec S16 32) (k0_hw69 : k0_chk69 v243 v244), ∀ a x, ((![v244, v243] : Fin 2 → IVec S16 32) a x).toNat < S2x20000.size a := fun v243 v244 k0_hw69 => k0_hw69

def k0_chk70 (v243 : IVec S16 32) (v247 : IVec S16 32) : Prop :=
  (∀ a x, ((![v247, v243] : Fin 2 → IVec S16 32) a x).toNat < S2x20000.size a)
theorem k0_idx70_inb : ∀ (v243 : IVec S16 32) (v247 : IVec S16 32) (k0_hw70 : k0_chk70 v243 v247), ∀ a x, ((![v247, v243] : Fin 2 → IVec S16 32) a x).toNat < S2x20000.size a := fun v243 v247 k0_hw70 => k0_hw70
def k0_off66 (k0_t3 : Fin k0_t3_loop.trips) : Fin 2 → Nat :=
  let c3_i32 : BitVec 32 := 3#32
  let v250 : Index := Scalar.indexCast c3_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v251 : Index := Scalar.indexCast v214
  ![3, v251.toNat]

def k0_chk71 (v252 : IVec S16 32) (v253 : IVec S16 32) : Prop :=
  (∀ a x, ((![v253, v252] : Fin 2 → IVec S16 32) a x).toNat < S2x20000.size a)
theorem k0_idx71_inb : ∀ (v252 : IVec S16 32) (v253 : IVec S16 32) (k0_hw71 : k0_chk71 v252 v253), ∀ a x, ((![v253, v252] : Fin 2 → IVec S16 32) a x).toNat < S2x20000.size a := fun v252 v253 k0_hw71 => k0_hw71

def k0_chk72 (v252 : IVec S16 32) (v256 : IVec S16 32) : Prop :=
  (∀ a x, ((![v256, v252] : Fin 2 → IVec S16 32) a x).toNat < S2x20000.size a)
theorem k0_idx72_inb : ∀ (v252 : IVec S16 32) (v256 : IVec S16 32) (k0_hw72 : k0_chk72 v252 v256), ∀ a x, ((![v256, v252] : Fin 2 → IVec S16 32) a x).toNat < S2x20000.size a := fun v252 v256 k0_hw72 => k0_hw72
def k0_off67 (k0_t3 : Fin k0_t3_loop.trips) : Fin 2 → Nat :=
  let c4_i32 : BitVec 32 := 4#32
  let v259 : Index := Scalar.indexCast c4_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v260 : Index := Scalar.indexCast v214
  ![4, v260.toNat]

def k0_chk73 (v261 : IVec S16 32) (v262 : IVec S16 32) : Prop :=
  (∀ a x, ((![v262, v261] : Fin 2 → IVec S16 32) a x).toNat < S2x20000.size a)
theorem k0_idx73_inb : ∀ (v261 : IVec S16 32) (v262 : IVec S16 32) (k0_hw73 : k0_chk73 v261 v262), ∀ a x, ((![v262, v261] : Fin 2 → IVec S16 32) a x).toNat < S2x20000.size a := fun v261 v262 k0_hw73 => k0_hw73

def k0_chk74 (v261 : IVec S16 32) (v265 : IVec S16 32) : Prop :=
  (∀ a x, ((![v265, v261] : Fin 2 → IVec S16 32) a x).toNat < S2x20000.size a)
theorem k0_idx74_inb : ∀ (v261 : IVec S16 32) (v265 : IVec S16 32) (k0_hw74 : k0_chk74 v261 v265), ∀ a x, ((![v265, v261] : Fin 2 → IVec S16 32) a x).toNat < S2x20000.size a := fun v261 v265 k0_hw74 => k0_hw74
def k0_off68 (k0_t3 : Fin k0_t3_loop.trips) : Fin 2 → Nat :=
  let c5_i32 : BitVec 32 := 5#32
  let v268 : Index := Scalar.indexCast c5_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v269 : Index := Scalar.indexCast v214
  ![5, v269.toNat]

def k0_chk75 (v270 : IVec S16 32) (v271 : IVec S16 32) : Prop :=
  (∀ a x, ((![v271, v270] : Fin 2 → IVec S16 32) a x).toNat < S2x20000.size a)
theorem k0_idx75_inb : ∀ (v270 : IVec S16 32) (v271 : IVec S16 32) (k0_hw75 : k0_chk75 v270 v271), ∀ a x, ((![v271, v270] : Fin 2 → IVec S16 32) a x).toNat < S2x20000.size a := fun v270 v271 k0_hw75 => k0_hw75

def k0_chk76 (v270 : IVec S16 32) (v274 : IVec S16 32) : Prop :=
  (∀ a x, ((![v274, v270] : Fin 2 → IVec S16 32) a x).toNat < S2x20000.size a)
theorem k0_idx76_inb : ∀ (v270 : IVec S16 32) (v274 : IVec S16 32) (k0_hw76 : k0_chk76 v270 v274), ∀ a x, ((![v274, v270] : Fin 2 → IVec S16 32) a x).toNat < S2x20000.size a := fun v270 v274 k0_hw76 => k0_hw76
def k0_off69 (k0_t3 : Fin k0_t3_loop.trips) : Fin 2 → Nat :=
  let c6_i32 : BitVec 32 := 6#32
  let v277 : Index := Scalar.indexCast c6_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v278 : Index := Scalar.indexCast v214
  ![6, v278.toNat]

def k0_chk77 (v279 : IVec S16 32) (v280 : IVec S16 32) : Prop :=
  (∀ a x, ((![v280, v279] : Fin 2 → IVec S16 32) a x).toNat < S2x20000.size a)
theorem k0_idx77_inb : ∀ (v279 : IVec S16 32) (v280 : IVec S16 32) (k0_hw77 : k0_chk77 v279 v280), ∀ a x, ((![v280, v279] : Fin 2 → IVec S16 32) a x).toNat < S2x20000.size a := fun v279 v280 k0_hw77 => k0_hw77

def k0_chk78 (v279 : IVec S16 32) (v283 : IVec S16 32) : Prop :=
  (∀ a x, ((![v283, v279] : Fin 2 → IVec S16 32) a x).toNat < S2x20000.size a)
theorem k0_idx78_inb : ∀ (v279 : IVec S16 32) (v283 : IVec S16 32) (k0_hw78 : k0_chk78 v279 v283), ∀ a x, ((![v283, v279] : Fin 2 → IVec S16 32) a x).toNat < S2x20000.size a := fun v279 v283 k0_hw78 => k0_hw78
def k0_off70 (k0_t3 : Fin k0_t3_loop.trips) : Fin 2 → Nat :=
  let c7_i32 : BitVec 32 := 7#32
  let v286 : Index := Scalar.indexCast c7_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v287 : Index := Scalar.indexCast v214
  ![7, v287.toNat]

def k0_chk79 (v288 : IVec S16 32) (v289 : IVec S16 32) : Prop :=
  (∀ a x, ((![v289, v288] : Fin 2 → IVec S16 32) a x).toNat < S2x20000.size a)
theorem k0_idx79_inb : ∀ (v288 : IVec S16 32) (v289 : IVec S16 32) (k0_hw79 : k0_chk79 v288 v289), ∀ a x, ((![v289, v288] : Fin 2 → IVec S16 32) a x).toNat < S2x20000.size a := fun v288 v289 k0_hw79 => k0_hw79

def k0_chk80 (v288 : IVec S16 32) (v292 : IVec S16 32) : Prop :=
  (∀ a x, ((![v292, v288] : Fin 2 → IVec S16 32) a x).toNat < S2x20000.size a)
theorem k0_idx80_inb : ∀ (v288 : IVec S16 32) (v292 : IVec S16 32) (k0_hw80 : k0_chk80 v288 v292), ∀ a x, ((![v292, v288] : Fin 2 → IVec S16 32) a x).toNat < S2x20000.size a := fun v288 v292 k0_hw80 => k0_hw80
def k0_off71 (k0_t3 : Fin k0_t3_loop.trips) : Fin 2 → Nat :=
  let c8_i32_251 : BitVec 32 := 8#32
  let v295 : Index := Scalar.indexCast c8_i32_251
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v296 : Index := Scalar.indexCast v214
  ![8, v296.toNat]

def k0_chk81 (v297 : IVec S16 32) (v298 : IVec S16 32) : Prop :=
  (∀ a x, ((![v298, v297] : Fin 2 → IVec S16 32) a x).toNat < S2x20000.size a)
theorem k0_idx81_inb : ∀ (v297 : IVec S16 32) (v298 : IVec S16 32) (k0_hw81 : k0_chk81 v297 v298), ∀ a x, ((![v298, v297] : Fin 2 → IVec S16 32) a x).toNat < S2x20000.size a := fun v297 v298 k0_hw81 => k0_hw81

def k0_chk82 (v297 : IVec S16 32) (v301 : IVec S16 32) : Prop :=
  (∀ a x, ((![v301, v297] : Fin 2 → IVec S16 32) a x).toNat < S2x20000.size a)
theorem k0_idx82_inb : ∀ (v297 : IVec S16 32) (v301 : IVec S16 32) (k0_hw82 : k0_chk82 v297 v301), ∀ a x, ((![v301, v297] : Fin 2 → IVec S16 32) a x).toNat < S2x20000.size a := fun v297 v301 k0_hw82 => k0_hw82
def k0_off72 (k0_t3 : Fin k0_t3_loop.trips) : Fin 2 → Nat :=
  let c9_i32 : BitVec 32 := 9#32
  let v304 : Index := Scalar.indexCast c9_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v305 : Index := Scalar.indexCast v214
  ![9, v305.toNat]

def k0_chk83 (v306 : IVec S16 32) (v307 : IVec S16 32) : Prop :=
  (∀ a x, ((![v307, v306] : Fin 2 → IVec S16 32) a x).toNat < S2x20000.size a)
theorem k0_idx83_inb : ∀ (v306 : IVec S16 32) (v307 : IVec S16 32) (k0_hw83 : k0_chk83 v306 v307), ∀ a x, ((![v307, v306] : Fin 2 → IVec S16 32) a x).toNat < S2x20000.size a := fun v306 v307 k0_hw83 => k0_hw83

def k0_chk84 (v306 : IVec S16 32) (v310 : IVec S16 32) : Prop :=
  (∀ a x, ((![v310, v306] : Fin 2 → IVec S16 32) a x).toNat < S2x20000.size a)
theorem k0_idx84_inb : ∀ (v306 : IVec S16 32) (v310 : IVec S16 32) (k0_hw84 : k0_chk84 v306 v310), ∀ a x, ((![v310, v306] : Fin 2 → IVec S16 32) a x).toNat < S2x20000.size a := fun v306 v310 k0_hw84 => k0_hw84
def k0_off73 (k0_t3 : Fin k0_t3_loop.trips) : Fin 2 → Nat :=
  let c10_i32 : BitVec 32 := 10#32
  let v313 : Index := Scalar.indexCast c10_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v314 : Index := Scalar.indexCast v214
  ![10, v314.toNat]

def k0_chk85 (v315 : IVec S16 32) (v316 : IVec S16 32) : Prop :=
  (∀ a x, ((![v316, v315] : Fin 2 → IVec S16 32) a x).toNat < S2x20000.size a)
theorem k0_idx85_inb : ∀ (v315 : IVec S16 32) (v316 : IVec S16 32) (k0_hw85 : k0_chk85 v315 v316), ∀ a x, ((![v316, v315] : Fin 2 → IVec S16 32) a x).toNat < S2x20000.size a := fun v315 v316 k0_hw85 => k0_hw85

def k0_chk86 (v315 : IVec S16 32) (v319 : IVec S16 32) : Prop :=
  (∀ a x, ((![v319, v315] : Fin 2 → IVec S16 32) a x).toNat < S2x20000.size a)
theorem k0_idx86_inb : ∀ (v315 : IVec S16 32) (v319 : IVec S16 32) (k0_hw86 : k0_chk86 v315 v319), ∀ a x, ((![v319, v315] : Fin 2 → IVec S16 32) a x).toNat < S2x20000.size a := fun v315 v319 k0_hw86 => k0_hw86
def k0_off74 (k0_t3 : Fin k0_t3_loop.trips) : Fin 2 → Nat :=
  let c11_i32 : BitVec 32 := 11#32
  let v322 : Index := Scalar.indexCast c11_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v323 : Index := Scalar.indexCast v214
  ![11, v323.toNat]

def k0_chk87 (v324 : IVec S16 32) (v325 : IVec S16 32) : Prop :=
  (∀ a x, ((![v325, v324] : Fin 2 → IVec S16 32) a x).toNat < S2x20000.size a)
theorem k0_idx87_inb : ∀ (v324 : IVec S16 32) (v325 : IVec S16 32) (k0_hw87 : k0_chk87 v324 v325), ∀ a x, ((![v325, v324] : Fin 2 → IVec S16 32) a x).toNat < S2x20000.size a := fun v324 v325 k0_hw87 => k0_hw87

def k0_chk88 (v324 : IVec S16 32) (v328 : IVec S16 32) : Prop :=
  (∀ a x, ((![v328, v324] : Fin 2 → IVec S16 32) a x).toNat < S2x20000.size a)
theorem k0_idx88_inb : ∀ (v324 : IVec S16 32) (v328 : IVec S16 32) (k0_hw88 : k0_chk88 v324 v328), ∀ a x, ((![v328, v324] : Fin 2 → IVec S16 32) a x).toNat < S2x20000.size a := fun v324 v328 k0_hw88 => k0_hw88
def k0_off75 (k0_t3 : Fin k0_t3_loop.trips) : Fin 2 → Nat :=
  let c12_i32 : BitVec 32 := 12#32
  let v331 : Index := Scalar.indexCast c12_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v332 : Index := Scalar.indexCast v214
  ![12, v332.toNat]

def k0_chk89 (v333 : IVec S16 32) (v334 : IVec S16 32) : Prop :=
  (∀ a x, ((![v334, v333] : Fin 2 → IVec S16 32) a x).toNat < S2x20000.size a)
theorem k0_idx89_inb : ∀ (v333 : IVec S16 32) (v334 : IVec S16 32) (k0_hw89 : k0_chk89 v333 v334), ∀ a x, ((![v334, v333] : Fin 2 → IVec S16 32) a x).toNat < S2x20000.size a := fun v333 v334 k0_hw89 => k0_hw89

def k0_chk90 (v333 : IVec S16 32) (v337 : IVec S16 32) : Prop :=
  (∀ a x, ((![v337, v333] : Fin 2 → IVec S16 32) a x).toNat < S2x20000.size a)
theorem k0_idx90_inb : ∀ (v333 : IVec S16 32) (v337 : IVec S16 32) (k0_hw90 : k0_chk90 v333 v337), ∀ a x, ((![v337, v333] : Fin 2 → IVec S16 32) a x).toNat < S2x20000.size a := fun v333 v337 k0_hw90 => k0_hw90
def k0_off76 (k0_t3 : Fin k0_t3_loop.trips) : Fin 2 → Nat :=
  let c13_i32 : BitVec 32 := 13#32
  let v340 : Index := Scalar.indexCast c13_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v341 : Index := Scalar.indexCast v214
  ![13, v341.toNat]

def k0_chk91 (v342 : IVec S16 32) (v343 : IVec S16 32) : Prop :=
  (∀ a x, ((![v343, v342] : Fin 2 → IVec S16 32) a x).toNat < S2x20000.size a)
theorem k0_idx91_inb : ∀ (v342 : IVec S16 32) (v343 : IVec S16 32) (k0_hw91 : k0_chk91 v342 v343), ∀ a x, ((![v343, v342] : Fin 2 → IVec S16 32) a x).toNat < S2x20000.size a := fun v342 v343 k0_hw91 => k0_hw91

def k0_chk92 (v342 : IVec S16 32) (v346 : IVec S16 32) : Prop :=
  (∀ a x, ((![v346, v342] : Fin 2 → IVec S16 32) a x).toNat < S2x20000.size a)
theorem k0_idx92_inb : ∀ (v342 : IVec S16 32) (v346 : IVec S16 32) (k0_hw92 : k0_chk92 v342 v346), ∀ a x, ((![v346, v342] : Fin 2 → IVec S16 32) a x).toNat < S2x20000.size a := fun v342 v346 k0_hw92 => k0_hw92
def k0_off77 (k0_t3 : Fin k0_t3_loop.trips) : Fin 2 → Nat :=
  let c14_i32_264 : BitVec 32 := 14#32
  let v349 : Index := Scalar.indexCast c14_i32_264
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v350 : Index := Scalar.indexCast v214
  ![14, v350.toNat]

def k0_chk93 (v351 : IVec S16 32) (v352 : IVec S16 32) : Prop :=
  (∀ a x, ((![v352, v351] : Fin 2 → IVec S16 32) a x).toNat < S2x20000.size a)
theorem k0_idx93_inb : ∀ (v351 : IVec S16 32) (v352 : IVec S16 32) (k0_hw93 : k0_chk93 v351 v352), ∀ a x, ((![v352, v351] : Fin 2 → IVec S16 32) a x).toNat < S2x20000.size a := fun v351 v352 k0_hw93 => k0_hw93

def k0_chk94 (v351 : IVec S16 32) (v355 : IVec S16 32) : Prop :=
  (∀ a x, ((![v355, v351] : Fin 2 → IVec S16 32) a x).toNat < S2x20000.size a)
theorem k0_idx94_inb : ∀ (v351 : IVec S16 32) (v355 : IVec S16 32) (k0_hw94 : k0_chk94 v351 v355), ∀ a x, ((![v355, v351] : Fin 2 → IVec S16 32) a x).toNat < S2x20000.size a := fun v351 v355 k0_hw94 => k0_hw94
def k0_off78 (k0_t3 : Fin k0_t3_loop.trips) : Fin 2 → Nat :=
  let c15_i32_267 : BitVec 32 := 15#32
  let v358 : Index := Scalar.indexCast c15_i32_267
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v359 : Index := Scalar.indexCast v214
  ![15, v359.toNat]

def k0_chk95 (v360 : IVec S16 32) (v361 : IVec S16 32) : Prop :=
  (∀ a x, ((![v361, v360] : Fin 2 → IVec S16 32) a x).toNat < S2x20000.size a)
theorem k0_idx95_inb : ∀ (v360 : IVec S16 32) (v361 : IVec S16 32) (k0_hw95 : k0_chk95 v360 v361), ∀ a x, ((![v361, v360] : Fin 2 → IVec S16 32) a x).toNat < S2x20000.size a := fun v360 v361 k0_hw95 => k0_hw95

def k0_chk96 (v360 : IVec S16 32) (v364 : IVec S16 32) : Prop :=
  (∀ a x, ((![v364, v360] : Fin 2 → IVec S16 32) a x).toNat < S2x20000.size a)
theorem k0_idx96_inb : ∀ (v360 : IVec S16 32) (v364 : IVec S16 32) (k0_hw96 : k0_chk96 v360 v364), ∀ a x, ((![v364, v360] : Fin 2 → IVec S16 32) a x).toNat < S2x20000.size a := fun v360 v364 k0_hw96 => k0_hw96
def k0_off79 (k0_t3 : Fin k0_t3_loop.trips) : Fin 2 → Nat :=
  let c16_i32_270 : BitVec 32 := 16#32
  let v367 : Index := Scalar.indexCast c16_i32_270
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v368 : Index := Scalar.indexCast v214
  ![16, v368.toNat]

def k0_chk97 (v369 : IVec S16 32) (v370 : IVec S16 32) : Prop :=
  (∀ a x, ((![v370, v369] : Fin 2 → IVec S16 32) a x).toNat < S2x20000.size a)
theorem k0_idx97_inb : ∀ (v369 : IVec S16 32) (v370 : IVec S16 32) (k0_hw97 : k0_chk97 v369 v370), ∀ a x, ((![v370, v369] : Fin 2 → IVec S16 32) a x).toNat < S2x20000.size a := fun v369 v370 k0_hw97 => k0_hw97

def k0_chk98 (v369 : IVec S16 32) (v373 : IVec S16 32) : Prop :=
  (∀ a x, ((![v373, v369] : Fin 2 → IVec S16 32) a x).toNat < S2x20000.size a)
theorem k0_idx98_inb : ∀ (v369 : IVec S16 32) (v373 : IVec S16 32) (k0_hw98 : k0_chk98 v369 v373), ∀ a x, ((![v373, v369] : Fin 2 → IVec S16 32) a x).toNat < S2x20000.size a := fun v369 v373 k0_hw98 => k0_hw98
def k0_off80 (k0_t3 : Fin k0_t3_loop.trips) : Fin 2 → Nat :=
  let c17_i32 : BitVec 32 := 17#32
  let v376 : Index := Scalar.indexCast c17_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v377 : Index := Scalar.indexCast v214
  ![17, v377.toNat]

def k0_chk99 (v378 : IVec S16 32) (v379 : IVec S16 32) : Prop :=
  (∀ a x, ((![v379, v378] : Fin 2 → IVec S16 32) a x).toNat < S2x20000.size a)
theorem k0_idx99_inb : ∀ (v378 : IVec S16 32) (v379 : IVec S16 32) (k0_hw99 : k0_chk99 v378 v379), ∀ a x, ((![v379, v378] : Fin 2 → IVec S16 32) a x).toNat < S2x20000.size a := fun v378 v379 k0_hw99 => k0_hw99

def k0_chk100 (v378 : IVec S16 32) (v382 : IVec S16 32) : Prop :=
  (∀ a x, ((![v382, v378] : Fin 2 → IVec S16 32) a x).toNat < S2x20000.size a)
theorem k0_idx100_inb : ∀ (v378 : IVec S16 32) (v382 : IVec S16 32) (k0_hw100 : k0_chk100 v378 v382), ∀ a x, ((![v382, v378] : Fin 2 → IVec S16 32) a x).toNat < S2x20000.size a := fun v378 v382 k0_hw100 => k0_hw100
def k0_off81 (k0_t3 : Fin k0_t3_loop.trips) : Fin 2 → Nat :=
  let c18_i32 : BitVec 32 := 18#32
  let v385 : Index := Scalar.indexCast c18_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v386 : Index := Scalar.indexCast v214
  ![18, v386.toNat]

def k0_chk101 (v387 : IVec S16 32) (v388 : IVec S16 32) : Prop :=
  (∀ a x, ((![v388, v387] : Fin 2 → IVec S16 32) a x).toNat < S2x20000.size a)
theorem k0_idx101_inb : ∀ (v387 : IVec S16 32) (v388 : IVec S16 32) (k0_hw101 : k0_chk101 v387 v388), ∀ a x, ((![v388, v387] : Fin 2 → IVec S16 32) a x).toNat < S2x20000.size a := fun v387 v388 k0_hw101 => k0_hw101

def k0_chk102 (v387 : IVec S16 32) (v391 : IVec S16 32) : Prop :=
  (∀ a x, ((![v391, v387] : Fin 2 → IVec S16 32) a x).toNat < S2x20000.size a)
theorem k0_idx102_inb : ∀ (v387 : IVec S16 32) (v391 : IVec S16 32) (k0_hw102 : k0_chk102 v387 v391), ∀ a x, ((![v391, v387] : Fin 2 → IVec S16 32) a x).toNat < S2x20000.size a := fun v387 v391 k0_hw102 => k0_hw102
def k0_off82 (k0_t3 : Fin k0_t3_loop.trips) : Fin 2 → Nat :=
  let c19_i32 : BitVec 32 := 19#32
  let v394 : Index := Scalar.indexCast c19_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v395 : Index := Scalar.indexCast v214
  ![19, v395.toNat]

def k0_chk103 (v396 : IVec S16 32) (v397 : IVec S16 32) : Prop :=
  (∀ a x, ((![v397, v396] : Fin 2 → IVec S16 32) a x).toNat < S2x20000.size a)
theorem k0_idx103_inb : ∀ (v396 : IVec S16 32) (v397 : IVec S16 32) (k0_hw103 : k0_chk103 v396 v397), ∀ a x, ((![v397, v396] : Fin 2 → IVec S16 32) a x).toNat < S2x20000.size a := fun v396 v397 k0_hw103 => k0_hw103

def k0_chk104 (v396 : IVec S16 32) (v400 : IVec S16 32) : Prop :=
  (∀ a x, ((![v400, v396] : Fin 2 → IVec S16 32) a x).toNat < S2x20000.size a)
theorem k0_idx104_inb : ∀ (v396 : IVec S16 32) (v400 : IVec S16 32) (k0_hw104 : k0_chk104 v396 v400), ∀ a x, ((![v400, v396] : Fin 2 → IVec S16 32) a x).toNat < S2x20000.size a := fun v396 v400 k0_hw104 => k0_hw104
def k0_off83 (k0_t3 : Fin k0_t3_loop.trips) : Fin 2 → Nat :=
  let c20_i32 : BitVec 32 := 20#32
  let v403 : Index := Scalar.indexCast c20_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v404 : Index := Scalar.indexCast v214
  ![20, v404.toNat]

def k0_chk105 (v405 : IVec S16 32) (v406 : IVec S16 32) : Prop :=
  (∀ a x, ((![v406, v405] : Fin 2 → IVec S16 32) a x).toNat < S2x20000.size a)
theorem k0_idx105_inb : ∀ (v405 : IVec S16 32) (v406 : IVec S16 32) (k0_hw105 : k0_chk105 v405 v406), ∀ a x, ((![v406, v405] : Fin 2 → IVec S16 32) a x).toNat < S2x20000.size a := fun v405 v406 k0_hw105 => k0_hw105

def k0_chk106 (v405 : IVec S16 32) (v409 : IVec S16 32) : Prop :=
  (∀ a x, ((![v409, v405] : Fin 2 → IVec S16 32) a x).toNat < S2x20000.size a)
theorem k0_idx106_inb : ∀ (v405 : IVec S16 32) (v409 : IVec S16 32) (k0_hw106 : k0_chk106 v405 v409), ∀ a x, ((![v409, v405] : Fin 2 → IVec S16 32) a x).toNat < S2x20000.size a := fun v405 v409 k0_hw106 => k0_hw106
def k0_off84 (k0_t3 : Fin k0_t3_loop.trips) : Fin 2 → Nat :=
  let c21_i32 : BitVec 32 := 21#32
  let v412 : Index := Scalar.indexCast c21_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v413 : Index := Scalar.indexCast v214
  ![21, v413.toNat]

def k0_chk107 (v414 : IVec S16 32) (v415 : IVec S16 32) : Prop :=
  (∀ a x, ((![v415, v414] : Fin 2 → IVec S16 32) a x).toNat < S2x20000.size a)
theorem k0_idx107_inb : ∀ (v414 : IVec S16 32) (v415 : IVec S16 32) (k0_hw107 : k0_chk107 v414 v415), ∀ a x, ((![v415, v414] : Fin 2 → IVec S16 32) a x).toNat < S2x20000.size a := fun v414 v415 k0_hw107 => k0_hw107

def k0_chk108 (v414 : IVec S16 32) (v418 : IVec S16 32) : Prop :=
  (∀ a x, ((![v418, v414] : Fin 2 → IVec S16 32) a x).toNat < S2x20000.size a)
theorem k0_idx108_inb : ∀ (v414 : IVec S16 32) (v418 : IVec S16 32) (k0_hw108 : k0_chk108 v414 v418), ∀ a x, ((![v418, v414] : Fin 2 → IVec S16 32) a x).toNat < S2x20000.size a := fun v414 v418 k0_hw108 => k0_hw108
def k0_off85 (k0_t3 : Fin k0_t3_loop.trips) : Fin 2 → Nat :=
  let c22_i32 : BitVec 32 := 22#32
  let v421 : Index := Scalar.indexCast c22_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v422 : Index := Scalar.indexCast v214
  ![22, v422.toNat]

def k0_chk109 (v423 : IVec S16 32) (v424 : IVec S16 32) : Prop :=
  (∀ a x, ((![v424, v423] : Fin 2 → IVec S16 32) a x).toNat < S2x20000.size a)
theorem k0_idx109_inb : ∀ (v423 : IVec S16 32) (v424 : IVec S16 32) (k0_hw109 : k0_chk109 v423 v424), ∀ a x, ((![v424, v423] : Fin 2 → IVec S16 32) a x).toNat < S2x20000.size a := fun v423 v424 k0_hw109 => k0_hw109

def k0_chk110 (v423 : IVec S16 32) (v427 : IVec S16 32) : Prop :=
  (∀ a x, ((![v427, v423] : Fin 2 → IVec S16 32) a x).toNat < S2x20000.size a)
theorem k0_idx110_inb : ∀ (v423 : IVec S16 32) (v427 : IVec S16 32) (k0_hw110 : k0_chk110 v423 v427), ∀ a x, ((![v427, v423] : Fin 2 → IVec S16 32) a x).toNat < S2x20000.size a := fun v423 v427 k0_hw110 => k0_hw110
def k0_off86 (k0_t3 : Fin k0_t3_loop.trips) : Fin 2 → Nat :=
  let c23_i32 : BitVec 32 := 23#32
  let v430 : Index := Scalar.indexCast c23_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v431 : Index := Scalar.indexCast v214
  ![23, v431.toNat]

def k0_chk111 (v432 : IVec S16 32) (v433 : IVec S16 32) : Prop :=
  (∀ a x, ((![v433, v432] : Fin 2 → IVec S16 32) a x).toNat < S2x20000.size a)
theorem k0_idx111_inb : ∀ (v432 : IVec S16 32) (v433 : IVec S16 32) (k0_hw111 : k0_chk111 v432 v433), ∀ a x, ((![v433, v432] : Fin 2 → IVec S16 32) a x).toNat < S2x20000.size a := fun v432 v433 k0_hw111 => k0_hw111

def k0_chk112 (v432 : IVec S16 32) (v436 : IVec S16 32) : Prop :=
  (∀ a x, ((![v436, v432] : Fin 2 → IVec S16 32) a x).toNat < S2x20000.size a)
theorem k0_idx112_inb : ∀ (v432 : IVec S16 32) (v436 : IVec S16 32) (k0_hw112 : k0_chk112 v432 v436), ∀ a x, ((![v436, v432] : Fin 2 → IVec S16 32) a x).toNat < S2x20000.size a := fun v432 v436 k0_hw112 => k0_hw112
def k0_off87 (k0_t3 : Fin k0_t3_loop.trips) : Fin 2 → Nat :=
  let c24_i32_287 : BitVec 32 := 24#32
  let v439 : Index := Scalar.indexCast c24_i32_287
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v440 : Index := Scalar.indexCast v214
  ![24, v440.toNat]

def k0_chk113 (v441 : IVec S16 32) (v442 : IVec S16 32) : Prop :=
  (∀ a x, ((![v442, v441] : Fin 2 → IVec S16 32) a x).toNat < S2x20000.size a)
theorem k0_idx113_inb : ∀ (v441 : IVec S16 32) (v442 : IVec S16 32) (k0_hw113 : k0_chk113 v441 v442), ∀ a x, ((![v442, v441] : Fin 2 → IVec S16 32) a x).toNat < S2x20000.size a := fun v441 v442 k0_hw113 => k0_hw113

def k0_chk114 (v441 : IVec S16 32) (v445 : IVec S16 32) : Prop :=
  (∀ a x, ((![v445, v441] : Fin 2 → IVec S16 32) a x).toNat < S2x20000.size a)
theorem k0_idx114_inb : ∀ (v441 : IVec S16 32) (v445 : IVec S16 32) (k0_hw114 : k0_chk114 v441 v445), ∀ a x, ((![v445, v441] : Fin 2 → IVec S16 32) a x).toNat < S2x20000.size a := fun v441 v445 k0_hw114 => k0_hw114
def k0_off88 (k0_t3 : Fin k0_t3_loop.trips) : Fin 2 → Nat :=
  let c25_i32 : BitVec 32 := 25#32
  let v448 : Index := Scalar.indexCast c25_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v449 : Index := Scalar.indexCast v214
  ![25, v449.toNat]

def k0_chk115 (v450 : IVec S16 32) (v451 : IVec S16 32) : Prop :=
  (∀ a x, ((![v451, v450] : Fin 2 → IVec S16 32) a x).toNat < S2x20000.size a)
theorem k0_idx115_inb : ∀ (v450 : IVec S16 32) (v451 : IVec S16 32) (k0_hw115 : k0_chk115 v450 v451), ∀ a x, ((![v451, v450] : Fin 2 → IVec S16 32) a x).toNat < S2x20000.size a := fun v450 v451 k0_hw115 => k0_hw115

def k0_chk116 (v450 : IVec S16 32) (v454 : IVec S16 32) : Prop :=
  (∀ a x, ((![v454, v450] : Fin 2 → IVec S16 32) a x).toNat < S2x20000.size a)
theorem k0_idx116_inb : ∀ (v450 : IVec S16 32) (v454 : IVec S16 32) (k0_hw116 : k0_chk116 v450 v454), ∀ a x, ((![v454, v450] : Fin 2 → IVec S16 32) a x).toNat < S2x20000.size a := fun v450 v454 k0_hw116 => k0_hw116
def k0_off89 (k0_t3 : Fin k0_t3_loop.trips) : Fin 2 → Nat :=
  let c26_i32 : BitVec 32 := 26#32
  let v457 : Index := Scalar.indexCast c26_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v458 : Index := Scalar.indexCast v214
  ![26, v458.toNat]

def k0_chk117 (v459 : IVec S16 32) (v460 : IVec S16 32) : Prop :=
  (∀ a x, ((![v460, v459] : Fin 2 → IVec S16 32) a x).toNat < S2x20000.size a)
theorem k0_idx117_inb : ∀ (v459 : IVec S16 32) (v460 : IVec S16 32) (k0_hw117 : k0_chk117 v459 v460), ∀ a x, ((![v460, v459] : Fin 2 → IVec S16 32) a x).toNat < S2x20000.size a := fun v459 v460 k0_hw117 => k0_hw117

def k0_chk118 (v459 : IVec S16 32) (v463 : IVec S16 32) : Prop :=
  (∀ a x, ((![v463, v459] : Fin 2 → IVec S16 32) a x).toNat < S2x20000.size a)
theorem k0_idx118_inb : ∀ (v459 : IVec S16 32) (v463 : IVec S16 32) (k0_hw118 : k0_chk118 v459 v463), ∀ a x, ((![v463, v459] : Fin 2 → IVec S16 32) a x).toNat < S2x20000.size a := fun v459 v463 k0_hw118 => k0_hw118
def k0_off90 (k0_t3 : Fin k0_t3_loop.trips) : Fin 2 → Nat :=
  let c27_i32 : BitVec 32 := 27#32
  let v466 : Index := Scalar.indexCast c27_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v467 : Index := Scalar.indexCast v214
  ![27, v467.toNat]

def k0_chk119 (v468 : IVec S16 32) (v469 : IVec S16 32) : Prop :=
  (∀ a x, ((![v469, v468] : Fin 2 → IVec S16 32) a x).toNat < S2x20000.size a)
theorem k0_idx119_inb : ∀ (v468 : IVec S16 32) (v469 : IVec S16 32) (k0_hw119 : k0_chk119 v468 v469), ∀ a x, ((![v469, v468] : Fin 2 → IVec S16 32) a x).toNat < S2x20000.size a := fun v468 v469 k0_hw119 => k0_hw119

def k0_chk120 (v468 : IVec S16 32) (v472 : IVec S16 32) : Prop :=
  (∀ a x, ((![v472, v468] : Fin 2 → IVec S16 32) a x).toNat < S2x20000.size a)
theorem k0_idx120_inb : ∀ (v468 : IVec S16 32) (v472 : IVec S16 32) (k0_hw120 : k0_chk120 v468 v472), ∀ a x, ((![v472, v468] : Fin 2 → IVec S16 32) a x).toNat < S2x20000.size a := fun v468 v472 k0_hw120 => k0_hw120
def k0_off91 (k0_t3 : Fin k0_t3_loop.trips) : Fin 2 → Nat :=
  let c28_i32 : BitVec 32 := 28#32
  let v475 : Index := Scalar.indexCast c28_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v476 : Index := Scalar.indexCast v214
  ![28, v476.toNat]

def k0_chk121 (v477 : IVec S16 32) (v478 : IVec S16 32) : Prop :=
  (∀ a x, ((![v478, v477] : Fin 2 → IVec S16 32) a x).toNat < S2x20000.size a)
theorem k0_idx121_inb : ∀ (v477 : IVec S16 32) (v478 : IVec S16 32) (k0_hw121 : k0_chk121 v477 v478), ∀ a x, ((![v478, v477] : Fin 2 → IVec S16 32) a x).toNat < S2x20000.size a := fun v477 v478 k0_hw121 => k0_hw121

def k0_chk122 (v477 : IVec S16 32) (v481 : IVec S16 32) : Prop :=
  (∀ a x, ((![v481, v477] : Fin 2 → IVec S16 32) a x).toNat < S2x20000.size a)
theorem k0_idx122_inb : ∀ (v477 : IVec S16 32) (v481 : IVec S16 32) (k0_hw122 : k0_chk122 v477 v481), ∀ a x, ((![v481, v477] : Fin 2 → IVec S16 32) a x).toNat < S2x20000.size a := fun v477 v481 k0_hw122 => k0_hw122
def k0_off92 (k0_t3 : Fin k0_t3_loop.trips) : Fin 2 → Nat :=
  let c29_i32 : BitVec 32 := 29#32
  let v484 : Index := Scalar.indexCast c29_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v485 : Index := Scalar.indexCast v214
  ![29, v485.toNat]

def k0_chk123 (v486 : IVec S16 32) (v487 : IVec S16 32) : Prop :=
  (∀ a x, ((![v487, v486] : Fin 2 → IVec S16 32) a x).toNat < S2x20000.size a)
theorem k0_idx123_inb : ∀ (v486 : IVec S16 32) (v487 : IVec S16 32) (k0_hw123 : k0_chk123 v486 v487), ∀ a x, ((![v487, v486] : Fin 2 → IVec S16 32) a x).toNat < S2x20000.size a := fun v486 v487 k0_hw123 => k0_hw123

def k0_chk124 (v486 : IVec S16 32) (v490 : IVec S16 32) : Prop :=
  (∀ a x, ((![v490, v486] : Fin 2 → IVec S16 32) a x).toNat < S2x20000.size a)
theorem k0_idx124_inb : ∀ (v486 : IVec S16 32) (v490 : IVec S16 32) (k0_hw124 : k0_chk124 v486 v490), ∀ a x, ((![v490, v486] : Fin 2 → IVec S16 32) a x).toNat < S2x20000.size a := fun v486 v490 k0_hw124 => k0_hw124
def k0_off93 (k0_t3 : Fin k0_t3_loop.trips) : Fin 2 → Nat :=
  let c30_i32_300 : BitVec 32 := 30#32
  let v493 : Index := Scalar.indexCast c30_i32_300
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v494 : Index := Scalar.indexCast v214
  ![30, v494.toNat]

def k0_chk125 (v495 : IVec S16 32) (v496 : IVec S16 32) : Prop :=
  (∀ a x, ((![v496, v495] : Fin 2 → IVec S16 32) a x).toNat < S2x20000.size a)
theorem k0_idx125_inb : ∀ (v495 : IVec S16 32) (v496 : IVec S16 32) (k0_hw125 : k0_chk125 v495 v496), ∀ a x, ((![v496, v495] : Fin 2 → IVec S16 32) a x).toNat < S2x20000.size a := fun v495 v496 k0_hw125 => k0_hw125

def k0_chk126 (v495 : IVec S16 32) (v499 : IVec S16 32) : Prop :=
  (∀ a x, ((![v499, v495] : Fin 2 → IVec S16 32) a x).toNat < S2x20000.size a)
theorem k0_idx126_inb : ∀ (v495 : IVec S16 32) (v499 : IVec S16 32) (k0_hw126 : k0_chk126 v495 v499), ∀ a x, ((![v499, v495] : Fin 2 → IVec S16 32) a x).toNat < S2x20000.size a := fun v495 v499 k0_hw126 => k0_hw126
def k0_off94 (k0_t3 : Fin k0_t3_loop.trips) : Fin 2 → Nat :=
  let c31_i32 : BitVec 32 := 31#32
  let v502 : Index := Scalar.indexCast c31_i32
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v503 : Index := Scalar.indexCast v214
  ![31, v503.toNat]

def k0_chk127 (v504 : IVec S16 32) (v505 : IVec S16 32) : Prop :=
  (∀ a x, ((![v505, v504] : Fin 2 → IVec S16 32) a x).toNat < S2x20000.size a)
theorem k0_idx127_inb : ∀ (v504 : IVec S16 32) (v505 : IVec S16 32) (k0_hw127 : k0_chk127 v504 v505), ∀ a x, ((![v505, v504] : Fin 2 → IVec S16 32) a x).toNat < S2x20000.size a := fun v504 v505 k0_hw127 => k0_hw127

def k0_chk128 (v504 : IVec S16 32) (v508 : IVec S16 32) : Prop :=
  (∀ a x, ((![v508, v504] : Fin 2 → IVec S16 32) a x).toNat < S2x20000.size a)
theorem k0_idx128_inb : ∀ (v504 : IVec S16 32) (v508 : IVec S16 32) (k0_hw128 : k0_chk128 v504 v508), ∀ a x, ((![v508, v504] : Fin 2 → IVec S16 32) a x).toNat < S2x20000.size a := fun v504 v508 k0_hw128 => k0_hw128
def k0_off95 (k0_t1 : Fin k0_t1_loop.trips) (k0_t3 : Fin k0_t3_loop.trips) : Fin 2 → Nat :=
  let c0_i32_305 : BitVec 32 := 0#32
  let v518 : Index := Scalar.indexCast c0_i32_305
  let c2_i32_170 : BitVec 32 := 2#32
  let c0_i32_69 : BitVec 32 := 0#32
  let c1_i32 : BitVec 32 := 1#32
  let arg31 : BitVec 32 := Scf.iv c0_i32_69 c1_i32 k0_t1
  let v169 : BitVec 32 := Scalar.muli c2_i32_170 arg31
  let c1_i32_171 : BitVec 32 := 1#32
  let v170 : BitVec 32 := Scalar.addi v169 c1_i32_171
  let c640_i32_172 : BitVec 32 := 640#32
  let v171 : BitVec 32 := Scalar.muli v170 c640_i32_172
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v517 : BitVec 32 := Scalar.addi v171 v214
  let v519 : Index := Scalar.indexCast v517
  ![0, v519.toNat]
def k0_off96 (k0_t1 : Fin k0_t1_loop.trips) (k0_t3 : Fin k0_t3_loop.trips) : Fin 2 → Nat :=
  let c1_i32_306 : BitVec 32 := 1#32
  let v522 : Index := Scalar.indexCast c1_i32_306
  let c2_i32_170 : BitVec 32 := 2#32
  let c0_i32_69 : BitVec 32 := 0#32
  let c1_i32 : BitVec 32 := 1#32
  let arg31 : BitVec 32 := Scf.iv c0_i32_69 c1_i32 k0_t1
  let v169 : BitVec 32 := Scalar.muli c2_i32_170 arg31
  let c1_i32_171 : BitVec 32 := 1#32
  let v170 : BitVec 32 := Scalar.addi v169 c1_i32_171
  let c640_i32_172 : BitVec 32 := 640#32
  let v171 : BitVec 32 := Scalar.muli v170 c640_i32_172
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v521 : BitVec 32 := Scalar.addi v171 v214
  let v523 : Index := Scalar.indexCast v521
  ![1, v523.toNat]
def k0_off97 (k0_t3 : Fin k0_t3_loop.trips) : Fin 2 → Nat :=
  let c0_i32_307 : BitVec 32 := 0#32
  let v536 : Index := Scalar.indexCast c0_i32_307
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v537 : Index := Scalar.indexCast v214
  ![0, v537.toNat]
def k0_off98 (k0_t3 : Fin k0_t3_loop.trips) : Fin 2 → Nat :=
  let c1_i32_308 : BitVec 32 := 1#32
  let v541 : Index := Scalar.indexCast c1_i32_308
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v542 : Index := Scalar.indexCast v214
  ![1, v542.toNat]
def k0_off99 (k0_t3 : Fin k0_t3_loop.trips) : Fin 1 → Nat :=
  let c0_i32_217 : BitVec 32 := 0#32
  let c1_i32_219 : BitVec 32 := 1#32
  let arg32 : BitVec 32 := Scf.iv c0_i32_217 c1_i32_219 k0_t3
  let c16_i32_224 : BitVec 32 := 16#32
  let v214 : BitVec 32 := Scalar.muli arg32 c16_i32_224
  let v551 : Index := Scalar.indexCast v214
  ![v551.toNat]
def k0_cond5 (k0_t1 : Fin k0_t1_loop.trips) : BitVec 1 :=
  let c2_i32_170 : BitVec 32 := 2#32
  let c0_i32_69 : BitVec 32 := 0#32
  let c1_i32 : BitVec 32 := 1#32
  let arg31 : BitVec 32 := Scf.iv c0_i32_69 c1_i32 k0_t1
  let v169 : BitVec 32 := Scalar.muli c2_i32_170 arg31
  let c1_i32_171 : BitVec 32 := 1#32
  let v170 : BitVec 32 := Scalar.addi v169 c1_i32_171
  let c2_i32_221 : BitVec 32 := 2#32
  let v210 : BitVec 32 := Scalar.addi v170 c2_i32_221
  let c30_i32_222 : BitVec 32 := 30#32
  let v211 : BitVec 1 := Scalar.cmpi .slt v210 c30_i32_222
  let v212 : BitVec 32 := Scalar.extui v211
  let c0_i32_223 : BitVec 32 := 0#32
  let v213 : BitVec 1 := Scalar.cmpi .ne v212 c0_i32_223
  v213

def k0_off100 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_228 : BitVec 32 := 0#32
  let c2_i32_170 : BitVec 32 := 2#32
  let c0_i32_69 : BitVec 32 := 0#32
  let c1_i32 : BitVec 32 := 1#32
  let arg31 : BitVec 32 := Scf.iv c0_i32_69 c1_i32 k0_t1
  let v169 : BitVec 32 := Scalar.muli c2_i32_170 arg31
  let c1_i32_171 : BitVec 32 := 1#32
  let v170 : BitVec 32 := Scalar.addi v169 c1_i32_171
  let c2_i32_224 : BitVec 32 := 2#32
  let v214 : BitVec 32 := Scalar.addi v170 c2_i32_224
  let c640_i32_225 : BitVec 32 := 640#32
  let v215 : BitVec 32 := Scalar.muli v214 c640_i32_225
  ![v1.toNat, 0, v215.toNat]
def k0_off101 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_234 : BitVec 32 := 8#32
  let c2_i32_170 : BitVec 32 := 2#32
  let c0_i32_69 : BitVec 32 := 0#32
  let c1_i32 : BitVec 32 := 1#32
  let arg31 : BitVec 32 := Scf.iv c0_i32_69 c1_i32 k0_t1
  let v169 : BitVec 32 := Scalar.muli c2_i32_170 arg31
  let c1_i32_171 : BitVec 32 := 1#32
  let v170 : BitVec 32 := Scalar.addi v169 c1_i32_171
  let c2_i32_224 : BitVec 32 := 2#32
  let v214 : BitVec 32 := Scalar.addi v170 c2_i32_224
  let c640_i32_225 : BitVec 32 := 640#32
  let v215 : BitVec 32 := Scalar.muli v214 c640_i32_225
  ![v1.toNat, 8, v215.toNat]
def k0_off102 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_240 : BitVec 32 := 16#32
  let c2_i32_170 : BitVec 32 := 2#32
  let c0_i32_69 : BitVec 32 := 0#32
  let c1_i32 : BitVec 32 := 1#32
  let arg31 : BitVec 32 := Scf.iv c0_i32_69 c1_i32 k0_t1
  let v169 : BitVec 32 := Scalar.muli c2_i32_170 arg31
  let c1_i32_171 : BitVec 32 := 1#32
  let v170 : BitVec 32 := Scalar.addi v169 c1_i32_171
  let c2_i32_224 : BitVec 32 := 2#32
  let v214 : BitVec 32 := Scalar.addi v170 c2_i32_224
  let c640_i32_225 : BitVec 32 := 640#32
  let v215 : BitVec 32 := Scalar.muli v214 c640_i32_225
  ![v1.toNat, 16, v215.toNat]
def k0_off103 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_246 : BitVec 32 := 24#32
  let c2_i32_170 : BitVec 32 := 2#32
  let c0_i32_69 : BitVec 32 := 0#32
  let c1_i32 : BitVec 32 := 1#32
  let arg31 : BitVec 32 := Scf.iv c0_i32_69 c1_i32 k0_t1
  let v169 : BitVec 32 := Scalar.muli c2_i32_170 arg31
  let c1_i32_171 : BitVec 32 := 1#32
  let v170 : BitVec 32 := Scalar.addi v169 c1_i32_171
  let c2_i32_224 : BitVec 32 := 2#32
  let v214 : BitVec 32 := Scalar.addi v170 c2_i32_224
  let c640_i32_225 : BitVec 32 := 640#32
  let v215 : BitVec 32 := Scalar.muli v214 c640_i32_225
  ![v1.toNat, 24, v215.toNat]
def k0_off104 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_250 : BitVec 32 := 0#32
  let c2_i32_170 : BitVec 32 := 2#32
  let c0_i32_69 : BitVec 32 := 0#32
  let c1_i32 : BitVec 32 := 1#32
  let arg31 : BitVec 32 := Scf.iv c0_i32_69 c1_i32 k0_t1
  let v169 : BitVec 32 := Scalar.muli c2_i32_170 arg31
  let c1_i32_171 : BitVec 32 := 1#32
  let v170 : BitVec 32 := Scalar.addi v169 c1_i32_171
  let c2_i32_224 : BitVec 32 := 2#32
  let v214 : BitVec 32 := Scalar.addi v170 c2_i32_224
  let c640_i32_225 : BitVec 32 := 640#32
  let v215 : BitVec 32 := Scalar.muli v214 c640_i32_225
  ![v1.toNat, 0, v215.toNat]
def k0_off105 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v16 : BitVec 32 := Scalar.muli v1 c20000_i32
  ![v16.toNat]
@[reducible] def k0_t4_loop : Scf.Loop 32 :=
  let c0_i32_112 : BitVec 32 := 0#32
  let c50_i32 : BitVec 32 := 50#32
  let v106 : BitVec 32 := Scalar.addi c0_i32_112 c50_i32
  let c1_i32_113 : BitVec 32 := 1#32
  ⟨c0_i32_112, v106, c1_i32_113⟩
def k0_off106 (k0_t4 : Fin k0_t4_loop.trips) : Fin 2 → Nat :=
  let c0_i32_125 : BitVec 32 := 0#32
  let v130 : Index := Scalar.indexCast c0_i32_125
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v131 : Index := Scalar.indexCast v121
  ![0, v131.toNat]

def k0_chk129 (v132 : IVec S16 32) (v133 : IVec S16 32) : Prop :=
  (∀ a x, ((![v133, v132] : Fin 2 → IVec S16 32) a x).toNat < S2x20000.size a)
theorem k0_idx129_inb : ∀ (v132 : IVec S16 32) (v133 : IVec S16 32) (k0_hw129 : k0_chk129 v132 v133), ∀ a x, ((![v133, v132] : Fin 2 → IVec S16 32) a x).toNat < S2x20000.size a := fun v132 v133 k0_hw129 => k0_hw129

def k0_chk130 (v132 : IVec S16 32) (v136 : IVec S16 32) : Prop :=
  (∀ a x, ((![v136, v132] : Fin 2 → IVec S16 32) a x).toNat < S2x20000.size a)
theorem k0_idx130_inb : ∀ (v132 : IVec S16 32) (v136 : IVec S16 32) (k0_hw130 : k0_chk130 v132 v136), ∀ a x, ((![v136, v132] : Fin 2 → IVec S16 32) a x).toNat < S2x20000.size a := fun v132 v136 k0_hw130 => k0_hw130
def k0_off107 (k0_t4 : Fin k0_t4_loop.trips) : Fin 2 → Nat :=
  let c1_i32_128 : BitVec 32 := 1#32
  let v139 : Index := Scalar.indexCast c1_i32_128
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v140 : Index := Scalar.indexCast v121
  ![1, v140.toNat]

def k0_chk131 (v141 : IVec S16 32) (v142 : IVec S16 32) : Prop :=
  (∀ a x, ((![v142, v141] : Fin 2 → IVec S16 32) a x).toNat < S2x20000.size a)
theorem k0_idx131_inb : ∀ (v141 : IVec S16 32) (v142 : IVec S16 32) (k0_hw131 : k0_chk131 v141 v142), ∀ a x, ((![v142, v141] : Fin 2 → IVec S16 32) a x).toNat < S2x20000.size a := fun v141 v142 k0_hw131 => k0_hw131

def k0_chk132 (v141 : IVec S16 32) (v145 : IVec S16 32) : Prop :=
  (∀ a x, ((![v145, v141] : Fin 2 → IVec S16 32) a x).toNat < S2x20000.size a)
theorem k0_idx132_inb : ∀ (v141 : IVec S16 32) (v145 : IVec S16 32) (k0_hw132 : k0_chk132 v141 v145), ∀ a x, ((![v145, v141] : Fin 2 → IVec S16 32) a x).toNat < S2x20000.size a := fun v141 v145 k0_hw132 => k0_hw132
def k0_off108 (k0_t4 : Fin k0_t4_loop.trips) : Fin 2 → Nat :=
  let c2_i32_131 : BitVec 32 := 2#32
  let v148 : Index := Scalar.indexCast c2_i32_131
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v149 : Index := Scalar.indexCast v121
  ![2, v149.toNat]

def k0_chk133 (v150 : IVec S16 32) (v151 : IVec S16 32) : Prop :=
  (∀ a x, ((![v151, v150] : Fin 2 → IVec S16 32) a x).toNat < S2x20000.size a)
theorem k0_idx133_inb : ∀ (v150 : IVec S16 32) (v151 : IVec S16 32) (k0_hw133 : k0_chk133 v150 v151), ∀ a x, ((![v151, v150] : Fin 2 → IVec S16 32) a x).toNat < S2x20000.size a := fun v150 v151 k0_hw133 => k0_hw133

def k0_chk134 (v150 : IVec S16 32) (v154 : IVec S16 32) : Prop :=
  (∀ a x, ((![v154, v150] : Fin 2 → IVec S16 32) a x).toNat < S2x20000.size a)
theorem k0_idx134_inb : ∀ (v150 : IVec S16 32) (v154 : IVec S16 32) (k0_hw134 : k0_chk134 v150 v154), ∀ a x, ((![v154, v150] : Fin 2 → IVec S16 32) a x).toNat < S2x20000.size a := fun v150 v154 k0_hw134 => k0_hw134
def k0_off109 (k0_t4 : Fin k0_t4_loop.trips) : Fin 2 → Nat :=
  let c3_i32 : BitVec 32 := 3#32
  let v157 : Index := Scalar.indexCast c3_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v158 : Index := Scalar.indexCast v121
  ![3, v158.toNat]

def k0_chk135 (v159 : IVec S16 32) (v160 : IVec S16 32) : Prop :=
  (∀ a x, ((![v160, v159] : Fin 2 → IVec S16 32) a x).toNat < S2x20000.size a)
theorem k0_idx135_inb : ∀ (v159 : IVec S16 32) (v160 : IVec S16 32) (k0_hw135 : k0_chk135 v159 v160), ∀ a x, ((![v160, v159] : Fin 2 → IVec S16 32) a x).toNat < S2x20000.size a := fun v159 v160 k0_hw135 => k0_hw135

def k0_chk136 (v159 : IVec S16 32) (v163 : IVec S16 32) : Prop :=
  (∀ a x, ((![v163, v159] : Fin 2 → IVec S16 32) a x).toNat < S2x20000.size a)
theorem k0_idx136_inb : ∀ (v159 : IVec S16 32) (v163 : IVec S16 32) (k0_hw136 : k0_chk136 v159 v163), ∀ a x, ((![v163, v159] : Fin 2 → IVec S16 32) a x).toNat < S2x20000.size a := fun v159 v163 k0_hw136 => k0_hw136
def k0_off110 (k0_t4 : Fin k0_t4_loop.trips) : Fin 2 → Nat :=
  let c4_i32 : BitVec 32 := 4#32
  let v166 : Index := Scalar.indexCast c4_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v167 : Index := Scalar.indexCast v121
  ![4, v167.toNat]

def k0_chk137 (v168 : IVec S16 32) (v169 : IVec S16 32) : Prop :=
  (∀ a x, ((![v169, v168] : Fin 2 → IVec S16 32) a x).toNat < S2x20000.size a)
theorem k0_idx137_inb : ∀ (v168 : IVec S16 32) (v169 : IVec S16 32) (k0_hw137 : k0_chk137 v168 v169), ∀ a x, ((![v169, v168] : Fin 2 → IVec S16 32) a x).toNat < S2x20000.size a := fun v168 v169 k0_hw137 => k0_hw137

def k0_chk138 (v168 : IVec S16 32) (v172 : IVec S16 32) : Prop :=
  (∀ a x, ((![v172, v168] : Fin 2 → IVec S16 32) a x).toNat < S2x20000.size a)
theorem k0_idx138_inb : ∀ (v168 : IVec S16 32) (v172 : IVec S16 32) (k0_hw138 : k0_chk138 v168 v172), ∀ a x, ((![v172, v168] : Fin 2 → IVec S16 32) a x).toNat < S2x20000.size a := fun v168 v172 k0_hw138 => k0_hw138
def k0_off111 (k0_t4 : Fin k0_t4_loop.trips) : Fin 2 → Nat :=
  let c5_i32 : BitVec 32 := 5#32
  let v175 : Index := Scalar.indexCast c5_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v176 : Index := Scalar.indexCast v121
  ![5, v176.toNat]

def k0_chk139 (v177 : IVec S16 32) (v178 : IVec S16 32) : Prop :=
  (∀ a x, ((![v178, v177] : Fin 2 → IVec S16 32) a x).toNat < S2x20000.size a)
theorem k0_idx139_inb : ∀ (v177 : IVec S16 32) (v178 : IVec S16 32) (k0_hw139 : k0_chk139 v177 v178), ∀ a x, ((![v178, v177] : Fin 2 → IVec S16 32) a x).toNat < S2x20000.size a := fun v177 v178 k0_hw139 => k0_hw139

def k0_chk140 (v177 : IVec S16 32) (v181 : IVec S16 32) : Prop :=
  (∀ a x, ((![v181, v177] : Fin 2 → IVec S16 32) a x).toNat < S2x20000.size a)
theorem k0_idx140_inb : ∀ (v177 : IVec S16 32) (v181 : IVec S16 32) (k0_hw140 : k0_chk140 v177 v181), ∀ a x, ((![v181, v177] : Fin 2 → IVec S16 32) a x).toNat < S2x20000.size a := fun v177 v181 k0_hw140 => k0_hw140
def k0_off112 (k0_t4 : Fin k0_t4_loop.trips) : Fin 2 → Nat :=
  let c6_i32 : BitVec 32 := 6#32
  let v184 : Index := Scalar.indexCast c6_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v185 : Index := Scalar.indexCast v121
  ![6, v185.toNat]

def k0_chk141 (v186 : IVec S16 32) (v187 : IVec S16 32) : Prop :=
  (∀ a x, ((![v187, v186] : Fin 2 → IVec S16 32) a x).toNat < S2x20000.size a)
theorem k0_idx141_inb : ∀ (v186 : IVec S16 32) (v187 : IVec S16 32) (k0_hw141 : k0_chk141 v186 v187), ∀ a x, ((![v187, v186] : Fin 2 → IVec S16 32) a x).toNat < S2x20000.size a := fun v186 v187 k0_hw141 => k0_hw141

def k0_chk142 (v186 : IVec S16 32) (v190 : IVec S16 32) : Prop :=
  (∀ a x, ((![v190, v186] : Fin 2 → IVec S16 32) a x).toNat < S2x20000.size a)
theorem k0_idx142_inb : ∀ (v186 : IVec S16 32) (v190 : IVec S16 32) (k0_hw142 : k0_chk142 v186 v190), ∀ a x, ((![v190, v186] : Fin 2 → IVec S16 32) a x).toNat < S2x20000.size a := fun v186 v190 k0_hw142 => k0_hw142
def k0_off113 (k0_t4 : Fin k0_t4_loop.trips) : Fin 2 → Nat :=
  let c7_i32 : BitVec 32 := 7#32
  let v193 : Index := Scalar.indexCast c7_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v194 : Index := Scalar.indexCast v121
  ![7, v194.toNat]

def k0_chk143 (v195 : IVec S16 32) (v196 : IVec S16 32) : Prop :=
  (∀ a x, ((![v196, v195] : Fin 2 → IVec S16 32) a x).toNat < S2x20000.size a)
theorem k0_idx143_inb : ∀ (v195 : IVec S16 32) (v196 : IVec S16 32) (k0_hw143 : k0_chk143 v195 v196), ∀ a x, ((![v196, v195] : Fin 2 → IVec S16 32) a x).toNat < S2x20000.size a := fun v195 v196 k0_hw143 => k0_hw143

def k0_chk144 (v195 : IVec S16 32) (v199 : IVec S16 32) : Prop :=
  (∀ a x, ((![v199, v195] : Fin 2 → IVec S16 32) a x).toNat < S2x20000.size a)
theorem k0_idx144_inb : ∀ (v195 : IVec S16 32) (v199 : IVec S16 32) (k0_hw144 : k0_chk144 v195 v199), ∀ a x, ((![v199, v195] : Fin 2 → IVec S16 32) a x).toNat < S2x20000.size a := fun v195 v199 k0_hw144 => k0_hw144
def k0_off114 (k0_t4 : Fin k0_t4_loop.trips) : Fin 2 → Nat :=
  let c8_i32_144 : BitVec 32 := 8#32
  let v202 : Index := Scalar.indexCast c8_i32_144
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v203 : Index := Scalar.indexCast v121
  ![8, v203.toNat]

def k0_chk145 (v204 : IVec S16 32) (v205 : IVec S16 32) : Prop :=
  (∀ a x, ((![v205, v204] : Fin 2 → IVec S16 32) a x).toNat < S2x20000.size a)
theorem k0_idx145_inb : ∀ (v204 : IVec S16 32) (v205 : IVec S16 32) (k0_hw145 : k0_chk145 v204 v205), ∀ a x, ((![v205, v204] : Fin 2 → IVec S16 32) a x).toNat < S2x20000.size a := fun v204 v205 k0_hw145 => k0_hw145

def k0_chk146 (v204 : IVec S16 32) (v208 : IVec S16 32) : Prop :=
  (∀ a x, ((![v208, v204] : Fin 2 → IVec S16 32) a x).toNat < S2x20000.size a)
theorem k0_idx146_inb : ∀ (v204 : IVec S16 32) (v208 : IVec S16 32) (k0_hw146 : k0_chk146 v204 v208), ∀ a x, ((![v208, v204] : Fin 2 → IVec S16 32) a x).toNat < S2x20000.size a := fun v204 v208 k0_hw146 => k0_hw146
def k0_off115 (k0_t4 : Fin k0_t4_loop.trips) : Fin 2 → Nat :=
  let c9_i32 : BitVec 32 := 9#32
  let v211 : Index := Scalar.indexCast c9_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v212 : Index := Scalar.indexCast v121
  ![9, v212.toNat]

def k0_chk147 (v213 : IVec S16 32) (v214 : IVec S16 32) : Prop :=
  (∀ a x, ((![v214, v213] : Fin 2 → IVec S16 32) a x).toNat < S2x20000.size a)
theorem k0_idx147_inb : ∀ (v213 : IVec S16 32) (v214 : IVec S16 32) (k0_hw147 : k0_chk147 v213 v214), ∀ a x, ((![v214, v213] : Fin 2 → IVec S16 32) a x).toNat < S2x20000.size a := fun v213 v214 k0_hw147 => k0_hw147

def k0_chk148 (v213 : IVec S16 32) (v217 : IVec S16 32) : Prop :=
  (∀ a x, ((![v217, v213] : Fin 2 → IVec S16 32) a x).toNat < S2x20000.size a)
theorem k0_idx148_inb : ∀ (v213 : IVec S16 32) (v217 : IVec S16 32) (k0_hw148 : k0_chk148 v213 v217), ∀ a x, ((![v217, v213] : Fin 2 → IVec S16 32) a x).toNat < S2x20000.size a := fun v213 v217 k0_hw148 => k0_hw148
def k0_off116 (k0_t4 : Fin k0_t4_loop.trips) : Fin 2 → Nat :=
  let c10_i32 : BitVec 32 := 10#32
  let v220 : Index := Scalar.indexCast c10_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v221 : Index := Scalar.indexCast v121
  ![10, v221.toNat]

def k0_chk149 (v222 : IVec S16 32) (v223 : IVec S16 32) : Prop :=
  (∀ a x, ((![v223, v222] : Fin 2 → IVec S16 32) a x).toNat < S2x20000.size a)
theorem k0_idx149_inb : ∀ (v222 : IVec S16 32) (v223 : IVec S16 32) (k0_hw149 : k0_chk149 v222 v223), ∀ a x, ((![v223, v222] : Fin 2 → IVec S16 32) a x).toNat < S2x20000.size a := fun v222 v223 k0_hw149 => k0_hw149

def k0_chk150 (v222 : IVec S16 32) (v226 : IVec S16 32) : Prop :=
  (∀ a x, ((![v226, v222] : Fin 2 → IVec S16 32) a x).toNat < S2x20000.size a)
theorem k0_idx150_inb : ∀ (v222 : IVec S16 32) (v226 : IVec S16 32) (k0_hw150 : k0_chk150 v222 v226), ∀ a x, ((![v226, v222] : Fin 2 → IVec S16 32) a x).toNat < S2x20000.size a := fun v222 v226 k0_hw150 => k0_hw150
def k0_off117 (k0_t4 : Fin k0_t4_loop.trips) : Fin 2 → Nat :=
  let c11_i32 : BitVec 32 := 11#32
  let v229 : Index := Scalar.indexCast c11_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v230 : Index := Scalar.indexCast v121
  ![11, v230.toNat]

def k0_chk151 (v231 : IVec S16 32) (v232 : IVec S16 32) : Prop :=
  (∀ a x, ((![v232, v231] : Fin 2 → IVec S16 32) a x).toNat < S2x20000.size a)
theorem k0_idx151_inb : ∀ (v231 : IVec S16 32) (v232 : IVec S16 32) (k0_hw151 : k0_chk151 v231 v232), ∀ a x, ((![v232, v231] : Fin 2 → IVec S16 32) a x).toNat < S2x20000.size a := fun v231 v232 k0_hw151 => k0_hw151

def k0_chk152 (v231 : IVec S16 32) (v235 : IVec S16 32) : Prop :=
  (∀ a x, ((![v235, v231] : Fin 2 → IVec S16 32) a x).toNat < S2x20000.size a)
theorem k0_idx152_inb : ∀ (v231 : IVec S16 32) (v235 : IVec S16 32) (k0_hw152 : k0_chk152 v231 v235), ∀ a x, ((![v235, v231] : Fin 2 → IVec S16 32) a x).toNat < S2x20000.size a := fun v231 v235 k0_hw152 => k0_hw152
def k0_off118 (k0_t4 : Fin k0_t4_loop.trips) : Fin 2 → Nat :=
  let c12_i32 : BitVec 32 := 12#32
  let v238 : Index := Scalar.indexCast c12_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v239 : Index := Scalar.indexCast v121
  ![12, v239.toNat]

def k0_chk153 (v240 : IVec S16 32) (v241 : IVec S16 32) : Prop :=
  (∀ a x, ((![v241, v240] : Fin 2 → IVec S16 32) a x).toNat < S2x20000.size a)
theorem k0_idx153_inb : ∀ (v240 : IVec S16 32) (v241 : IVec S16 32) (k0_hw153 : k0_chk153 v240 v241), ∀ a x, ((![v241, v240] : Fin 2 → IVec S16 32) a x).toNat < S2x20000.size a := fun v240 v241 k0_hw153 => k0_hw153

def k0_chk154 (v240 : IVec S16 32) (v244 : IVec S16 32) : Prop :=
  (∀ a x, ((![v244, v240] : Fin 2 → IVec S16 32) a x).toNat < S2x20000.size a)
theorem k0_idx154_inb : ∀ (v240 : IVec S16 32) (v244 : IVec S16 32) (k0_hw154 : k0_chk154 v240 v244), ∀ a x, ((![v244, v240] : Fin 2 → IVec S16 32) a x).toNat < S2x20000.size a := fun v240 v244 k0_hw154 => k0_hw154
def k0_off119 (k0_t4 : Fin k0_t4_loop.trips) : Fin 2 → Nat :=
  let c13_i32 : BitVec 32 := 13#32
  let v247 : Index := Scalar.indexCast c13_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v248 : Index := Scalar.indexCast v121
  ![13, v248.toNat]

def k0_chk155 (v249 : IVec S16 32) (v250 : IVec S16 32) : Prop :=
  (∀ a x, ((![v250, v249] : Fin 2 → IVec S16 32) a x).toNat < S2x20000.size a)
theorem k0_idx155_inb : ∀ (v249 : IVec S16 32) (v250 : IVec S16 32) (k0_hw155 : k0_chk155 v249 v250), ∀ a x, ((![v250, v249] : Fin 2 → IVec S16 32) a x).toNat < S2x20000.size a := fun v249 v250 k0_hw155 => k0_hw155

def k0_chk156 (v249 : IVec S16 32) (v253 : IVec S16 32) : Prop :=
  (∀ a x, ((![v253, v249] : Fin 2 → IVec S16 32) a x).toNat < S2x20000.size a)
theorem k0_idx156_inb : ∀ (v249 : IVec S16 32) (v253 : IVec S16 32) (k0_hw156 : k0_chk156 v249 v253), ∀ a x, ((![v253, v249] : Fin 2 → IVec S16 32) a x).toNat < S2x20000.size a := fun v249 v253 k0_hw156 => k0_hw156
def k0_off120 (k0_t4 : Fin k0_t4_loop.trips) : Fin 2 → Nat :=
  let c14_i32 : BitVec 32 := 14#32
  let v256 : Index := Scalar.indexCast c14_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v257 : Index := Scalar.indexCast v121
  ![14, v257.toNat]

def k0_chk157 (v258 : IVec S16 32) (v259 : IVec S16 32) : Prop :=
  (∀ a x, ((![v259, v258] : Fin 2 → IVec S16 32) a x).toNat < S2x20000.size a)
theorem k0_idx157_inb : ∀ (v258 : IVec S16 32) (v259 : IVec S16 32) (k0_hw157 : k0_chk157 v258 v259), ∀ a x, ((![v259, v258] : Fin 2 → IVec S16 32) a x).toNat < S2x20000.size a := fun v258 v259 k0_hw157 => k0_hw157

def k0_chk158 (v258 : IVec S16 32) (v262 : IVec S16 32) : Prop :=
  (∀ a x, ((![v262, v258] : Fin 2 → IVec S16 32) a x).toNat < S2x20000.size a)
theorem k0_idx158_inb : ∀ (v258 : IVec S16 32) (v262 : IVec S16 32) (k0_hw158 : k0_chk158 v258 v262), ∀ a x, ((![v262, v258] : Fin 2 → IVec S16 32) a x).toNat < S2x20000.size a := fun v258 v262 k0_hw158 => k0_hw158
def k0_off121 (k0_t4 : Fin k0_t4_loop.trips) : Fin 2 → Nat :=
  let c15_i32_159 : BitVec 32 := 15#32
  let v265 : Index := Scalar.indexCast c15_i32_159
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v266 : Index := Scalar.indexCast v121
  ![15, v266.toNat]

def k0_chk159 (v267 : IVec S16 32) (v268 : IVec S16 32) : Prop :=
  (∀ a x, ((![v268, v267] : Fin 2 → IVec S16 32) a x).toNat < S2x20000.size a)
theorem k0_idx159_inb : ∀ (v267 : IVec S16 32) (v268 : IVec S16 32) (k0_hw159 : k0_chk159 v267 v268), ∀ a x, ((![v268, v267] : Fin 2 → IVec S16 32) a x).toNat < S2x20000.size a := fun v267 v268 k0_hw159 => k0_hw159

def k0_chk160 (v267 : IVec S16 32) (v271 : IVec S16 32) : Prop :=
  (∀ a x, ((![v271, v267] : Fin 2 → IVec S16 32) a x).toNat < S2x20000.size a)
theorem k0_idx160_inb : ∀ (v267 : IVec S16 32) (v271 : IVec S16 32) (k0_hw160 : k0_chk160 v267 v271), ∀ a x, ((![v271, v267] : Fin 2 → IVec S16 32) a x).toNat < S2x20000.size a := fun v267 v271 k0_hw160 => k0_hw160
def k0_off122 (k0_t4 : Fin k0_t4_loop.trips) : Fin 2 → Nat :=
  let c16_i32_162 : BitVec 32 := 16#32
  let v274 : Index := Scalar.indexCast c16_i32_162
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v275 : Index := Scalar.indexCast v121
  ![16, v275.toNat]

def k0_chk161 (v276 : IVec S16 32) (v277 : IVec S16 32) : Prop :=
  (∀ a x, ((![v277, v276] : Fin 2 → IVec S16 32) a x).toNat < S2x20000.size a)
theorem k0_idx161_inb : ∀ (v276 : IVec S16 32) (v277 : IVec S16 32) (k0_hw161 : k0_chk161 v276 v277), ∀ a x, ((![v277, v276] : Fin 2 → IVec S16 32) a x).toNat < S2x20000.size a := fun v276 v277 k0_hw161 => k0_hw161

def k0_chk162 (v276 : IVec S16 32) (v280 : IVec S16 32) : Prop :=
  (∀ a x, ((![v280, v276] : Fin 2 → IVec S16 32) a x).toNat < S2x20000.size a)
theorem k0_idx162_inb : ∀ (v276 : IVec S16 32) (v280 : IVec S16 32) (k0_hw162 : k0_chk162 v276 v280), ∀ a x, ((![v280, v276] : Fin 2 → IVec S16 32) a x).toNat < S2x20000.size a := fun v276 v280 k0_hw162 => k0_hw162
def k0_off123 (k0_t4 : Fin k0_t4_loop.trips) : Fin 2 → Nat :=
  let c17_i32 : BitVec 32 := 17#32
  let v283 : Index := Scalar.indexCast c17_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v284 : Index := Scalar.indexCast v121
  ![17, v284.toNat]

def k0_chk163 (v285 : IVec S16 32) (v286 : IVec S16 32) : Prop :=
  (∀ a x, ((![v286, v285] : Fin 2 → IVec S16 32) a x).toNat < S2x20000.size a)
theorem k0_idx163_inb : ∀ (v285 : IVec S16 32) (v286 : IVec S16 32) (k0_hw163 : k0_chk163 v285 v286), ∀ a x, ((![v286, v285] : Fin 2 → IVec S16 32) a x).toNat < S2x20000.size a := fun v285 v286 k0_hw163 => k0_hw163

def k0_chk164 (v285 : IVec S16 32) (v289 : IVec S16 32) : Prop :=
  (∀ a x, ((![v289, v285] : Fin 2 → IVec S16 32) a x).toNat < S2x20000.size a)
theorem k0_idx164_inb : ∀ (v285 : IVec S16 32) (v289 : IVec S16 32) (k0_hw164 : k0_chk164 v285 v289), ∀ a x, ((![v289, v285] : Fin 2 → IVec S16 32) a x).toNat < S2x20000.size a := fun v285 v289 k0_hw164 => k0_hw164
def k0_off124 (k0_t4 : Fin k0_t4_loop.trips) : Fin 2 → Nat :=
  let c18_i32 : BitVec 32 := 18#32
  let v292 : Index := Scalar.indexCast c18_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v293 : Index := Scalar.indexCast v121
  ![18, v293.toNat]

def k0_chk165 (v294 : IVec S16 32) (v295 : IVec S16 32) : Prop :=
  (∀ a x, ((![v295, v294] : Fin 2 → IVec S16 32) a x).toNat < S2x20000.size a)
theorem k0_idx165_inb : ∀ (v294 : IVec S16 32) (v295 : IVec S16 32) (k0_hw165 : k0_chk165 v294 v295), ∀ a x, ((![v295, v294] : Fin 2 → IVec S16 32) a x).toNat < S2x20000.size a := fun v294 v295 k0_hw165 => k0_hw165

def k0_chk166 (v294 : IVec S16 32) (v298 : IVec S16 32) : Prop :=
  (∀ a x, ((![v298, v294] : Fin 2 → IVec S16 32) a x).toNat < S2x20000.size a)
theorem k0_idx166_inb : ∀ (v294 : IVec S16 32) (v298 : IVec S16 32) (k0_hw166 : k0_chk166 v294 v298), ∀ a x, ((![v298, v294] : Fin 2 → IVec S16 32) a x).toNat < S2x20000.size a := fun v294 v298 k0_hw166 => k0_hw166
def k0_off125 (k0_t4 : Fin k0_t4_loop.trips) : Fin 2 → Nat :=
  let c19_i32 : BitVec 32 := 19#32
  let v301 : Index := Scalar.indexCast c19_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v302 : Index := Scalar.indexCast v121
  ![19, v302.toNat]

def k0_chk167 (v303 : IVec S16 32) (v304 : IVec S16 32) : Prop :=
  (∀ a x, ((![v304, v303] : Fin 2 → IVec S16 32) a x).toNat < S2x20000.size a)
theorem k0_idx167_inb : ∀ (v303 : IVec S16 32) (v304 : IVec S16 32) (k0_hw167 : k0_chk167 v303 v304), ∀ a x, ((![v304, v303] : Fin 2 → IVec S16 32) a x).toNat < S2x20000.size a := fun v303 v304 k0_hw167 => k0_hw167

def k0_chk168 (v303 : IVec S16 32) (v307 : IVec S16 32) : Prop :=
  (∀ a x, ((![v307, v303] : Fin 2 → IVec S16 32) a x).toNat < S2x20000.size a)
theorem k0_idx168_inb : ∀ (v303 : IVec S16 32) (v307 : IVec S16 32) (k0_hw168 : k0_chk168 v303 v307), ∀ a x, ((![v307, v303] : Fin 2 → IVec S16 32) a x).toNat < S2x20000.size a := fun v303 v307 k0_hw168 => k0_hw168
def k0_off126 (k0_t4 : Fin k0_t4_loop.trips) : Fin 2 → Nat :=
  let c20_i32 : BitVec 32 := 20#32
  let v310 : Index := Scalar.indexCast c20_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v311 : Index := Scalar.indexCast v121
  ![20, v311.toNat]

def k0_chk169 (v312 : IVec S16 32) (v313 : IVec S16 32) : Prop :=
  (∀ a x, ((![v313, v312] : Fin 2 → IVec S16 32) a x).toNat < S2x20000.size a)
theorem k0_idx169_inb : ∀ (v312 : IVec S16 32) (v313 : IVec S16 32) (k0_hw169 : k0_chk169 v312 v313), ∀ a x, ((![v313, v312] : Fin 2 → IVec S16 32) a x).toNat < S2x20000.size a := fun v312 v313 k0_hw169 => k0_hw169

def k0_chk170 (v312 : IVec S16 32) (v316 : IVec S16 32) : Prop :=
  (∀ a x, ((![v316, v312] : Fin 2 → IVec S16 32) a x).toNat < S2x20000.size a)
theorem k0_idx170_inb : ∀ (v312 : IVec S16 32) (v316 : IVec S16 32) (k0_hw170 : k0_chk170 v312 v316), ∀ a x, ((![v316, v312] : Fin 2 → IVec S16 32) a x).toNat < S2x20000.size a := fun v312 v316 k0_hw170 => k0_hw170
def k0_off127 (k0_t4 : Fin k0_t4_loop.trips) : Fin 2 → Nat :=
  let c21_i32 : BitVec 32 := 21#32
  let v319 : Index := Scalar.indexCast c21_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v320 : Index := Scalar.indexCast v121
  ![21, v320.toNat]

def k0_chk171 (v321 : IVec S16 32) (v322 : IVec S16 32) : Prop :=
  (∀ a x, ((![v322, v321] : Fin 2 → IVec S16 32) a x).toNat < S2x20000.size a)
theorem k0_idx171_inb : ∀ (v321 : IVec S16 32) (v322 : IVec S16 32) (k0_hw171 : k0_chk171 v321 v322), ∀ a x, ((![v322, v321] : Fin 2 → IVec S16 32) a x).toNat < S2x20000.size a := fun v321 v322 k0_hw171 => k0_hw171

def k0_chk172 (v321 : IVec S16 32) (v325 : IVec S16 32) : Prop :=
  (∀ a x, ((![v325, v321] : Fin 2 → IVec S16 32) a x).toNat < S2x20000.size a)
theorem k0_idx172_inb : ∀ (v321 : IVec S16 32) (v325 : IVec S16 32) (k0_hw172 : k0_chk172 v321 v325), ∀ a x, ((![v325, v321] : Fin 2 → IVec S16 32) a x).toNat < S2x20000.size a := fun v321 v325 k0_hw172 => k0_hw172
def k0_off128 (k0_t4 : Fin k0_t4_loop.trips) : Fin 2 → Nat :=
  let c22_i32 : BitVec 32 := 22#32
  let v328 : Index := Scalar.indexCast c22_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v329 : Index := Scalar.indexCast v121
  ![22, v329.toNat]

def k0_chk173 (v330 : IVec S16 32) (v331 : IVec S16 32) : Prop :=
  (∀ a x, ((![v331, v330] : Fin 2 → IVec S16 32) a x).toNat < S2x20000.size a)
theorem k0_idx173_inb : ∀ (v330 : IVec S16 32) (v331 : IVec S16 32) (k0_hw173 : k0_chk173 v330 v331), ∀ a x, ((![v331, v330] : Fin 2 → IVec S16 32) a x).toNat < S2x20000.size a := fun v330 v331 k0_hw173 => k0_hw173

def k0_chk174 (v330 : IVec S16 32) (v334 : IVec S16 32) : Prop :=
  (∀ a x, ((![v334, v330] : Fin 2 → IVec S16 32) a x).toNat < S2x20000.size a)
theorem k0_idx174_inb : ∀ (v330 : IVec S16 32) (v334 : IVec S16 32) (k0_hw174 : k0_chk174 v330 v334), ∀ a x, ((![v334, v330] : Fin 2 → IVec S16 32) a x).toNat < S2x20000.size a := fun v330 v334 k0_hw174 => k0_hw174
def k0_off129 (k0_t4 : Fin k0_t4_loop.trips) : Fin 2 → Nat :=
  let c23_i32 : BitVec 32 := 23#32
  let v337 : Index := Scalar.indexCast c23_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v338 : Index := Scalar.indexCast v121
  ![23, v338.toNat]

def k0_chk175 (v339 : IVec S16 32) (v340 : IVec S16 32) : Prop :=
  (∀ a x, ((![v340, v339] : Fin 2 → IVec S16 32) a x).toNat < S2x20000.size a)
theorem k0_idx175_inb : ∀ (v339 : IVec S16 32) (v340 : IVec S16 32) (k0_hw175 : k0_chk175 v339 v340), ∀ a x, ((![v340, v339] : Fin 2 → IVec S16 32) a x).toNat < S2x20000.size a := fun v339 v340 k0_hw175 => k0_hw175

def k0_chk176 (v339 : IVec S16 32) (v343 : IVec S16 32) : Prop :=
  (∀ a x, ((![v343, v339] : Fin 2 → IVec S16 32) a x).toNat < S2x20000.size a)
theorem k0_idx176_inb : ∀ (v339 : IVec S16 32) (v343 : IVec S16 32) (k0_hw176 : k0_chk176 v339 v343), ∀ a x, ((![v343, v339] : Fin 2 → IVec S16 32) a x).toNat < S2x20000.size a := fun v339 v343 k0_hw176 => k0_hw176
def k0_off130 (k0_t4 : Fin k0_t4_loop.trips) : Fin 2 → Nat :=
  let c24_i32_179 : BitVec 32 := 24#32
  let v346 : Index := Scalar.indexCast c24_i32_179
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v347 : Index := Scalar.indexCast v121
  ![24, v347.toNat]

def k0_chk177 (v348 : IVec S16 32) (v349 : IVec S16 32) : Prop :=
  (∀ a x, ((![v349, v348] : Fin 2 → IVec S16 32) a x).toNat < S2x20000.size a)
theorem k0_idx177_inb : ∀ (v348 : IVec S16 32) (v349 : IVec S16 32) (k0_hw177 : k0_chk177 v348 v349), ∀ a x, ((![v349, v348] : Fin 2 → IVec S16 32) a x).toNat < S2x20000.size a := fun v348 v349 k0_hw177 => k0_hw177

def k0_chk178 (v348 : IVec S16 32) (v352 : IVec S16 32) : Prop :=
  (∀ a x, ((![v352, v348] : Fin 2 → IVec S16 32) a x).toNat < S2x20000.size a)
theorem k0_idx178_inb : ∀ (v348 : IVec S16 32) (v352 : IVec S16 32) (k0_hw178 : k0_chk178 v348 v352), ∀ a x, ((![v352, v348] : Fin 2 → IVec S16 32) a x).toNat < S2x20000.size a := fun v348 v352 k0_hw178 => k0_hw178
def k0_off131 (k0_t4 : Fin k0_t4_loop.trips) : Fin 2 → Nat :=
  let c25_i32 : BitVec 32 := 25#32
  let v355 : Index := Scalar.indexCast c25_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v356 : Index := Scalar.indexCast v121
  ![25, v356.toNat]

def k0_chk179 (v357 : IVec S16 32) (v358 : IVec S16 32) : Prop :=
  (∀ a x, ((![v358, v357] : Fin 2 → IVec S16 32) a x).toNat < S2x20000.size a)
theorem k0_idx179_inb : ∀ (v357 : IVec S16 32) (v358 : IVec S16 32) (k0_hw179 : k0_chk179 v357 v358), ∀ a x, ((![v358, v357] : Fin 2 → IVec S16 32) a x).toNat < S2x20000.size a := fun v357 v358 k0_hw179 => k0_hw179

def k0_chk180 (v357 : IVec S16 32) (v361 : IVec S16 32) : Prop :=
  (∀ a x, ((![v361, v357] : Fin 2 → IVec S16 32) a x).toNat < S2x20000.size a)
theorem k0_idx180_inb : ∀ (v357 : IVec S16 32) (v361 : IVec S16 32) (k0_hw180 : k0_chk180 v357 v361), ∀ a x, ((![v361, v357] : Fin 2 → IVec S16 32) a x).toNat < S2x20000.size a := fun v357 v361 k0_hw180 => k0_hw180
def k0_off132 (k0_t4 : Fin k0_t4_loop.trips) : Fin 2 → Nat :=
  let c26_i32 : BitVec 32 := 26#32
  let v364 : Index := Scalar.indexCast c26_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v365 : Index := Scalar.indexCast v121
  ![26, v365.toNat]

def k0_chk181 (v366 : IVec S16 32) (v367 : IVec S16 32) : Prop :=
  (∀ a x, ((![v367, v366] : Fin 2 → IVec S16 32) a x).toNat < S2x20000.size a)
theorem k0_idx181_inb : ∀ (v366 : IVec S16 32) (v367 : IVec S16 32) (k0_hw181 : k0_chk181 v366 v367), ∀ a x, ((![v367, v366] : Fin 2 → IVec S16 32) a x).toNat < S2x20000.size a := fun v366 v367 k0_hw181 => k0_hw181

def k0_chk182 (v366 : IVec S16 32) (v370 : IVec S16 32) : Prop :=
  (∀ a x, ((![v370, v366] : Fin 2 → IVec S16 32) a x).toNat < S2x20000.size a)
theorem k0_idx182_inb : ∀ (v366 : IVec S16 32) (v370 : IVec S16 32) (k0_hw182 : k0_chk182 v366 v370), ∀ a x, ((![v370, v366] : Fin 2 → IVec S16 32) a x).toNat < S2x20000.size a := fun v366 v370 k0_hw182 => k0_hw182
def k0_off133 (k0_t4 : Fin k0_t4_loop.trips) : Fin 2 → Nat :=
  let c27_i32 : BitVec 32 := 27#32
  let v373 : Index := Scalar.indexCast c27_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v374 : Index := Scalar.indexCast v121
  ![27, v374.toNat]

def k0_chk183 (v375 : IVec S16 32) (v376 : IVec S16 32) : Prop :=
  (∀ a x, ((![v376, v375] : Fin 2 → IVec S16 32) a x).toNat < S2x20000.size a)
theorem k0_idx183_inb : ∀ (v375 : IVec S16 32) (v376 : IVec S16 32) (k0_hw183 : k0_chk183 v375 v376), ∀ a x, ((![v376, v375] : Fin 2 → IVec S16 32) a x).toNat < S2x20000.size a := fun v375 v376 k0_hw183 => k0_hw183

def k0_chk184 (v375 : IVec S16 32) (v379 : IVec S16 32) : Prop :=
  (∀ a x, ((![v379, v375] : Fin 2 → IVec S16 32) a x).toNat < S2x20000.size a)
theorem k0_idx184_inb : ∀ (v375 : IVec S16 32) (v379 : IVec S16 32) (k0_hw184 : k0_chk184 v375 v379), ∀ a x, ((![v379, v375] : Fin 2 → IVec S16 32) a x).toNat < S2x20000.size a := fun v375 v379 k0_hw184 => k0_hw184
def k0_off134 (k0_t4 : Fin k0_t4_loop.trips) : Fin 2 → Nat :=
  let c28_i32 : BitVec 32 := 28#32
  let v382 : Index := Scalar.indexCast c28_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v383 : Index := Scalar.indexCast v121
  ![28, v383.toNat]

def k0_chk185 (v384 : IVec S16 32) (v385 : IVec S16 32) : Prop :=
  (∀ a x, ((![v385, v384] : Fin 2 → IVec S16 32) a x).toNat < S2x20000.size a)
theorem k0_idx185_inb : ∀ (v384 : IVec S16 32) (v385 : IVec S16 32) (k0_hw185 : k0_chk185 v384 v385), ∀ a x, ((![v385, v384] : Fin 2 → IVec S16 32) a x).toNat < S2x20000.size a := fun v384 v385 k0_hw185 => k0_hw185

def k0_chk186 (v384 : IVec S16 32) (v388 : IVec S16 32) : Prop :=
  (∀ a x, ((![v388, v384] : Fin 2 → IVec S16 32) a x).toNat < S2x20000.size a)
theorem k0_idx186_inb : ∀ (v384 : IVec S16 32) (v388 : IVec S16 32) (k0_hw186 : k0_chk186 v384 v388), ∀ a x, ((![v388, v384] : Fin 2 → IVec S16 32) a x).toNat < S2x20000.size a := fun v384 v388 k0_hw186 => k0_hw186
def k0_off135 (k0_t4 : Fin k0_t4_loop.trips) : Fin 2 → Nat :=
  let c29_i32 : BitVec 32 := 29#32
  let v391 : Index := Scalar.indexCast c29_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v392 : Index := Scalar.indexCast v121
  ![29, v392.toNat]

def k0_chk187 (v393 : IVec S16 32) (v394 : IVec S16 32) : Prop :=
  (∀ a x, ((![v394, v393] : Fin 2 → IVec S16 32) a x).toNat < S2x20000.size a)
theorem k0_idx187_inb : ∀ (v393 : IVec S16 32) (v394 : IVec S16 32) (k0_hw187 : k0_chk187 v393 v394), ∀ a x, ((![v394, v393] : Fin 2 → IVec S16 32) a x).toNat < S2x20000.size a := fun v393 v394 k0_hw187 => k0_hw187

def k0_chk188 (v393 : IVec S16 32) (v397 : IVec S16 32) : Prop :=
  (∀ a x, ((![v397, v393] : Fin 2 → IVec S16 32) a x).toNat < S2x20000.size a)
theorem k0_idx188_inb : ∀ (v393 : IVec S16 32) (v397 : IVec S16 32) (k0_hw188 : k0_chk188 v393 v397), ∀ a x, ((![v397, v393] : Fin 2 → IVec S16 32) a x).toNat < S2x20000.size a := fun v393 v397 k0_hw188 => k0_hw188
def k0_off136 (k0_t4 : Fin k0_t4_loop.trips) : Fin 2 → Nat :=
  let c30_i32 : BitVec 32 := 30#32
  let v400 : Index := Scalar.indexCast c30_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v401 : Index := Scalar.indexCast v121
  ![30, v401.toNat]

def k0_chk189 (v402 : IVec S16 32) (v403 : IVec S16 32) : Prop :=
  (∀ a x, ((![v403, v402] : Fin 2 → IVec S16 32) a x).toNat < S2x20000.size a)
theorem k0_idx189_inb : ∀ (v402 : IVec S16 32) (v403 : IVec S16 32) (k0_hw189 : k0_chk189 v402 v403), ∀ a x, ((![v403, v402] : Fin 2 → IVec S16 32) a x).toNat < S2x20000.size a := fun v402 v403 k0_hw189 => k0_hw189

def k0_chk190 (v402 : IVec S16 32) (v406 : IVec S16 32) : Prop :=
  (∀ a x, ((![v406, v402] : Fin 2 → IVec S16 32) a x).toNat < S2x20000.size a)
theorem k0_idx190_inb : ∀ (v402 : IVec S16 32) (v406 : IVec S16 32) (k0_hw190 : k0_chk190 v402 v406), ∀ a x, ((![v406, v402] : Fin 2 → IVec S16 32) a x).toNat < S2x20000.size a := fun v402 v406 k0_hw190 => k0_hw190
def k0_off137 (k0_t4 : Fin k0_t4_loop.trips) : Fin 2 → Nat :=
  let c31_i32 : BitVec 32 := 31#32
  let v409 : Index := Scalar.indexCast c31_i32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v410 : Index := Scalar.indexCast v121
  ![31, v410.toNat]

def k0_chk191 (v411 : IVec S16 32) (v412 : IVec S16 32) : Prop :=
  (∀ a x, ((![v412, v411] : Fin 2 → IVec S16 32) a x).toNat < S2x20000.size a)
theorem k0_idx191_inb : ∀ (v411 : IVec S16 32) (v412 : IVec S16 32) (k0_hw191 : k0_chk191 v411 v412), ∀ a x, ((![v412, v411] : Fin 2 → IVec S16 32) a x).toNat < S2x20000.size a := fun v411 v412 k0_hw191 => k0_hw191

def k0_chk192 (v411 : IVec S16 32) (v415 : IVec S16 32) : Prop :=
  (∀ a x, ((![v415, v411] : Fin 2 → IVec S16 32) a x).toNat < S2x20000.size a)
theorem k0_idx192_inb : ∀ (v411 : IVec S16 32) (v415 : IVec S16 32) (k0_hw192 : k0_chk192 v411 v415), ∀ a x, ((![v415, v411] : Fin 2 → IVec S16 32) a x).toNat < S2x20000.size a := fun v411 v415 k0_hw192 => k0_hw192
def k0_off138 (k0_t4 : Fin k0_t4_loop.trips) : Fin 2 → Nat :=
  let c0_i32_197 : BitVec 32 := 0#32
  let v425 : Index := Scalar.indexCast c0_i32_197
  let c19200_i32_196 : BitVec 32 := 19200#32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v424 : BitVec 32 := Scalar.addi c19200_i32_196 v121
  let v426 : Index := Scalar.indexCast v424
  ![0, v426.toNat]
def k0_off139 (k0_t4 : Fin k0_t4_loop.trips) : Fin 2 → Nat :=
  let c1_i32_199 : BitVec 32 := 1#32
  let v429 : Index := Scalar.indexCast c1_i32_199
  let c19200_i32_198 : BitVec 32 := 19200#32
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v428 : BitVec 32 := Scalar.addi c19200_i32_198 v121
  let v430 : Index := Scalar.indexCast v428
  ![1, v430.toNat]
def k0_off140 (k0_t4 : Fin k0_t4_loop.trips) : Fin 2 → Nat :=
  let c0_i32_200 : BitVec 32 := 0#32
  let v443 : Index := Scalar.indexCast c0_i32_200
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v444 : Index := Scalar.indexCast v121
  ![0, v444.toNat]
def k0_off141 (k0_t4 : Fin k0_t4_loop.trips) : Fin 2 → Nat :=
  let c1_i32_201 : BitVec 32 := 1#32
  let v448 : Index := Scalar.indexCast c1_i32_201
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v449 : Index := Scalar.indexCast v121
  ![1, v449.toNat]
def k0_off142 (k0_t4 : Fin k0_t4_loop.trips) : Fin 1 → Nat :=
  let c0_i32_112 : BitVec 32 := 0#32
  let c1_i32_113 : BitVec 32 := 1#32
  let arg31 : BitVec 32 := Scf.iv c0_i32_112 c1_i32_113 k0_t4
  let c16_i32_117 : BitVec 32 := 16#32
  let v121 : BitVec 32 := Scalar.muli arg31 c16_i32_117
  let v458 : Index := Scalar.indexCast v121
  ![v458.toNat]
def k0_off143 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v16 : BitVec 32 := Scalar.muli v1 c20000_i32
  let c19200_i32_115 : BitVec 32 := 19200#32
  let v107 : BitVec 32 := Scalar.addi v16 c19200_i32_115
  ![v107.toNat]
def k0_off144 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v16 : BitVec 32 := Scalar.muli v1 c20000_i32
  ![v16.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x20000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x20000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x20000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x20000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x2 : Shape := ⟨2, ![32, 2]⟩
abbrev S32x20000x2 : Shape := ⟨3, ![32, 20000, 2]⟩
abbrev S32x20000x32 : Shape := ⟨3, ![32, 20000, 32]⟩
abbrev S32x20000 : Shape := ⟨2, ![32, 20000]⟩
abbrev S_ : Shape := ⟨0, ![]⟩
abbrev S32x1x2 : Shape := ⟨3, ![32, 1, 2]⟩
abbrev S32x640000x1 : Shape := ⟨3, ![32, 640000, 1]⟩
abbrev S1 : Shape := ⟨1, ![1]⟩
abbrev S1x1x1 : Shape := ⟨3, ![1, 1, 1]⟩
abbrev S32x640000 : Shape := ⟨2, ![32, 640000]⟩
abbrev S32x640000x2 : Shape := ⟨3, ![32, 640000, 2]⟩
abbrev S32x20000x32x2 : Shape := ⟨4, ![32, 20000, 32, 2]⟩
abbrev S32x20000x1x2 : Shape := ⟨4, ![32, 20000, 1, 2]⟩
abbrev S32 : Shape := ⟨1, ![32]⟩
abbrev S32x1 : Shape := ⟨2, ![32, 1]⟩

abbrev nBuf : Space → Nat
  | .hbm => 75
  | .vmem => 0
  | .smem => 0
  | _ => 0

abbrev bufTy : (tb : Table) → Fin (tcTables nBuf tb) → BufTy
  | .hbm, ⟨0, _⟩ => ⟨S32x2, .f32⟩
  | .hbm, ⟨1, _⟩ => ⟨S32x20000x2, .f32⟩
  | .hbm, ⟨2, _⟩ => ⟨S32x20000x32, .i32⟩
  | .hbm, ⟨3, _⟩ => ⟨S32x20000, .i1⟩
  | .hbm, ⟨4, _⟩ => ⟨S32x2, .f32⟩
  | .hbm, ⟨5, _⟩ => ⟨S32x20000x2, .f32⟩
  | .hbm, ⟨6, _⟩ => ⟨S_, .f32⟩
  | .hbm, ⟨7, _⟩ => ⟨S_, .f32⟩
  | .hbm, ⟨8, _⟩ => ⟨S32x1x2, .f32⟩
  | .hbm, ⟨9, _⟩ => ⟨S32x20000x2, .f32⟩
  | .hbm, ⟨10, _⟩ => ⟨S32x20000x2, .f32⟩
  | .hbm, ⟨11, _⟩ => ⟨S_, .f32⟩
  | .hbm, ⟨12, _⟩ => ⟨S32x20000, .f32⟩
  | .hbm, ⟨13, _⟩ => ⟨S32x640000x1, .i32⟩
  | .hbm, ⟨14, _⟩ => ⟨S_, .i32⟩
  | .hbm, ⟨15, _⟩ => ⟨S32x640000x1, .i32⟩
  | .hbm, ⟨16, _⟩ => ⟨S32x640000x1, .i1⟩
  | .hbm, ⟨17, _⟩ => ⟨S_, .i32⟩
  | .hbm, ⟨18, _⟩ => ⟨S32x640000x1, .i32⟩
  | .hbm, ⟨19, _⟩ => ⟨S32x640000x1, .i32⟩
  | .hbm, ⟨20, _⟩ => ⟨S32x640000x1, .i32⟩
  | .hbm, ⟨21, _⟩ => ⟨S1, .i32⟩
  | .hbm, ⟨22, _⟩ => ⟨S_, .i32⟩
  | .hbm, ⟨23, _⟩ => ⟨S32x640000x1, .i32⟩
  | .hbm, ⟨24, _⟩ => ⟨S32x640000x1, .i1⟩
  | .hbm, ⟨25, _⟩ => ⟨S1x1x1, .i32⟩
  | .hbm, ⟨26, _⟩ => ⟨S32x640000x1, .i32⟩
  | .hbm, ⟨27, _⟩ => ⟨S32x640000x1, .i1⟩
  | .hbm, ⟨28, _⟩ => ⟨S32x640000x1, .i1⟩
  | .hbm, ⟨29, _⟩ => ⟨S_, .i1⟩
  | .hbm, ⟨30, _⟩ => ⟨S32x640000, .i1⟩
  | .hbm, ⟨31, _⟩ => ⟨S32x640000x2, .f32⟩
  | .hbm, ⟨32, _⟩ => ⟨S32x640000x2, .i1⟩
  | .hbm, ⟨33, _⟩ => ⟨S_, .f32⟩
  | .hbm, ⟨34, _⟩ => ⟨S32x640000x2, .f32⟩
  | .hbm, ⟨35, _⟩ => ⟨S32x640000x2, .f32⟩
  | .hbm, ⟨36, _⟩ => ⟨S32x20000x32x2, .f32⟩
  | .hbm, ⟨37, _⟩ => ⟨S32x20000x1x2, .f32⟩
  | .hbm, ⟨38, _⟩ => ⟨S32x20000x32x2, .f32⟩
  | .hbm, ⟨39, _⟩ => ⟨S32x20000x32x2, .f32⟩
  | .hbm, ⟨40, _⟩ => ⟨S_, .f32⟩
  | .hbm, ⟨41, _⟩ => ⟨S32x20000x32, .f32⟩
  | .hbm, ⟨42, _⟩ => ⟨S_, .f32⟩
  | .hbm, ⟨43, _⟩ => ⟨S32x20000, .f32⟩
  | .hbm, ⟨44, _⟩ => ⟨S32x1x2, .f32⟩
  | .hbm, ⟨45, _⟩ => ⟨S32x20000x2, .f32⟩
  | .hbm, ⟨46, _⟩ => ⟨S32x20000x2, .f32⟩
  | .hbm, ⟨47, _⟩ => ⟨S32x20000x2, .f32⟩
  | .hbm, ⟨48, _⟩ => ⟨S_, .f32⟩
  | .hbm, ⟨49, _⟩ => ⟨S32x20000, .f32⟩
  | .hbm, ⟨50, _⟩ => ⟨S32x20000, .f32⟩
  | .hbm, ⟨51, _⟩ => ⟨S32x20000, .f32⟩
  | .hbm, ⟨52, _⟩ => ⟨S32x20000, .f32⟩
  | .hbm, ⟨53, _⟩ => ⟨S32x20000, .f32⟩
  | .hbm, ⟨54, _⟩ => ⟨S32x20000, .f32⟩
  | .hbm, ⟨55, _⟩ => ⟨S32x20000, .f32⟩
  | .hbm, ⟨56, _⟩ => ⟨S32x20000, .f32⟩
  | .hbm, ⟨57, _⟩ => ⟨S_, .f32⟩
  | .hbm, ⟨58, _⟩ => ⟨S32x20000, .f32⟩
  | .hbm, ⟨59, _⟩ => ⟨S32x20000, .f32⟩
  | .hbm, ⟨60, _⟩ => ⟨S_, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S32x1, .f32⟩
  | .hbm, ⟨66, _⟩ => ⟨S32x20000, .f32⟩
  | .hbm, ⟨67, _⟩ => ⟨S32x20000, .f32⟩
  | .hbm, ⟨68, _⟩ => ⟨S32x20000, .f32⟩
  | .hbm, ⟨69, _⟩ => ⟨S_, .f32⟩
  | .hbm, ⟨70, _⟩ => ⟨S32, .f32⟩
  | .hbm, ⟨71, _⟩ => ⟨S32x1, .f32⟩
  | .hbm, ⟨72, _⟩ => ⟨S32x1, .f32⟩
  | .hbm, ⟨73, _⟩ => ⟨S32x20000, .f32⟩
  | .hbm, ⟨74, _⟩ => ⟨S32x20000, .f32⟩
  | _, _ => ⟨S32x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_c_2 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_0 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_2 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_call1_v0 : Ref sig .tc := ⟨.hbm, 58, rfl⟩
abbrev main_v24 : Ref sig .tc := ⟨.hbm, 59, rfl⟩
abbrev main_call2_cst : Ref sig .tc := ⟨.hbm, 60, rfl⟩
abbrev main_call2_v0 : Ref sig .tc := ⟨.hbm, 61, rfl⟩
abbrev main_call2_cst_0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_cst_1 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_v25 : Ref sig .tc := ⟨.hbm, 74, rfl⟩

abbrev nD : Nat := 1
abbrev τ : Topo := Topo.v7x

variable {F : FTy → Type} [FloatOps F]
-- ==== Proof.Host.lean ====
/-
  The host's operations around the two kernels, as two straight lines: before the SparseCore call the parameter table and
  the three transposed operands; after it the mask as numbers and the two results as matrices.
-/
module

public import proofs.«01_k».proof.KernelIdeal
public import proofs.«01_k».proof.Proof.Gen.KernelIdeal
public import Idealize.ShloMosaic.Lib.StableHlo.Run
public import Idealize.ShloMosaic.Lib.Pipeline.Frame

@[expose] public section

noncomputable section

namespace Cert.Interference

open Cert.KernelIdeal Cert.KernelIdeal.Gen
open Idealize.ShloMosaic
open Idealize.SL Idealize.SL.Sem

variable {F : FTy → Type} [FloatOps F]

/-- What runs before the SparseCore call. -/
def ops1 : List (HloOp τ sig (Elt F)) := [
  (StableHlo.nullary main_cst (constant S_ .f32 0x00000000#32)),
  (StableHlo.unary main_cst main_v0 (broadcastInDim S32x16 ![] bcast_S_S32x16 : (⟨S_, .f32⟩ : BufTy).Contents (Elt F) → (⟨S32x16, .f32⟩ : BufTy).Contents (Elt F))),
  (StableHlo.unary main_arg0 main_v1 ((extractStridedSlice S32x1 ![0, 0] · slices_S32x2_S32x1_0_0) : (⟨S32x2, .f32⟩ : BufTy).Contents (Elt F) → (⟨S32x1, .f32⟩ : BufTy).Contents (Elt F))),
  (StableHlo.reshape main_v1 main_v2 (rfl : (.f32 : EltTy) = .f32) shapeCasts_S32x1_S32),
  (StableHlo.nullary main_c (constantI S_ 32 0#32)),
  (StableHlo.unary main_c main_v3 (broadcastInDim S1 ![] bcast_S_S1 : (⟨S_, .i32⟩ : BufTy).Contents (Elt F) → (⟨S1, .i32⟩ : BufTy).Contents (Elt F))),
  (StableHlo.ternary main_v0 main_v3 main_v2 main_v4 ((fun x i u => Host.scatter scatter_S32x16_S1_S32_0_1_1_0 (fun _ b => b) x i u) : (⟨S32x16, .f32⟩ : BufTy).Contents (Elt F) → (⟨S1, .i32⟩ : BufTy).Contents (Elt F) → (⟨S32, .f32⟩ : BufTy).Contents (Elt F) → (⟨S32x16, .f32⟩ : BufTy).Contents (Elt F))),
  (StableHlo.unary main_arg0 main_v5 ((extractStridedSlice S32x1 ![0, 1] · slices_S32x2_S32x1_0_1) : (⟨S32x2, .f32⟩ : BufTy).Contents (Elt F) → (⟨S32x1, .f32⟩ : BufTy).Contents (Elt F))),
  (StableHlo.reshape main_v5 main_v6 (rfl : (.f32 : EltTy) = .f32) shapeCasts_S32x1_S32),
  (StableHlo.nullary main_c_0 (constantI S_ 32 1#32)),
  (StableHlo.unary main_c_0 main_v7 (broadcastInDim S1 ![] bcast_S_S1 : (⟨S_, .i32⟩ : BufTy).Contents (Elt F) → (⟨S1, .i32⟩ : BufTy).Contents (Elt F))),
  (StableHlo.ternary main_v4 main_v7 main_v6 main_v8 ((fun x i u => Host.scatter scatter_S32x16_S1_S32_0_1_1_0 (fun _ b => b) x i u) : (⟨S32x16, .f32⟩ : BufTy).Contents (Elt F) → (⟨S1, .i32⟩ : BufTy).Contents (Elt F) → (⟨S32, .f32⟩ : BufTy).Contents (Elt F) → (⟨S32x16, .f32⟩ : BufTy).Contents (Elt F))),
  (StableHlo.nullary main_c_1 (constantI S_ 32 2#32)),
  (StableHlo.unary main_c_1 main_v9 (broadcastInDim S1 ![] bcast_S_S1 : (⟨S_, .i32⟩ : BufTy).Contents (Elt F) → (⟨S1, .i32⟩ : BufTy).Contents (Elt F))),
  (StableHlo.unary main_arg6 main_v10 (broadcastInDim S32 ![] bcast_S_S32 : (⟨S_, .f32⟩ : BufTy).Contents (Elt F) → (⟨S32, .f32⟩ : BufTy).Contents (Elt F))),
  (StableHlo.ternary main_v8 main_v9 main_v10 main_v11 ((fun x i u => Host.scatter scatter_S32x16_S1_S32_0_1_1_0 (fun _ b => b) x i u) : (⟨S32x16, .f32⟩ : BufTy).Contents (Elt F) → (⟨S1, .i32⟩ : BufTy).Contents (Elt F) → (⟨S32, .f32⟩ : BufTy).Contents (Elt F) → (⟨S32x16, .f32⟩ : BufTy).Contents (Elt F))),
  (StableHlo.binary main_arg7 main_arg7 main_v12 (mulf : (⟨S_, .f32⟩ : BufTy).Contents (Elt F) → (⟨S_, .f32⟩ : BufTy).Contents (Elt F) → (⟨S_, .f32⟩ : BufTy).Contents (Elt F))),
  (StableHlo.nullary main_c_2 (constantI S_ 32 3#32)),
  (StableHlo.unary main_c_2 main_v13 (broadcastInDim S1 ![] bcast_S_S1 : (⟨S_, .i32⟩ : BufTy).Contents (Elt F) → (⟨S1, .i32⟩ : BufTy).Contents (Elt F))),
  (StableHlo.unary main_v12 main_v14 (broadcastInDim S32 ![] bcast_S_S32 : (⟨S_, .f32⟩ : BufTy).Contents (Elt F) → (⟨S32, .f32⟩ : BufTy).Contents (Elt F))),
  (StableHlo.ternary main_v11 main_v13 main_v14 main_v15 ((fun x i u => Host.scatter scatter_S32x16_S1_S32_0_1_1_0 (fun _ b => b) x i u) : (⟨S32x16, .f32⟩ : BufTy).Contents (Elt F) → (⟨S1, .i32⟩ : BufTy).Contents (Elt F) → (⟨S32, .f32⟩ : BufTy).Contents (Elt F) → (⟨S32x16, .f32⟩ : BufTy).Contents (Elt F))),
  (StableHlo.unary main_arg4 main_v16 ((extractStridedSlice S32x1 ![0, 0] · slices_S32x2_S32x1_0_0) : (⟨S32x2, .f32⟩ : BufTy).Contents (Elt F) → (⟨S32x1, .f32⟩ : BufTy).Contents (Elt F))),
  (StableHlo.reshape main_v16 main_v17 (rfl : (.f32 : EltTy) = .f32) shapeCasts_S32x1_S32),
  (StableHlo.nullary main_c_3 (constantI S_ 32 4#32)),
  (StableHlo.unary main_c_3 main_v18 (broadcastInDim S1 ![] bcast_S_S1 : (⟨S_, .i32⟩ : BufTy).Contents (Elt F) → (⟨S1, .i32⟩ : BufTy).Contents (Elt F))),
  (StableHlo.ternary main_v15 main_v18 main_v17 main_v19 ((fun x i u => Host.scatter scatter_S32x16_S1_S32_0_1_1_0 (fun _ b => b) x i u) : (⟨S32x16, .f32⟩ : BufTy).Contents (Elt F) → (⟨S1, .i32⟩ : BufTy).Contents (Elt F) → (⟨S32, .f32⟩ : BufTy).Contents (Elt F) → (⟨S32x16, .f32⟩ : BufTy).Contents (Elt F))),
  (StableHlo.unary main_arg4 main_v20 ((extractStridedSlice S32x1 ![0, 1] · slices_S32x2_S32x1_0_1) : (⟨S32x2, .f32⟩ : BufTy).Contents (Elt F) → (⟨S32x1, .f32⟩ : BufTy).Contents (Elt F))),
  (StableHlo.reshape main_v20 main_v21 (rfl : (.f32 : EltTy) = .f32) shapeCasts_S32x1_S32),
  (StableHlo.nullary main_c_4 (constantI S_ 32 5#32)),
  (StableHlo.unary main_c_4 main_v22 (broadcastInDim S1 ![] bcast_S_S1 : (⟨S_, .i32⟩ : BufTy).Contents (Elt F) → (⟨S1, .i32⟩ : BufTy).Contents (Elt F))),
  (StableHlo.ternary main_v19 main_v22 main_v21 main_v23 ((fun x i u => Host.scatter scatter_S32x16_S1_S32_0_1_1_0 (fun _ b => b) x i u) : (⟨S32x16, .f32⟩ : BufTy).Contents (Elt F) → (⟨S1, .i32⟩ : BufTy).Contents (Elt F) → (⟨S32, .f32⟩ : BufTy).Contents (Elt F) → (⟨S32x16, .f32⟩ : BufTy).Contents (Elt F))),
  (StableHlo.unary main_arg1 main_v24 ((transpose S32x2x20000 [0, 2, 1] · transposes_S32x20000x2_S32x2x20000_0_2_1) : (⟨S32x20000x2, .f32⟩ : BufTy).Contents (Elt F) → (⟨S32x2x20000, .f32⟩ : BufTy).Contents (Elt F))),
  (StableHlo.unary main_arg5 main_v25 ((transpose S32x2x20000 [0, 2, 1] · transposes_S32x20000x2_S32x2x20000_0_2_1) : (⟨S32x20000x2, .f32⟩ : BufTy).Contents (Elt F) → (⟨S32x2x20000, .f32⟩ : BufTy).Contents (Elt F))),
  (StableHlo.unary main_arg2 main_v26 ((transpose S32x32x20000 [0, 2, 1] · transposes_S32x20000x32_S32x32x20000_0_2_1) : (⟨S32x20000x32, .i32⟩ : BufTy).Contents (Elt F) → (⟨S32x32x20000, .i32⟩ : BufTy).Contents (Elt F))),
  (StableHlo.reshape main_v23 main_v27 (rfl : (.f32 : EltTy) = .f32) shapeCasts_S32x16_S512)]

/-- What runs between the two kernels. -/
def ops2 : List (HloOp τ sig (Elt F)) := [
  (StableHlo.unary main_arg3 main_v29 (uitofp .f32 : (⟨S32x20000, .i1⟩ : BufTy).Contents (Elt F) → (⟨S32x20000, .f32⟩ : BufTy).Contents (Elt F))),
  (StableHlo.reshape main_v28_0 main_v30 (rfl : (.f32 : EltTy) = .f32) shapeCasts_S640000_S32x20000),
  (StableHlo.reshape main_v28_1 main_v31 (rfl : (.f32 : EltTy) = .f32) shapeCasts_S640000_S32x20000)]

/-- The program: the first line, the SparseCore call, the second line, the pipeline. -/
theorem main_eq (d : Dev nD) : main (F := F) d = (StableHlo.seq ops1 >>= fun _ => sc.run d 0 >>= fun _ => StableHlo.seq ops2 >>= fun _ =>
    (Prog.lift (.customCall (SparseCore.inner (Pipeline.entry 0)) ()) >>= fun _ => pure ⟨⟩)) := rfl

/-- The host operations' buffers are the device's. -/
theorem ops1_sub : (ops1 (F := F)).Forall fun op => op.bufs ⊆ StableHlo.tcRefs τ sig := by
  simp only [ops1, List.Forall, StableHlo.nullary_bufs_sub, StableHlo.unary_bufs_sub, StableHlo.binary_bufs_sub, StableHlo.ternary_bufs_sub,
    StableHlo.reshape_bufs_sub, and_self]
theorem ops2_sub : (ops2 (F := F)).Forall fun op => op.bufs ⊆ StableHlo.tcRefs τ sig := by
  simp only [ops2, List.Forall, StableHlo.unary_bufs_sub, StableHlo.reshape_bufs_sub, and_self]

/-- None of them makes up a value. -/
theorem ops1_fresh : (ops1 (F := F)).Forall fun op => op.fresh = ∅ := by
  unfold ops1; simp only [List.Forall]; repeat' constructor
theorem ops2_fresh : (ops2 (F := F)).Forall fun op => op.fresh = ∅ := by
  unfold ops2; simp only [List.Forall]; repeat' constructor

end Cert.Interference

end
-- ==== Proof.Held.lean ====
/-
  What a processor holds of a buffer, spoken of through a view and a set of the view's own indices: `Reg c q v I G`
  says the elements under the indices `I` are held at the share `q` and read `G` there. The rules for loads, gathers,
  stores, copies and waits are restated in these words, so that the kernel's proof never mentions a buffer's own
  indices.
-/
module

public import Idealize.ShloMosaic.Lib.SparseCore.Quiescent
public import Idealize.ShloMosaic.Lib.Batch
public import Idealize.ShloMosaic.Lib.Tactic

@[expose] public section

noncomputable section

namespace Cert.Interference

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx)

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

section Held

variable (c : Thread nD τ)
variable {sp sp' : Space} {s s' t : Shape} {e e' : EltTy}

/-- The elements under the indices `I` of the view `v`, held at the share `q`, reading `G` there. -/
def Reg (q : PosShare TreeShare) (v : View sig c.2.kind sp s e) (I : Finset s.Idx) (G : s.Idx → Elt F e) : sProp 𝕄 :=
  iprop(∃ f : Buf (Elt F) (v.loc c), (v.loc c ↦[v.setOn I]{q} f) ∗ ⌜∀ x ∈ I, v.read (Elt F) f x = G x⌝)

instance Reg_storable (q : PosShare TreeShare) (v : View sig c.2.kind sp s e) (I : Finset s.Idx) (G : s.Idx → Elt F e) :
    BI.Storable (upEmb : UEmb _ 𝕄) (Reg (F := F) (Ix := Ix) (Name := Name) (U := U) (Lvl := Lvl) c q v I G) := by
  unfold Reg; infer_instance

/-- The same values on the held indices: the same holding. -/
theorem Reg_congr {q : PosShare TreeShare} {v : View sig c.2.kind sp s e} {I : Finset s.Idx} {G G' : s.Idx → Elt F e}
    (h : ∀ x ∈ I, G x = G' x) : (Reg c q v I G : sProp 𝕄) ⊢ Reg c q v I G' := by
  unfold Reg
  iintro ⟨%f, H, %hf⟩
  iexists f
  isplitl [H]; · iexact H
  ipureintro
  exact fun x hx => (hf x hx).trans (h x hx)

/-- A part of the held indices, and the others. -/
theorem Reg_split {q : PosShare TreeShare} {v : View sig c.2.kind sp s e} {I J : Finset s.Idx} {G : s.Idx → Elt F e} (h : J ⊆ I) :
    (Reg c q v I G : sProp 𝕄) ⊢ iprop(Reg c q v J G ∗ Reg c q v (I \ J) G) := by
  unfold Reg
  iintro ⟨%f, H, %hf⟩
  have hs : v.setOn I \ v.setOn J = v.setOn (I \ J) := by
    unfold View.setOn; rw [Finset.map_sdiff]
  ihave H' := (pointsTo_split_subset (Ix := Ix) (Name := Name) (U := U) (Lvl := Lvl) (ℓ := v.loc c) (q := q) (f := f) (S := v.setOn I) (I := v.setOn J)
    (Finset.map_subset_map.mpr h)).1 $$ H
  icases H' with ⟨H1, H2⟩
  isplitl [H1]
  · iexists f
    isplitl [H1]; · iexact H1
    ipureintro
    exact fun x hx => hf x (h hx)
  · iexists f
    isplitl [H2]
    · rw [hs]; iexact H2
    ipureintro
    exact fun x hx => hf x (Finset.mem_sdiff.mp hx).1

/-- Two disjoint parts at one value are their union. -/
theorem Reg_join {q : PosShare TreeShare} {v : View sig c.2.kind sp s e} {I J : Finset s.Idx} {G : s.Idx → Elt F e} (h : Disjoint I J) :
    iprop(Reg c q v I G ∗ Reg c q v J G) ⊢ (Reg c q v (I ∪ J) G : sProp 𝕄) := by
  unfold Reg
  iintro ⟨⟨%f, H1, %hf⟩, ⟨%g, H2, %hg⟩⟩
  have hd : Disjoint (v.setOn I) (v.setOn J) := (Finset.disjoint_map v.emb).mpr h
  classical
  ihave H := (pointsTo_join (Ix := Ix) (Name := Name) (U := U) (Lvl := Lvl) (ℓ := v.loc c) (q := q) (f := f) (g := g) hd) $$ [H1 H2]
  · isplitl [H1]; · iexact H1
    iexact H2
  iexists (v.setOn J).piecewise g f
  isplitl [H]
  · have hs : v.setOn (I ∪ J) = v.setOn I ∪ v.setOn J := by unfold View.setOn; rw [Finset.map_union]
    rw [hs]; iexact H
  ipureintro
  intro x hx
  by_cases hJ : x ∈ J
  · rw [View.read_apply, Finset.piecewise_eq_of_mem _ _ _ (v.mem_setOn.mpr hJ), ← View.read_apply]
    exact hg x hJ
  · rw [View.read_apply, Finset.piecewise_eq_of_notMem _ _ _ (fun h' => hJ (v.mem_setOn.mp h')), ← View.read_apply]
    exact hf x ((Finset.mem_union.mp hx).resolve_right hJ)

/-- A share is two shares. -/
theorem Reg_half {q : PosShare TreeShare} {v : View sig c.2.kind sp s e} {I : Finset s.Idx} {G : s.Idx → Elt F e} :
    (Reg c q v I G : sProp 𝕄) ⊢ iprop(Reg c q.left v I G ∗ Reg c q.right v I G) := by
  unfold Reg
  iintro ⟨%f, H, %hf⟩
  ihave H' := (pointsTo_share (Ix := Ix) (Name := Name) (U := U) (Lvl := Lvl) (ℓ := v.loc c) (I := v.setOn I) (f := f) (q := q) (q₁ := q.left) (q₂ := q.right) (PosShare.mem_left_op_right _)).1 $$ H
  icases H' with ⟨H1, H2⟩
  isplitl [H1]
  · iexists f
    isplitl [H1]; · iexact H1
    ipureintro; exact hf
  · iexists f
    isplitl [H2]; · iexact H2
    ipureintro; exact hf

/-- Held through a rectangle of a view: held through the view, on the rectangle's indices. -/
theorem Reg_of_slice {q : PosShare TreeShare} {v : View sig c.2.kind sp s e} (r : Rect s) {I : Finset r.shape.Idx}
    {G : r.shape.Idx → Elt F e} {G' : s.Idx → Elt F e} (h : ∀ x ∈ I, G' (r.emb x) = G x) :
    (Reg c q (v.slice r) I G : sProp 𝕄) ⊢ Reg c q v (I.map r.emb) G' := by
  unfold Reg
  iintro ⟨%f, H, %hf⟩
  iexists f
  isplitl [H]
  · have hs : (v.slice r).setOn I = v.setOn (I.map r.emb) := by
      unfold View.setOn; rw [View.emb_slice, Finset.map_map]
    rw [← hs]; iexact H
  ipureintro
  intro x hx
  obtain ⟨y, hy, rfl⟩ := Finset.mem_map.mp hx
  rw [h y hy]
  exact hf y hy

/-- The other way. -/
theorem Reg_to_slice {q : PosShare TreeShare} {v : View sig c.2.kind sp s e} (r : Rect s) {I : Finset r.shape.Idx}
    {G : r.shape.Idx → Elt F e} {G' : s.Idx → Elt F e} (h : ∀ x ∈ I, G' (r.emb x) = G x) :
    (Reg c q v (I.map r.emb) G' : sProp 𝕄) ⊢ Reg c q (v.slice r) I G := by
  unfold Reg
  iintro ⟨%f, H, %hf⟩
  iexists f
  isplitl [H]
  · have hs : (v.slice r).setOn I = v.setOn (I.map r.emb) := by
      unfold View.setOn; rw [View.emb_slice, Finset.map_map]
    rw [hs]; iexact H
  ipureintro
  intro x hx
  rw [← h x hx]
  exact hf _ (Finset.mem_map_of_mem _ hx)

/-- A view's elements in another shape of as many elements. -/
theorem Reg_of_reshape {q : PosShare TreeShare} {v : View sig c.2.kind sp s e} (hn : s'.numel = s.numel)
    {G : s'.Idx → Elt F e} {G' : s.Idx → Elt F e} (h : ∀ x, G' (Shape.reshapeEquiv hn x) = G x) :
    (Reg c q (v.reshape s' hn) Finset.univ G : sProp 𝕄) ⊢ Reg c q v Finset.univ G' := by
  unfold Reg
  iintro ⟨%f, H, %hf⟩
  iexists f
  isplitl [H]
  · have hs : (v.reshape s' hn).setOn Finset.univ = v.setOn Finset.univ := View.set_reshape v hn
    rw [← hs]; iexact H
  ipureintro
  intro x _
  obtain ⟨y, rfl⟩ := (Shape.reshapeEquiv hn).surjective x
  rw [h y]
  exact hf y (Finset.mem_univ _)

/-- The other way. -/
theorem Reg_to_reshape {q : PosShare TreeShare} {v : View sig c.2.kind sp s e} (hn : s'.numel = s.numel)
    {G : s'.Idx → Elt F e} {G' : s.Idx → Elt F e} (h : ∀ x, G' (Shape.reshapeEquiv hn x) = G x) :
    (Reg c q v Finset.univ G' : sProp 𝕄) ⊢ Reg c q (v.reshape s' hn) Finset.univ G := by
  unfold Reg
  iintro ⟨%f, H, %hf⟩
  iexists f
  isplitl [H]
  · have hs : (v.reshape s' hn).setOn Finset.univ = v.setOn Finset.univ := View.set_reshape v hn
    rw [hs]; iexact H
  ipureintro
  intro x _
  rw [← h x]
  exact hf _ (Finset.mem_univ _)

/-- Some share of every element of a view: enough to read it. -/
def Rd (v : View sig c.2.kind sp s e) (G : s.Idx → Elt F e) : sProp 𝕄 :=
  iprop(∃ q : PosShare TreeShare, Reg c q v Finset.univ G)

instance Rd_storable (v : View sig c.2.kind sp s e) (G : s.Idx → Elt F e) :
    BI.Storable (upEmb : UEmb _ 𝕄) (Rd (F := F) (Ix := Ix) (Name := Name) (U := U) (Lvl := Lvl) c v G) := by
  unfold Rd; infer_instance

/-- A right to read is two rights to read. -/
theorem Rd_dup {v : View sig c.2.kind sp s e} {G : s.Idx → Elt F e} :
    (Rd c v G : sProp 𝕄) ⊢ iprop(Rd c v G ∗ Rd c v G) := by
  unfold Rd
  iintro ⟨%q, H⟩
  ihave H' := (Reg_half (F := F) c) $$ H
  icases H' with ⟨H1, H2⟩
  isplitl [H1]
  · iexists _; iexact H1
  · iexists _; iexact H2

/-- The right to read a rectangle of a view. -/
theorem Rd_slice {v : View sig c.2.kind sp s e} (r : Rect s) {G : r.shape.Idx → Elt F e} {G' : s.Idx → Elt F e}
    (h : ∀ x, G' (r.emb x) = G x) : (Rd c v G' : sProp 𝕄) ⊢ Rd c (v.slice r) G := by
  unfold Rd
  iintro ⟨%q, H⟩
  iexists q
  ihave H' := (Reg_split (F := F) c (J := Finset.univ.map r.emb) (Finset.subset_univ _)) $$ H
  icases H' with ⟨H, -⟩
  iapply (Reg_to_slice c r (fun x _ => h x)) $$ H

/-- The right to read a view in another shape. -/
theorem Rd_reshape {v : View sig c.2.kind sp s e} (hn : s'.numel = s.numel)
    {G : s'.Idx → Elt F e} {G' : s.Idx → Elt F e} (h : ∀ x, G' (Shape.reshapeEquiv hn x) = G x) :
    (Rd c v G' : sProp 𝕄) ⊢ Rd c (v.reshape s' hn) G := by
  unfold Rd
  iintro ⟨%q, H⟩
  iexists q
  iapply (Reg_to_reshape c hn h) $$ H

end Held

/-! ## The rules -/

section Rules

variable [FloatOps F] {defs : Defs nD τ sig (Elt F) Λ} (𝒱 : Variants) (c : Thread nD τ) (bd : Option 𝒱.V)
variable {sp sp' : Space} {cs : CoreSpace} {s s' t : Shape} {e e' : EltTy} {α : Type}
variable {Q : α → sProp (MT nD τ sig Ix (Elt F) Name U Lvl)}

/-- A load of indices that are held. -/
theorem wp_load_reg {m : Memref sig c.2.kind cs s e} {r : Rect s} {hl : m.view.LoadsAt r}
    {k : (r.shape.Idx → Elt F e) → Prog (TpuEff nD τ sig (Elt F) Λ c.2) α} {q : PosShare TreeShare}
    {I : Finset s.Idx} {G : s.Idx → Elt F e} (hI : ∀ x, r.emb x ∈ I) :
    (Reg c q m.view I G : sProp 𝕄)
      ⊢ iprop((Reg c q m.view I G -∗ wp frame (wpE defs 𝒱 c bd) Set.univ (k fun x => G (r.emb x)) Q)
        -∗ wp frame (wpE defs 𝒱 c bd) Set.univ (.op (.load m r hl) k) Q) := by
  unfold Reg
  iintro ⟨%f, H, %hf⟩ Hk
  have hS : m.view.setOn r.set ⊆ m.view.setOn I := by
    unfold View.setOn
    refine Finset.map_subset_map.mpr fun y hy => ?_
    rw [← Rect.map_emb_univ] at hy
    obtain ⟨x, -, rfl⟩ := Finset.mem_map.mp hy
    exact hI x
  iapply (wp_load (defs := defs) 𝒱 c bd Set.univ (m := m) (r := r) (hl := hl) (k := k) hS) $$ H
  iintro H
  have hv : m.view.readAt (Elt F) r f = fun x => G (r.emb x) := by
    funext x
    rw [View.readAt_apply]
    exact hf _ (hI x)
  rw [hv]
  iapply Hk
  iexists f
  isplitl [H]; · iexact H
  ipureintro; exact hf

/-- A gather from a buffer held whole. -/
theorem wp_gather_reg {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {G : s.Idx → Elt F e} :
    (Reg c q base.view Finset.univ G : sProp 𝕄)
      ⊢ iprop((Reg c q base.view Finset.univ G -∗ wp frame (wpE defs 𝒱 c bd) Set.univ (k (loadIdx G idxs h)) Q)
        -∗ wp frame (wpE defs 𝒱 c bd) Set.univ (vectorLoadIdx base idxs h hl >>= k) Q) := by
  rw [SparseCore.vectorLoadIdx_bind]
  have hG : (fun x => G ((Rect.whole s).emb x)) = G := by
    funext x; rw [Rect.emb_whole_apply]
  have key := wp_load_reg (defs := defs) 𝒱 c bd (m := base) (r := Rect.whole s) (hl := View.loadsAt_whole hl)
    (k := fun f => k (loadIdx f idxs h)) (q := q) (I := Finset.univ) (G := G) (Q := Q) (fun _ => Finset.mem_univ _)
  rw [hG] at key
  exact key

/-- A store over indices that are held: the stored values there, what was there elsewhere. -/
theorem wp_store_reg {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α}
    {I : Finset s.Idx} {G : s.Idx → Elt F e} (G' : s.Idx → Elt F e) (hI : ∀ x, r.emb x ∈ I)
    (hin : ∀ x, G' (r.emb x) = w x) (hout : ∀ y ∈ I, y ∉ r.set → G' y = G y) :
    (Reg c fullShare m.view I G : sProp 𝕄)
      ⊢ iprop((Reg c fullShare m.view I G' -∗ wp frame (wpE defs 𝒱 c bd) Set.univ (k ⟨⟩) Q)
        -∗ wp frame (wpE defs 𝒱 c bd) Set.univ (.op (.store m r w Finset.univ hx hm) k) Q) := by
  unfold Reg
  iintro ⟨%f, H, %hf⟩ Hk
  have hS : (m.access r).setOn Finset.univ ⊆ m.view.setOn I := by
    unfold View.setOn
    rw [View.emb_slice, ← Finset.map_map]
    refine Finset.map_subset_map.mpr fun y hy => ?_
    obtain ⟨x, -, rfl⟩ := Finset.mem_map.mp hy
    exact hI x
  iapply (wp_store (defs := defs) 𝒱 c bd Set.univ (m := m) (r := r) (w := w) (hx := hx) (hm := hm) (k := k) hS) $$ H
  iintro H
  iapply Hk
  iexists ((m.access r).write (Elt F) f w Finset.univ)
  isplitl [H]; · iexact H
  ipureintro
  intro y hy
  by_cases hr : y ∈ r.set
  · rw [← Rect.map_emb_univ] at hr
    obtain ⟨x, -, rfl⟩ := Finset.mem_map.mp hr
    rw [hin x]
    exact View.read_slice_write_emb (v := m.view) r f w (Finset.mem_univ x)
  · rw [hout y hy hr, ← hf y hy]
    exact View.read_slice_write_of_not_mem (v := m.view) r f w (M := Finset.univ) (by rw [Rect.map_emb_univ]; exact hr)

variable [Infinite Name] (EC : UEmb Counters (MT nD τ sig Ix (Elt F) Name U Lvl)) [EC.LandsIn (upEmb : UEmb _ (MT nD τ sig Ix (Elt F) Name U Lvl))]

/-- A copy alone on its semaphore: in flight, it brings the destination holding what the source holds. -/
theorem wp_copy_reg {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {G G₀ : s.Idx → Elt F e}
    (ι : Ix) (N : ℕ) (hN : dst.view.amount sm = N) (hN0 : 0 < N) :
    iprop(Rd c src.view G ∗ Reg c fullShare dst.view Finset.univ G₀ ∗ semVal (c, sm) 0)
      ⊢ iprop((Flight EC c sm ι N (Reg c fullShare dst.view Finset.univ G) -∗ wp frame (wpE defs 𝒱 c bd) Set.univ (k ⟨⟩) Q)
          -∗ wp frame (wpE defs 𝒱 c bd) Set.univ (.op (.enqueueDma src (.here dst) sm hsrc hdst hsem) k) Q) := by
  unfold Rd Reg
  iintro ⟨⟨%q, %fs, Hs, %hs⟩, ⟨%fd, Hd, -⟩, Hv⟩ Hk
  iapply (wp_dmaLocal (defs := defs) EC 𝒱 c bd (src := src) (via := .same) (dst := dst) (sm := sm) (k := k) ι N hN hN0 (Sd := dst.view.setOn Finset.univ) subset_rfl) $$ [Hs Hd Hv]
  · isplitl [Hs]; · iexact Hs
    isplitl [Hd]; · iexact Hd
    iexact Hv
  iintro HF
  iapply Hk
  iapply (Flight_mono EC c (sm := sm) (ι := ι) (N := N) ?_) $$ HF
  iintro ⟨H, -⟩
  iexists _
  isplitl [H]; · iexact H
  ipureintro
  intro x hx
  rw [View.read_write_of_mem _ _ hx]
  exact hs x (Finset.mem_univ _)

/-- The next copy of a batch sharing one semaphore. -/
theorem wp_copyBatch_reg {n : ℕ} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {G G₀ : s.Idx → Elt F e} {q : PosShare TreeShare}
    {D : Fin n → sProp 𝕄} {j : ℕ}
    (ι : Ix) (N : ℕ) (hN : dst.view.amount sm = N) (hj : j < n)
    (hD : iprop(Reg c fullShare dst.view Finset.univ G ∗ Reg c q src.view Finset.univ G) ⊢ D ⟨j, hj⟩) :
    iprop(Reg c q src.view Finset.univ G ∗ Reg c fullShare dst.view Finset.univ G₀ ∗ Batch EC c sm ι N D j 0)
      ⊢ iprop((Batch EC c sm ι N D (j + 1) 0 -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, HB⟩ Hk
  ihave Hs := (show (Reg c q src.view Finset.univ G : sProp 𝕄) ⊢ iprop(∃ f : Buf (Elt F) (src.view.loc c), (src.view.loc c ↦[src.view.setOn Finset.univ]{q} f) ∗ ⌜∀ x ∈ Finset.univ, src.view.read (Elt F) f x = G x⌝) from Entails.rfl) $$ Hs
  ihave Hd := (show (Reg c fullShare dst.view Finset.univ G₀ : sProp 𝕄) ⊢ iprop(∃ f : Buf (Elt F) (dst.view.loc c), (dst.view.loc c ↦[dst.view.setOn Finset.univ]{fullShare} f) ∗ ⌜∀ x ∈ Finset.univ, dst.view.read (Elt F) f x = G₀ x⌝) from Entails.rfl) $$ Hd
  icases Hs with ⟨%fs, Hs, %hs⟩
  icases Hd with ⟨%fd, Hd, -⟩
  iapply (wp_dmaBatch (defs := defs) EC 𝒱 c bd (src := src) (via := .same) (dst := dst) (sm := sm) (k := k) ι N hN (fs := fs) (fd := fd) (q := q) (Sd := dst.view.setOn Finset.univ) subset_rfl hj
    (Nat.zero_le _) ?_) $$ [Hs Hd HB]
  · refine BIBase.Entails.trans ?_ hD
    unfold Reg
    iintro ⟨H, Hs⟩
    isplitl [H]
    · iexists _
      isplitl [H]; · iexact H
      ipureintro
      intro x hx
      rw [View.read_write_of_mem _ _ hx]
      exact hs x (Finset.mem_univ _)
    · iexists _
      isplitl [Hs]; · iexact Hs
      ipureintro; exact hs
  · isplitl [Hs]; · iexact Hs
    isplitl [Hd]; · iexact Hd
    iexact HB
  · iexact Hk

end Rules

end Cert.Interference
-- ==== Proof.Node.lean ====
/-
  One node's two results, from the tables a tile holds: the interference `aNode` of the node with its thirty-two
  neighbours and the query, and the squared weighted distance `dNode`. The sums are the kernel's own, in its order, over
  any float values.
-/
module

public import proofs.«01_k».proof.Defs
public import proofs.«01_k».proof.Proof.Held
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix1 ix2 eq_ix1 eq_ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A table of two axes read at two numbers, each taken modulo its axis. -/
def at2 {m n : ℕ} [NeZero m] [NeZero n] {α : Type} (G : (⟨2, ![m, n]⟩ : Shape).Idx → α) (a b : ℕ) : α :=
  G (ix2 (Fin.ofNat m a) (Fin.ofNat n b))

/-- An element of a table of two axes, by its two coordinates. -/
theorem at2_eq {m n : ℕ} [NeZero m] [NeZero n] {α : Type} (G : (⟨2, ![m, n]⟩ : Shape).Idx → α) (x : (⟨2, ![m, n]⟩ : Shape).Idx)
    {a b : ℕ} (ha : (x 0 : ℕ) = a) (hb : (x 1 : ℕ) = b) : G x = at2 G a b := by
  subst ha hb
  unfold at2
  congr 1
  funext d
  match d with
  | ⟨0, _⟩ => exact Fin.ext (Nat.mod_eq_of_lt (x 0).isLt).symm
  | ⟨1, _⟩ => exact Fin.ext (Nat.mod_eq_of_lt (x 1).isLt).symm

/-- The sum of thirty-two values in four interleaved partial sums, each from zero. -/
def sum32 (r : ℕ → F .f32) : F .f32 :=
  let part (w : ℕ) : F .f32 := (List.range 8).foldl (fun s m => FloatOps.addf s (r (4 * m + w))) (Scalar.ofBits .f32 0x00000000#32)
  FloatOps.addf (FloatOps.addf (part 0) (part 1)) (FloatOps.addf (part 2) (part 3))

/-- A node's interference: its own two coordinates against the query's and the weighted sums of its neighbours'. -/
def aNode (qx qy lam : F .f32) (T : ℕ → ℕ → F .f32) (nb : ℕ → BitVec 32) (own : ℕ) : F .f32 :=
  FloatOps.addf
    (FloatOps.mulf (T 0 own) (FloatOps.addf qx (FloatOps.mulf lam (sum32 fun k => T 0 (nb k).toNat))))
    (FloatOps.mulf (T 1 own) (FloatOps.addf qy (FloatOps.mulf lam (sum32 fun k => T 1 (nb k).toNat))))

/-- A node's weighted squared distance from the current point. -/
def dNode (mu2 cx cy : F .f32) (x y : F .f32) : F .f32 :=
  FloatOps.mulf mu2 (FloatOps.addf (FloatOps.mulf (FloatOps.subf x cx) (FloatOps.subf x cx)) (FloatOps.mulf (FloatOps.subf y cy) (FloatOps.subf y cy)))

/-- A buffer with sixteen of its elements, from `lo`, set to the values `a` gives their places. -/
def stored {n : ℕ} (lo : ℕ) (a : ℕ → F .f32) (A : (⟨1, ![n]⟩ : Shape).Idx → F .f32) : (⟨1, ![n]⟩ : Shape).Idx → F .f32 :=
  fun x => if lo ≤ (x 0 : ℕ) ∧ (x 0 : ℕ) < lo + 16 then a (x 0) else A x

end Cert.Interference
-- ==== Proof.Steps.lean ====
/-
  The steps of a group of sixteen nodes: a row of neighbour indices is loaded, checked against the table's extent, and
  gathered from.
-/
module

public import proofs.«01_k».proof.Defs
public import proofs.«01_k».proof.Proof.Node
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix1 ix2 eq_ix1 eq_ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

section Steps

variable {m n p : ℕ} [NeZero m] [NeZero n] [NeZero p]

/-- Sixteen consecutive elements of a row, loaded as a block of one row and read as a vector. -/
theorem shapeCast_row {α : Type} (G : (⟨2, ![m, n]⟩ : Shape).Idx → α) (off : Fin 2 → ℕ)
    (ho : ∀ a, off a + S1x16.size a ≤ (⟨2, ![m, n]⟩ : Shape).size a) (h : S1x16.ShapeCasts S16) (x : S16.Idx) :
    shapeCast S16 (fun y => G ((Rect.unit (s := ⟨2, ![m, n]⟩) off S1x16.size ho).emb y)) h x
      = at2 G (off 0) (off 1 + (x 0 : ℕ)) := by
  unfold shapeCast
  have e := Shape.reshapeEquiv_cons_one (d := ![16]) h x
  have e0 : ((Shape.reshapeEquiv h x) 0 : ℕ) = 0 := congrArg Fin.val (congrFun e 0)
  have e1 : ((Shape.reshapeEquiv h x) 1 : ℕ) = (x 0 : ℕ) := congrArg Fin.val (congrFun e 1)
  refine at2_eq G _ ?_ ?_
  · show off 0 + 1 * ((Shape.reshapeEquiv h x) 0 : ℕ) = _
    rw [e0]; omega
  · show off 1 + 1 * ((Shape.reshapeEquiv h x) 1 : ℕ) = _
    rw [e1]; omega

/-- A gather from a table of two rows, at one row and at the sixteen columns named by a row of an index array. -/
theorem loadIdx_row {e : EltTy} (T : (⟨2, ![2, p]⟩ : Shape).Idx → Elt F e) (G : (⟨2, ![m, n]⟩ : Shape).Idx → BitVec 32) (a0 : BitVec 32)
    (off : Fin 2 → ℕ) (ho : ∀ a, off a + S1x16.size a ≤ (⟨2, ![m, n]⟩ : Shape).size a) (hc : S1x16.ShapeCasts S16)
    (h : ∀ a x, ((![broadcast S16 a0, shapeCast S16 (fun y => G ((Rect.unit (s := ⟨2, ![m, n]⟩) off S1x16.size ho).emb y)) hc] : Fin 2 → IVec S16 32) a x).toNat < (⟨2, ![2, p]⟩ : Shape).size a) :
    loadIdx (F := F) (s := ⟨2, ![2, p]⟩) (e := e) T ![broadcast S16 a0, shapeCast S16 (fun y => G ((Rect.unit (s := ⟨2, ![m, n]⟩) off S1x16.size ho).emb y)) hc] h
      = fun x => at2 T a0.toNat (at2 G (off 0) (off 1 + (x 0 : ℕ))).toNat := by
  funext x
  rw [← shapeCast_row G off ho hc x]
  unfold loadIdx
  exact at2_eq _ _ rfl rfl

/-- The check before a gather: the row is one of the table's two and every index of an in-range array names a column. -/
theorem row_ok {G : (⟨2, ![m, n]⟩ : Shape).Idx → BitVec 32} (hG : ∀ x, (G x).toNat < p) {a0 : BitVec 32} (ha : a0.toNat < 2)
    {off : Fin 2 → ℕ} {ho : ∀ a, off a + S1x16.size a ≤ (⟨2, ![m, n]⟩ : Shape).size a} {hc : S1x16.ShapeCasts S16} :
    ∀ a x, ((![broadcast S16 a0, shapeCast S16 (fun y => G ((Rect.unit (s := ⟨2, ![m, n]⟩) off S1x16.size ho).emb y)) hc] : Fin 2 → IVec S16 32) a x).toNat < (⟨2, ![2, p]⟩ : Shape).size a := by
  intro a x
  match a with
  | ⟨0, _⟩ => exact ha
  | ⟨1, _⟩ => exact hG _

end Steps

/-- What a group works on: the table of the nodes' coordinates, a chunk's neighbour indices, its nodes' coordinates, and
    the two buffers the results go to, each with what it holds. -/
def Chunk {W : ℕ} (c : Thread nD τ) (tab : Memref sig c.2.kind .vmem S2x20000 .f32)
    (idx : Memref sig c.2.kind .vmem (⟨2, ![32, W]⟩ : Shape) .i32) (al : Memref sig c.2.kind .vmem (⟨2, ![2, W]⟩ : Shape) .f32)
    (ab db : Memref sig c.2.kind .vmem (⟨1, ![W]⟩ : Shape) .f32) (T : S2x20000.Idx → F .f32)
    (Gi : (⟨2, ![32, W]⟩ : Shape).Idx → BitVec 32) (L : (⟨2, ![2, W]⟩ : Shape).Idx → F .f32)
    (A D : (⟨1, ![W]⟩ : Shape).Idx → F .f32) : sProp 𝕄 :=
  iprop(Reg c fullShare idx.view Finset.univ Gi ∗ Reg c fullShare tab.view Finset.univ T ∗ Reg c fullShare al.view Finset.univ L ∗
    Reg c fullShare ab.view Finset.univ A ∗ Reg c fullShare db.view Finset.univ D)

/-- The thread of the tile at a pair of a SparseCore and a subcore. -/
abbrev tile (d : Dev nD) (i : grid0.Coords) : Thread nD τ := V d ((i 0).castLE hcore0) ((i 1).castLE hsub0)

section Rules

variable {defs : Defs nD τ sig (Elt F) Λ₀} (𝒱 : Variants) (c : Thread nD τ) (bd : Option 𝒱.V)
variable {α β : Type} {Q : α → sProp (MT nD τ sig Ix (Elt F) Name U Lvl)}

/-- A program in two parts is run part by part. -/
theorem wp_seq {p : Prog (TpuEff nD τ sig (Elt F) Λ₀ c.2) β} {k : β → Prog (TpuEff nD τ sig (Elt F) Λ₀ c.2) α} :
    wp frame (wpE defs 𝒱 c bd) Set.univ p (fun a => wp frame (wpE defs 𝒱 c bd) Set.univ (k a) Q)
      ⊢ wp frame (wpE defs 𝒱 c bd) Set.univ (p >>= k) Q := by
  rw [wp_bind]

/-- A check that holds is passed. -/
theorem wp_check {P : Prop} {d : Decidable P} {k : PLift P → Prog (TpuEff nD τ sig (Elt F) Λ₀ c.2) α} (h : P) :
    wp frame (wpE defs 𝒱 c bd) Set.univ (k ⟨h⟩) Q
      ⊢ wp frame (wpE defs 𝒱 c bd) Set.univ (Prog.lift (TpuEff.assume P d) >>= k) Q := by
  show _ ⊢ wp frame (wpE defs 𝒱 c bd) Set.univ (.op (.assume P d) k) Q
  rw [wp_assume_of 𝒱 c bd Set.univ h]

/-- A program that returns a value has the value's postcondition. -/
theorem wp_done {a : α} : Q a ⊢ wp frame (wpE defs 𝒱 c bd) Set.univ (pure a : Prog (TpuEff nD τ sig (Elt F) Λ₀ c.2) α) Q := by
  rw [wp_pure]
  exact fupd_intro

variable {m n p : ℕ} [NeZero m] [NeZero n] [NeZero p]

/-- A row of the held array is loaded. -/
theorem wp_row {cs : CoreSpace} {s : Shape} {e : EltTy} {M : Memref sig c.2.kind cs s e} {r : Rect s} {hl : M.view.LoadsAt r.toLoadRect}
    {k : (r.shape.Idx → Elt F e) → Prog (TpuEff nD τ sig (Elt F) Λ₀ c.2) α} {q : PosShare TreeShare} (G : s.Idx → Elt F e) :
    (Reg c q M.view Finset.univ G : sProp 𝕄)
      ⊢ iprop((Reg c q M.view Finset.univ G -∗ wp frame (wpE defs 𝒱 c bd) Set.univ (k fun y => G (r.emb y)) Q)
        -∗ wp frame (wpE defs 𝒱 c bd) Set.univ (Prog.lift (.load M r.toLoadRect hl) >>= k) Q) :=
  wp_load_reg 𝒱 c bd fun _ => Finset.mem_univ _

/-- A gather at the sixteen columns a loaded row names. -/
theorem wp_pick {e : EltTy} {M : Memref sig c.2.kind .vmem (⟨2, ![2, p]⟩ : Shape) e} (G : (⟨2, ![m, n]⟩ : Shape).Idx → BitVec 32)
    {a0 : BitVec 32} {off : Fin 2 → ℕ} {ho : ∀ a, off a + S1x16.size a ≤ (⟨2, ![m, n]⟩ : Shape).size a} {hc : S1x16.ShapeCasts S16}
    {h : ∀ a x, ((![broadcast S16 a0, shapeCast S16 (fun y => G ((Rect.unit (s := ⟨2, ![m, n]⟩) off S1x16.size ho).emb y)) hc] : Fin 2 → IVec S16 32) a x).toNat < (⟨2, ![2, p]⟩ : Shape).size a}
    {hl : M.view.Loads} {k : Vec F S16 e → Prog (TpuEff nD τ sig (Elt F) Λ₀ c.2) α} {q : PosShare TreeShare} (T : (⟨2, ![2, p]⟩ : Shape).Idx → Elt F e) :
    (Reg c q M.view Finset.univ T : sProp 𝕄)
      ⊢ iprop((Reg c q M.view Finset.univ T -∗ wp frame (wpE defs 𝒱 c bd) Set.univ (k fun x => at2 T a0.toNat (at2 G (off 0) (off 1 + (x 0 : ℕ))).toNat) Q)
        -∗ wp frame (wpE defs 𝒱 c bd) Set.univ (vectorLoadIdx M ![broadcast S16 a0, shapeCast S16 (fun y => G ((Rect.unit (s := ⟨2, ![m, n]⟩) off S1x16.size ho).emb y)) hc] h hl >>= k) Q) := by
  rw [← loadIdx_row T G a0 off ho hc h]
  exact wp_gather_reg 𝒱 c bd

/-- Sixteen elements of a held buffer are stored. -/
theorem wp_put {cs : CoreSpace} {M : Memref sig c.2.kind cs (⟨1, ![n]⟩ : Shape) .f32} {off : Fin 1 → ℕ}
    {ho : ∀ a, off a + S16.size a ≤ (⟨1, ![n]⟩ : Shape).size a} {w : S16.Idx → F .f32}
    {hx : (M.access (Rect.unit (s := ⟨1, ![n]⟩) off S16.size ho)).Stores Finset.univ} {hm : (Finset.univ : Finset S16.Idx) = Finset.univ ∨ ∀ a, (Rect.unit (s := ⟨1, ![n]⟩) off S16.size ho).stride a = 1}
    {k : PUnit → Prog (TpuEff nD τ sig (Elt F) Λ₀ c.2) α} (a : ℕ → F .f32) (A : (⟨1, ![n]⟩ : Shape).Idx → F .f32)
    (hw : ∀ x, a (off 0 + (x 0 : ℕ)) = w x) :
    (Reg c fullShare M.view Finset.univ A : sProp 𝕄)
      ⊢ iprop((Reg c fullShare M.view Finset.univ (stored (off 0) a A) -∗ wp frame (wpE defs 𝒱 c bd) Set.univ (k ⟨⟩) Q)
        -∗ wp frame (wpE defs 𝒱 c bd) Set.univ (Prog.lift (.store M (Rect.unit (s := ⟨1, ![n]⟩) off S16.size ho) w Finset.univ hx hm) >>= k) Q) := by
  refine wp_store_reg (defs := defs) 𝒱 c bd (m := M) (r := Rect.unit (s := ⟨1, ![n]⟩) off S16.size ho) (w := w) (G := A) (stored (off 0) a A) (fun _ => Finset.mem_univ _) (fun x => ?_) (fun y _ hy => ?_)
  · have h0 : (((Rect.unit (s := ⟨1, ![n]⟩) off S16.size ho).emb x) 0 : ℕ) = off 0 + (x 0 : ℕ) := by
      show off 0 + 1 * (x 0 : ℕ) = _
      omega
    unfold stored
    rw [h0, if_pos ⟨Nat.le_add_right _ _, Nat.add_lt_add_left (x 0).isLt _⟩, hw x]
  · unfold stored
    rw [if_neg]
    rintro ⟨h1, h2⟩
    refine hy (Rect.mem_set_unit.mpr fun a => ?_)
    match a with
    | ⟨0, _⟩ => exact ⟨h1, h2⟩

end Rules

end Cert.Interference
-- ==== Proof.Copies.lean ====
/-
  The copies a tile starts and waits for, each as a rule about what is held before and after: a chunk's index rows in four
  blocks of eight rows, its coordinates in one copy, and its two results out to the tile's stretch of the result arrays.
-/
module

public import proofs.«01_k».proof.Defs
public import proofs.«01_k».proof.Proof.Steps
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix3)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (c : Thread nD τ) (bd : Option 𝒱.V)
variable {α : Type} {Q : α → sProp (MT nD τ sig Ix (Elt F) Name U Lvl)}
variable [Infinite Name] (EC : UEmb Counters (MT nD τ sig Ix (Elt F) Name U Lvl)) [EC.LandsIn (upEmb : UEmb _ (MT nD τ sig Ix (Elt F) Name U Lvl))]

/-! ## What is awaited -/

/-- What the thread owes, with the waits it has made since `W` all on the index `ι`, and the evidence that it may wait. -/
def Owed (ι : Ix) (O : CellTallies nD τ sig Ix) (W : Waits sig Ix) : sProp 𝕄 :=
  iprop(∃ W', ⌜∀ p ∈ W', p ∈ W ∨ p.2 = ι⌝ ∗ owes c O W' ∗ MayWaits c ι O)

section Waits

variable {sp sp' : Space} {s s' : Shape} {e e' : EltTy} {κ' : Kind} {sem : DmaSem sig}
variable {srcw : Memref sig c.2.kind sp' s' e'} {dstw : Memref sig κ' sp s e} {hsrc : srcw.view.WordExact} {hdst : dstw.view.WordExact}
variable {k : PUnit → Prog (TpuEff nD τ sig (Elt F) Λ₀ c.2) α} {ι : Ix} {N : ℕ} {O : CellTallies nD τ sig Ix} {W : Waits sig Ix}

/-- A wait for one copy of a batch that is not the last. -/
theorem wp_wait_more {n : ℕ} {D : Fin n → sProp 𝕄} {u : ℕ} (hN : dstw.view.dmaCredit = N) (hu : u + N < N * n) :
    iprop(Batch EC c (.dma sem) ι N D n u ∗ Owed c ι O W)
      ⊢ iprop((iprop(Batch EC c (.dma sem) ι N D n (u + N) ∗ Owed c ι O W) -∗ wp frame (wpE defs 𝒱 c bd) Set.univ (k ⟨⟩) Q)
          -∗ wp frame (wpE defs 𝒱 c bd) Set.univ (Prog.lift (.waitDma2 sem srcw dstw hsrc hdst) >>= k) Q) := by
  unfold Owed
  iintro ⟨HB, %W', %hW, HO, #HM⟩ Hk
  iapply (wp_waitBatchO (defs := defs) EC 𝒱 c bd (srcw := srcw) (hsrc := hsrc) (hdst := hdst) (k := k) ι hN hu) $$ [HB HO]
  · isplitl [HB]; · iexact HB
    isplitl [HO]; · iexact HO
    iapply (MayWaits.elim (.dma sem)); iexact HM
  iintro ⟨HB, HO⟩
  iapply Hk
  isplitl [HB]; · iexact HB
  iexists (insert (SemLoc.dma sem, ι) W')
  isplit
  · ipureintro
    intro p hp
    rcases Finset.mem_insert.mp hp with rfl | hp
    · exact .inr rfl
    · exact hW p hp
  isplitl [HO]; · iexact HO
  iexact HM

/-- The wait for the last copy of a batch: everything the batch delivers. -/
theorem wp_wait_all {n : ℕ} {D : Fin n → sProp 𝕄} {u : ℕ} (hN : dstw.view.dmaCredit = N) (hN0 : 0 < N) (hu : u + N = N * n) :
    iprop(Batch EC c (.dma sem) ι N D n u ∗ Owed c ι O W)
      ⊢ iprop((iprop(bigSep Finset.univ D ∗ semVal (c, .dma sem) 0 ∗ Owed c ι O W) -∗ wp frame (wpE defs 𝒱 c bd) Set.univ (k ⟨⟩) Q)
          -∗ wp frame (wpE defs 𝒱 c bd) Set.univ (Prog.lift (.waitDma2 sem srcw dstw hsrc hdst) >>= k) Q) := by
  unfold Owed
  iintro ⟨HB, %W', %hW, HO, #HM⟩ Hk
  iapply (wp_waitBatchLastO (defs := defs) EC 𝒱 c bd (srcw := srcw) (hsrc := hsrc) (hdst := hdst) (k := k) ι hN hN0 hu) $$ [HB HO]
  · isplitl [HB]; · iexact HB
    isplitl [HO]; · iexact HO
    iapply (MayWaits.elim (.dma sem)); iexact HM
  iintro ⟨HB, HV, HO⟩
  iapply Hk
  isplitl [HB]; · iexact HB
  isplitl [HV]; · iexact HV
  iexists (insert (SemLoc.dma sem, ι) W')
  isplit
  · ipureintro
    intro p hp
    rcases Finset.mem_insert.mp hp with rfl | hp
    · exact .inr rfl
    · exact hW p hp
  isplitl [HO]; · iexact HO
  iexact HM

/-- The wait for a copy alone on its semaphore. -/
theorem wp_wait_one {D : sProp 𝕄} (hN : dstw.view.dmaCredit = N) :
    iprop(Flight EC c (.dma sem) ι N D ∗ Owed c ι O W)
      ⊢ iprop((iprop(D ∗ semVal (c, .dma sem) 0 ∗ Owed c ι O W) -∗ wp frame (wpE defs 𝒱 c bd) Set.univ (k ⟨⟩) Q)
          -∗ wp frame (wpE defs 𝒱 c bd) Set.univ (Prog.lift (.waitDma2 sem srcw dstw hsrc hdst) >>= k) Q) := by
  unfold Owed
  iintro ⟨HB, %W', %hW, HO, #HM⟩ Hk
  iapply (wp_waitLocalO (defs := defs) EC 𝒱 c bd (srcw := srcw) (hsrc := hsrc) (hdst := hdst) (k := k) ι hN) $$ [HB HO]
  · isplitl [HB]; · iexact HB
    isplitl [HO]; · iexact HO
    iapply (MayWaits.elim (.dma sem)); iexact HM
  iintro ⟨HB, HV, HO⟩
  iapply Hk
  isplitl [HB]; · iexact HB
  isplitl [HV]; · iexact HV
  iexists (insert (SemLoc.dma sem, ι) W')
  isplit
  · ipureintro
    intro p hp
    rcases Finset.mem_insert.mp hp with rfl | hp
    · exact .inr rfl
    · exact hW p hp
  isplitl [HO]; · iexact HO
  iexact HM

end Waits

/-! ## A chunk of a table of three axes -/

/-- A table of three axes read at three numbers, each taken modulo its axis. -/
def at3 {m n p : ℕ} [NeZero m] [NeZero n] [NeZero p] {β : Type} (G : (⟨3, ![m, n, p]⟩ : Shape).Idx → β) (a b d : ℕ) : β :=
  G (ix3 (Fin.ofNat m a) (Fin.ofNat n b) (Fin.ofNat p d))

/-- An element of a table of three axes, by its three coordinates. -/
theorem at3_eq {m n p : ℕ} [NeZero m] [NeZero n] [NeZero p] {β : Type} (G : (⟨3, ![m, n, p]⟩ : Shape).Idx → β)
    (x : (⟨3, ![m, n, p]⟩ : Shape).Idx) {a b d : ℕ} (ha : (x 0 : ℕ) = a) (hb : (x 1 : ℕ) = b) (hd : (x 2 : ℕ) = d) : G x = at3 G a b d := by
  subst ha hb hd
  unfold at3
  congr 1
  funext q
  match q with
  | ⟨0, _⟩ => exact Fin.ext (Nat.mod_eq_of_lt (x 0).isLt).symm
  | ⟨1, _⟩ => exact Fin.ext (Nat.mod_eq_of_lt (x 1).isLt).symm
  | ⟨2, _⟩ => exact Fin.ext (Nat.mod_eq_of_lt (x 2).isLt).symm

/-- The columns from `c0` of the plane `b` of a table of three axes. -/
def chunk3 {m n p r W : ℕ} [NeZero m] [NeZero n] [NeZero p] {β : Type} (G : (⟨3, ![m, n, p]⟩ : Shape).Idx → β) (b c0 : ℕ) :
    (⟨2, ![r, W]⟩ : Shape).Idx → β :=
  fun x => at3 G b (x 0) (c0 + (x 1 : ℕ))

section Piece

variable {m n p r W : ℕ} [NeZero m] [NeZero n] [NeZero p] {sp : Space} {e : EltTy}

/-- The right to read a table of three axes is the right to read a block of one of its planes. -/
theorem Rd_piece {M : Memref sig c.2.kind sp (⟨3, ![m, n, p]⟩ : Shape) e} {off : Fin 3 → ℕ}
    {ho : ∀ a, off a + (⟨3, ![1, r, W]⟩ : Shape).size a ≤ (⟨3, ![m, n, p]⟩ : Shape).size a}
    {hu : ∀ a, (Rect.unit (s := ⟨3, ![m, n, p]⟩) off (⟨3, ![1, r, W]⟩ : Shape).size ho).stride a = 1}
    {hs : (⟨3, ![1, r, W]⟩ : Shape).Squeezes ⟨2, ![r, W]⟩} (G : (⟨3, ![m, n, p]⟩ : Shape).Idx → Elt F e) :
    (Rd c M.view G : sProp 𝕄) ⊢ Rd c ((M.slice (Rect.unit (s := ⟨3, ![m, n, p]⟩) off (⟨3, ![1, r, W]⟩ : Shape).size ho) hu).squeeze ⟨2, ![r, W]⟩ hs).view
      (fun x => at3 G (off 0) (off 1 + (x 0 : ℕ)) (off 2 + (x 1 : ℕ))) := by
  refine (Rd_slice c (Rect.unit (s := ⟨3, ![m, n, p]⟩) off (⟨3, ![1, r, W]⟩ : Shape).size ho) (fun _ => rfl)).trans (Rd_reshape c _ fun x => ?_)
  have e1 := Shape.reshapeEquiv_cons_one (d := ![r, W]) hs.numel_eq x
  refine at3_eq G _ ?_ ?_ ?_
  · show off 0 + 1 * ((Shape.reshapeEquiv hs.numel_eq x) 0 : ℕ) = _
    rw [show ((Shape.reshapeEquiv hs.numel_eq x) 0 : ℕ) = 0 from congrArg Fin.val (congrFun e1 0), Nat.mul_zero, Nat.add_zero]
  · show off 1 + 1 * ((Shape.reshapeEquiv hs.numel_eq x) 1 : ℕ) = _
    rw [show ((Shape.reshapeEquiv hs.numel_eq x) 1 : ℕ) = (x 0 : ℕ) from congrArg Fin.val (congrFun e1 1), Nat.one_mul]
  · show off 2 + 1 * ((Shape.reshapeEquiv hs.numel_eq x) 2 : ℕ) = _
    rw [show ((Shape.reshapeEquiv hs.numel_eq x) 2 : ℕ) = (x 1 : ℕ) from congrArg Fin.val (congrFun e1 2), Nat.one_mul]

end Piece

end Cert.Interference
-- ==== Proof.Moves.lean ====
/-
  A chunk read and a chunk's results written: the four blocks of index rows and the coordinates coming in, the two results
  going out, with the sets of elements each piece covers.
-/
module

public import proofs.«01_k».proof.Defs
public import proofs.«01_k».proof.Proof.Copies
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix3)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (c : Thread nD τ) (bd : Option 𝒱.V)
variable {α : Type} {Q : α → sProp (MT nD τ sig Ix (Elt F) Name U Lvl)}
variable [Infinite Name] (EC : UEmb Counters (MT nD τ sig Ix (Elt F) Name U Lvl)) [EC.LandsIn (upEmb : UEmb _ (MT nD τ sig Ix (Elt F) Name U Lvl))]

/-! ## The four blocks of eight index rows -/

section Blocks

variable {m n p W : ℕ} [NeZero m] [NeZero n] [NeZero p]

/-- Rows `8 * t` to `8 * t + 7` of a buffer of thirty-two rows. -/
def rows8 (W t : ℕ) : Finset (⟨2, ![32, W]⟩ : Shape).Idx := Finset.univ.filter fun x => 8 * t ≤ (x 0 : ℕ) ∧ (x 0 : ℕ) < 8 * t + 8

/-- Rows from `8 * t` on. -/
def rowsFrom (W t : ℕ) : Finset (⟨2, ![32, W]⟩ : Shape).Idx := Finset.univ.filter fun x => 8 * t ≤ (x 0 : ℕ)

/-- The block of eight rows that a slice at row `8 * t` names. -/
theorem map_rows8 {off : Fin 2 → ℕ} {ho : ∀ a, off a + (⟨2, ![8, W]⟩ : Shape).size a ≤ (⟨2, ![32, W]⟩ : Shape).size a} {t : ℕ} (h : off = ![8 * t, 0]) :
    Finset.univ.map (Rect.unit (s := ⟨2, ![32, W]⟩) off (⟨2, ![8, W]⟩ : Shape).size ho).emb = rows8 W t := by
  subst h
  rw [Rect.map_emb_univ]
  ext x
  rw [Rect.mem_set_unit]
  unfold rows8
  simp only [Finset.mem_filter, Finset.mem_univ, true_and]
  constructor
  · intro h; exact h 0
  · intro h a
    match a with
    | ⟨0, _⟩ => exact h
    | ⟨1, _⟩ => exact ⟨Nat.zero_le _, by simpa using (x 1).isLt⟩

/-- The state of the four block copies into an index buffer: `j` issued, `u` units of credit received. -/
abbrev Blocks (sr : DmaSem sig) (ι : Ix) (N : ℕ) (idx : Memref sig c.2.kind .vmem (⟨2, ![32, W]⟩ : Shape) .i32)
    (Gi : (⟨2, ![32, W]⟩ : Shape).Idx → BitVec 32) (j u : ℕ) : sProp 𝕄 :=
  Batch EC c (.dma sr) ι N (fun t : Fin 4 => Reg (F := F) c fullShare idx.view (rows8 W t) Gi) j u

/-- Block `j` of a chunk's index rows is issued. -/
theorem wp_issue_block {sr : DmaSem sig} {M : Memref sig c.2.kind .hbm (⟨3, ![m, n, p]⟩ : Shape) .i32}
    {idx : Memref sig c.2.kind .vmem (⟨2, ![32, W]⟩ : Shape) .i32} {off : Fin 3 → ℕ} {doff : Fin 2 → ℕ}
    {ho : ∀ a, off a + (⟨3, ![1, 8, W]⟩ : Shape).size a ≤ (⟨3, ![m, n, p]⟩ : Shape).size a}
    {hu : ∀ a, (Rect.unit (s := ⟨3, ![m, n, p]⟩) off (⟨3, ![1, 8, W]⟩ : Shape).size ho).stride a = 1}
    {hs : (⟨3, ![1, 8, W]⟩ : Shape).Squeezes ⟨2, ![8, W]⟩}
    {hd : ∀ a, doff a + (⟨2, ![8, W]⟩ : Shape).size a ≤ (⟨2, ![32, W]⟩ : Shape).size a}
    {hv : ∀ a, (Rect.unit (s := ⟨2, ![32, W]⟩) doff (⟨2, ![8, W]⟩ : Shape).size hd).stride a = 1}
    {hsrc} {hdst} {hsem} {k : PUnit → Prog (TpuEff nD τ sig (Elt F) Λ₀ c.2) α} {ι : Ix} {N : ℕ} (j : ℕ) (hj : j < 4) (b c0 : ℕ)
    (Gk : (⟨3, ![m, n, p]⟩ : Shape).Idx → BitVec 32) {G₀ : (⟨2, ![32, W]⟩ : Shape).Idx → BitVec 32}
    (hoff : off = ![b, 8 * j, c0]) (hdoff : doff = ![8 * j, 0])
    (hN : (idx.slice (Rect.unit (s := ⟨2, ![32, W]⟩) doff (⟨2, ![8, W]⟩ : Shape).size hd) hv).view.dmaCredit = N) :
    iprop(Rd (F := F) c M.view Gk ∗ Reg (F := F) c fullShare idx.view (rowsFrom W j) G₀ ∗ Blocks c EC sr ι N idx (chunk3 Gk b c0) j 0)
      ⊢ iprop((iprop(Rd (F := F) c M.view Gk ∗ Reg (F := F) c fullShare idx.view (rowsFrom W (j + 1)) G₀ ∗ Blocks c EC sr ι N idx (chunk3 Gk b c0) (j + 1) 0)
            -∗ wp frame (wpE defs 𝒱 c bd) Set.univ (k ⟨⟩) Q)
          -∗ wp frame (wpE defs 𝒱 c bd) Set.univ (Prog.lift (.enqueueDma
              ((M.slice (Rect.unit (s := ⟨3, ![m, n, p]⟩) off (⟨3, ![1, 8, W]⟩ : Shape).size ho) hu).squeeze ⟨2, ![8, W]⟩ hs)
              (.here (idx.slice (Rect.unit (s := ⟨2, ![32, W]⟩) doff (⟨2, ![8, W]⟩ : Shape).size hd) hv)) (.dma sr) hsrc hdst hsem) >>= k) Q) := by
  have hsub : rows8 W j ⊆ rowsFrom W j := by
    intro x; unfold rows8 rowsFrom; simp only [Finset.mem_filter, Finset.mem_univ, true_and]; exact fun h => h.1
  have hrest : rowsFrom W j \ rows8 W j = rowsFrom W (j + 1) := by
    ext x; unfold rows8 rowsFrom; simp only [Finset.mem_sdiff, Finset.mem_filter, Finset.mem_univ, true_and]; omega
  iintro ⟨HM, HI, HB⟩ Hk
  ihave HM' := (Rd_dup (F := F) c) $$ HM
  icases HM' with ⟨HM, HS⟩
  ihave HS' := (Rd_piece c (ho := ho) (hu := hu) (hs := hs) Gk) $$ HS
  ihave HI' := (Reg_split (F := F) c hsub) $$ HI
  rw [hrest]
  icases HI' with ⟨HD, HI⟩
  rw [← map_rows8 (ho := hd) hdoff]
  ihave HD' := (Reg_to_slice (F := F) c (Rect.unit (s := ⟨2, ![32, W]⟩) doff (⟨2, ![8, W]⟩ : Shape).size hd) (fun _ _ => rfl)) $$ HD
  unfold Rd
  icases HS' with ⟨%q, HS⟩
  iapply (wp_copyBatch_reg (defs := defs) (sm := .dma sr) (dst := idx.slice (Rect.unit (s := ⟨2, ![32, W]⟩) doff (⟨2, ![8, W]⟩ : Shape).size hd) hv) 𝒱 c bd EC ι N hN hj ?_) $$ [HS HD' HB]
  rotate_left
  · isplitl [HS]; · iexact HS
    isplitl [HD']; · iexact HD'
    iexact HB
  rotate_left
  · iintro ⟨HD, -⟩
    rw [← map_rows8 (ho := hd) hdoff]
    iapply (Reg_of_slice (F := F) c (Rect.unit (s := ⟨2, ![32, W]⟩) doff (⟨2, ![8, W]⟩ : Shape).size hd) ?_) $$ HD
    intro x _
    subst hoff hdoff
    show at3 Gk b (8 * j + 1 * (x 0 : ℕ)) (c0 + (0 + 1 * (x 1 : ℕ))) = at3 Gk b (8 * j + (x 0 : ℕ)) (c0 + (x 1 : ℕ))
    rw [Nat.one_mul, Nat.one_mul, Nat.zero_add]
  iintro HB
  iapply Hk
  isplitl [HM]; · iexact HM
  isplitl [HI]; · iexact HI
  iexact HB

/-- The four blocks make up the buffer. -/
theorem blocks_join {v : View sig c.2.kind .vmem (⟨2, ![32, W]⟩ : Shape) .i32} {Gi : (⟨2, ![32, W]⟩ : Shape).Idx → BitVec 32} :
    bigSep Finset.univ (fun t : Fin 4 => (Reg (F := F) c fullShare v (rows8 W t) Gi : sProp 𝕄)) ⊢ Reg (F := F) c fullShare v Finset.univ Gi := by
  have hd : ∀ s t : ℕ, s < t → Disjoint (rows8 W s) (rows8 W t) := by
    intro s t hst
    rw [Finset.disjoint_left]
    intro x
    unfold rows8
    simp only [Finset.mem_filter, Finset.mem_univ, true_and]
    omega
  have hU : ((rows8 W 0 ∪ rows8 W 1) ∪ rows8 W 2) ∪ rows8 W 3 = Finset.univ := by
    ext x
    have := (x 0).isLt
    simp only [rows8, Finset.mem_union, Finset.mem_filter, Finset.mem_univ, true_and, iff_true]
    change (x 0 : ℕ) < 32 at this
    omega
  have h4 : bigSep Finset.univ (fun t : Fin 4 => (Reg (F := F) c fullShare v (rows8 W t) Gi : sProp 𝕄))
      = iprop(Reg (F := F) c fullShare v (rows8 W 0) Gi ∗ Reg (F := F) c fullShare v (rows8 W 1) Gi ∗
          Reg (F := F) c fullShare v (rows8 W 2) Gi ∗ Reg (F := F) c fullShare v (rows8 W 3) Gi) := by
    rw [show (Finset.univ : Finset (Fin 4)) = insert 0 (insert 1 (insert 2 {3})) by decide]
    rw [bigSep_insert (by decide), bigSep_insert (by decide), bigSep_insert (by decide), bigSep_singleton]
    rfl
  rw [h4]
  iintro ⟨H0, H1, H2, H3⟩
  rw [← hU]
  iapply (Reg_join (F := F) c (by simp only [Finset.disjoint_union_left]; exact ⟨⟨hd _ _ (by decide), hd _ _ (by decide)⟩, hd _ _ (by decide)⟩))
  isplitr [H3]
  · iapply (Reg_join (F := F) c (by simp only [Finset.disjoint_union_left]; exact ⟨hd _ _ (by decide), hd _ _ (by decide)⟩))
    isplitr [H2]
    · iapply (Reg_join (F := F) c (hd _ _ (by decide)))
      isplitl [H0]; · iexact H0
      iexact H1
    iexact H2
  iexact H3

/-- A buffer not being filled is a batch of blocks with none issued. -/
theorem blocks_start {sr : DmaSem sig} {ι : Ix} {N : ℕ} {idx : Memref sig c.2.kind .vmem (⟨2, ![32, W]⟩ : Shape) .i32}
    (Gi : (⟨2, ![32, W]⟩ : Shape).Idx → BitVec 32) :
    (semVal (c, .dma sr) 0 : sProp 𝕄) ⊢ |={Set.univ}=> Blocks c EC sr ι N idx Gi 0 0 :=
  batch_alloc' EC c ι N _

/-- A chunk's coordinates are issued. -/
theorem wp_issue_rows {r : ℕ} {sc : DmaSem sig} {e : EltTy} {sp' : Space} {M : Memref sig c.2.kind .hbm (⟨3, ![m, n, p]⟩ : Shape) e}
    {al : Memref sig c.2.kind sp' (⟨2, ![r, W]⟩ : Shape) e} {off : Fin 3 → ℕ}
    {ho : ∀ a, off a + (⟨3, ![1, r, W]⟩ : Shape).size a ≤ (⟨3, ![m, n, p]⟩ : Shape).size a}
    {hu : ∀ a, (Rect.unit (s := ⟨3, ![m, n, p]⟩) off (⟨3, ![1, r, W]⟩ : Shape).size ho).stride a = 1}
    {hs : (⟨3, ![1, r, W]⟩ : Shape).Squeezes ⟨2, ![r, W]⟩}
    {hsrc} {hdst} {hsem} {k : PUnit → Prog (TpuEff nD τ sig (Elt F) Λ₀ c.2) α} {ι : Ix} {N : ℕ} (b c0 : ℕ)
    (Ga : (⟨3, ![m, n, p]⟩ : Shape).Idx → Elt F e) {G₀ : (⟨2, ![r, W]⟩ : Shape).Idx → Elt F e}
    (hoff : off = ![b, 0, c0]) (hN : al.view.dmaCredit = N) (hN0 : 0 < N) :
    iprop(Rd (F := F) c M.view Ga ∗ Reg (F := F) c fullShare al.view Finset.univ G₀ ∗ semVal (c, .dma sc) 0)
      ⊢ iprop((iprop(Rd (F := F) c M.view Ga ∗ Flight EC c (.dma sc) ι N (Reg (F := F) c fullShare al.view Finset.univ (chunk3 Ga b c0)))
            -∗ wp frame (wpE defs 𝒱 c bd) Set.univ (k ⟨⟩) Q)
          -∗ wp frame (wpE defs 𝒱 c bd) Set.univ (Prog.lift (.enqueueDma
              ((M.slice (Rect.unit (s := ⟨3, ![m, n, p]⟩) off (⟨3, ![1, r, W]⟩ : Shape).size ho) hu).squeeze ⟨2, ![r, W]⟩ hs)
              (.here al) (.dma sc) hsrc hdst hsem) >>= k) Q) := by
  iintro ⟨HM, HA, HV⟩ Hk
  ihave HM' := (Rd_dup (F := F) c) $$ HM
  icases HM' with ⟨HM, HS⟩
  ihave HS' := (Rd_piece c (ho := ho) (hu := hu) (hs := hs) Ga) $$ HS
  have hG : (fun x : (⟨2, ![r, W]⟩ : Shape).Idx => at3 Ga (off 0) (off 1 + (x 0 : ℕ)) (off 2 + (x 1 : ℕ))) = chunk3 Ga b c0 := by
    subst hoff
    funext x
    show at3 Ga b (0 + (x 0 : ℕ)) (c0 + (x 1 : ℕ)) = at3 Ga b (x 0) (c0 + (x 1 : ℕ))
    rw [Nat.zero_add]
  rw [hG]
  iapply (wp_copy_reg (defs := defs) (sm := .dma sc) (dst := al) 𝒱 c bd EC ι N hN hN0) $$ [HS' HA HV]
  · isplitl [HS']; · iexact HS'
    isplitl [HA]; · iexact HA
    iexact HV
  iintro HF
  iapply Hk
  isplitl [HM]; · iexact HM
  iexact HF

end Blocks

/-! ## The results going out -/

section Outs

variable {W : ℕ}

/-- The stretch of elements from `lo` up to `hi` of a result array. -/
def iv (lo hi : ℕ) : Finset S640000.Idx := Finset.univ.filter fun x => lo ≤ (x 0 : ℕ) ∧ (x 0 : ℕ) < hi

/-- Two neighbouring stretches make one. -/
theorem Reg_iv_join {v : View sig c.2.kind .hbm S640000 .f32} {G : S640000.Idx → F .f32} {lo mid hi : ℕ} (h1 : lo ≤ mid) (h2 : mid ≤ hi) :
    iprop(Reg (F := F) c fullShare v (iv lo mid) G ∗ Reg (F := F) c fullShare v (iv mid hi) G) ⊢ (Reg (F := F) c fullShare v (iv lo hi) G : sProp 𝕄) := by
  have hU : iv lo mid ∪ iv mid hi = iv lo hi := by
    ext x; simp only [iv, Finset.mem_union, Finset.mem_filter, Finset.mem_univ, true_and]; omega
  rw [← hU]
  refine Reg_join (F := F) c ?_
  rw [Finset.disjoint_left]
  intro x
  simp only [iv, Finset.mem_filter, Finset.mem_univ, true_and]; omega

/-- A stretch cut in two. -/
theorem Reg_iv_split {v : View sig c.2.kind .hbm S640000 .f32} {G : S640000.Idx → F .f32} {lo mid hi : ℕ} (h1 : lo ≤ mid) (h2 : mid ≤ hi) :
    (Reg (F := F) c fullShare v (iv lo hi) G : sProp 𝕄) ⊢ iprop(Reg (F := F) c fullShare v (iv lo mid) G ∗ Reg (F := F) c fullShare v (iv mid hi) G) := by
  have hs : iv lo mid ⊆ iv lo hi := by
    intro x; simp only [iv, Finset.mem_filter, Finset.mem_univ, true_and]; omega
  have hr : iv lo hi \ iv lo mid = iv mid hi := by
    ext x; simp only [iv, Finset.mem_sdiff, Finset.mem_filter, Finset.mem_univ, true_and]; omega
  have := Reg_split (F := F) (Ix := Ix) (Name := Name) (U := U) (Lvl := Lvl) c (q := fullShare) (v := v) (G := G) hs
  rwa [hr] at this

/-- The stretch that a slice of a result array names. -/
theorem map_iv {off : Fin 1 → ℕ} {ho : ∀ a, off a + (⟨1, ![W]⟩ : Shape).size a ≤ S640000.size a} {lo : ℕ} (h : off = ![lo]) :
    Finset.univ.map (Rect.unit (s := S640000) off (⟨1, ![W]⟩ : Shape).size ho).emb = iv lo (lo + W) := by
  subst h
  rw [Rect.map_emb_univ]
  ext x
  rw [Rect.mem_set_unit]
  simp only [iv, Finset.mem_filter, Finset.mem_univ, true_and]
  constructor
  · intro h; exact h 0
  · intro h a
    match a with
    | ⟨0, _⟩ => exact h

/-- What one result's copy delivers: the stretch of the array at its values, and the buffer the results were copied from. -/
def Out (M : Memref sig c.2.kind .hbm S640000 .f32) (ab : Memref sig c.2.kind .vmem (⟨1, ![W]⟩ : Shape) .f32)
    (O : S640000.Idx → F .f32) (lo : ℕ) : sProp 𝕄 :=
  iprop(Reg (F := F) c fullShare M.view (iv lo (lo + W)) O ∗ ∃ G, Reg (F := F) c fullShare ab.view Finset.univ G)

/-- What the copies of a chunk's two results deliver. -/
def outs (M6 M7 : Memref sig c.2.kind .hbm S640000 .f32) (ab db : Memref sig c.2.kind .vmem (⟨1, ![W]⟩ : Shape) .f32)
    (Oa Od : S640000.Idx → F .f32) (lo : ℕ) : Fin 2 → sProp 𝕄
  | ⟨0, _⟩ => Out c M6 ab Oa lo
  | ⟨1, _⟩ => Out c M7 db Od lo

instance outs_storable (M6 M7 : Memref sig c.2.kind .hbm S640000 .f32) (ab db : Memref sig c.2.kind .vmem (⟨1, ![W]⟩ : Shape) .f32)
    (Oa Od : S640000.Idx → F .f32) (lo : ℕ) (t : Fin 2) : Storable (upEmb : UEmb _ 𝕄) (outs (F := F) c M6 M7 ab db Oa Od lo t) := by
  match t with
  | ⟨0, _⟩ => unfold outs Out; infer_instance
  | ⟨1, _⟩ => unfold outs Out; infer_instance

/-- One result of a chunk is issued to its stretch. -/
theorem wp_issue_out {sw : DmaSem sig} {M : Memref sig c.2.kind .hbm S640000 .f32} {ab : Memref sig c.2.kind .vmem (⟨1, ![W]⟩ : Shape) .f32}
    {off : Fin 1 → ℕ} {ho : ∀ a, off a + (⟨1, ![W]⟩ : Shape).size a ≤ S640000.size a}
    {hu : ∀ a, (Rect.unit (s := S640000) off (⟨1, ![W]⟩ : Shape).size ho).stride a = 1}
    {hsrc} {hdst} {hsem} {k : PUnit → Prog (TpuEff nD τ sig (Elt F) Λ₀ c.2) α} {ι : Ix} {N : ℕ} {D : Fin 2 → sProp 𝕄} (j : ℕ) (hj : j < 2)
    (lo hi : ℕ) {G : (⟨1, ![W]⟩ : Shape).Idx → F .f32} {G₀ O : S640000.Idx → F .f32} (hoff : off = ![lo]) (hhi : lo + W ≤ hi)
    (hN : (M.slice (Rect.unit (s := S640000) off (⟨1, ![W]⟩ : Shape).size ho) hu).view.dmaCredit = N)
    (hO : ∀ (x : (⟨1, ![W]⟩ : Shape).Idx) (y : S640000.Idx), (y 0 : ℕ) = lo + (x 0 : ℕ) → O y = G x)
    (hD : Out c M ab O lo ⊢ D ⟨j, hj⟩) :
    iprop(Reg (F := F) c fullShare ab.view Finset.univ G ∗ Reg (F := F) c fullShare M.view (iv lo hi) G₀ ∗ Batch EC c (.dma sw) ι N D j 0)
      ⊢ iprop((iprop(Reg (F := F) c fullShare M.view (iv (lo + W) hi) G₀ ∗ Batch EC c (.dma sw) ι N D (j + 1) 0)
            -∗ wp frame (wpE defs 𝒱 c bd) Set.univ (k ⟨⟩) Q)
          -∗ wp frame (wpE defs 𝒱 c bd) Set.univ (Prog.lift (.enqueueDma ab
              (.here (M.slice (Rect.unit (s := S640000) off (⟨1, ![W]⟩ : Shape).size ho) hu)) (.dma sw) hsrc hdst hsem) >>= k) Q) := by
  iintro ⟨HA, HM, HB⟩ Hk
  ihave HM' := (Reg_iv_split (F := F) c (Nat.le_add_right lo W) hhi) $$ HM
  icases HM' with ⟨HD, HM⟩
  rw [← map_iv (ho := ho) hoff]
  ihave HD' := (Reg_to_slice (F := F) c (Rect.unit (s := S640000) off (⟨1, ![W]⟩ : Shape).size ho) (fun _ _ => rfl)) $$ HD
  iapply (wp_copyBatch_reg (defs := defs) (sm := .dma sw) (dst := M.slice (Rect.unit (s := S640000) off (⟨1, ![W]⟩ : Shape).size ho) hu) 𝒱 c bd EC ι N hN hj ?_) $$ [HA HD' HB]
  rotate_left
  · isplitl [HA]; · iexact HA
    isplitl [HD']; · iexact HD'
    iexact HB
  rotate_left
  · refine BIBase.Entails.trans ?_ hD
    unfold Out
    iintro ⟨HD, HA⟩
    isplitl [HD]
    · rw [← map_iv (ho := ho) hoff]
      iapply (Reg_of_slice (F := F) c (Rect.unit (s := S640000) off (⟨1, ![W]⟩ : Shape).size ho) ?_) $$ HD
      intro x _
      refine hO x _ ?_
      subst hoff
      show lo + 1 * (x 0 : ℕ) = _
      rw [Nat.one_mul]
    · iexists G; iexact HA
  iintro HB
  iapply Hk
  isplitl [HM]; · iexact HM
  iexact HB

end Outs

end Cert.Interference
-- ==== Proof.Loop.lean ====
/-
  The loop over a chunk: sixteen nodes at a trip, until every node of the chunk has its two results.
-/
module

public import proofs.«01_k».proof.Defs
public import proofs.«01_k».proof.Proof.Steps
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix1 ix2 eq_ix1 eq_ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (c : Thread nD τ) (bd : Option 𝒱.V)
variable {α : Type} {Q : α → sProp (MT nD τ sig Ix (Elt F) Name U Lvl)}

/-- A loop whose every trip takes the invariant to the next, run from its start to its end. -/
theorem wp_loop (l : Scf.Loop 32) (hok : l.OK) {n : ℕ} (hn : l.trips = n)
    {body : Fin l.trips → PUnit → Prog (TpuEff nD τ sig (Elt F) Λ₀ c.2) PUnit} {kk : PUnit → Prog (TpuEff nD τ sig (Elt F) Λ₀ c.2) α}
    (I : ℕ → sProp (MT nD τ sig Ix (Elt F) Name U Lvl))
    (hbody : ∀ t : Fin l.trips, I t ⊢ wp frame (wpE defs 𝒱 c bd) Set.univ (body t ⟨⟩) fun _ => I ((t : ℕ) + 1)) :
    I 0 ⊢ iprop((I n -∗ wp frame (wpE defs 𝒱 c bd) Set.univ (kk ⟨⟩) Q)
        -∗ wp frame (wpE defs 𝒱 c bd) Set.univ (Scf.Loop.for l hok ⟨⟩ body >>= kk) Q) := by
  subst hn
  iintro HI Hk
  unfold Scf.Loop.for
  iapply (Scf.wp_for_bind frame (wpE defs 𝒱 c bd) Set.univ l.lb l.ub l.st hok ⟨⟩ body (fun k _ => I k) fun t _ => hbody t) $$ [HI]
  · iexact HI
  iintro %_ HI
  iapply Hk
  iexact HI

/-- A loop whose trip `t` sets the sixteen results from `16 t` on sets them all, when its trips cover the chunk. -/
theorem wp_chunk {W : ℕ} (l : Scf.Loop 32) (hok : l.OK) (hW : W = 16 * l.trips)
    {body : Fin l.trips → PUnit → Prog (TpuEff nD τ sig (Elt F) Λ₀ c.2) PUnit} {kk : PUnit → Prog (TpuEff nD τ sig (Elt F) Λ₀ c.2) α}
    {tab : Memref sig c.2.kind .vmem S2x20000 .f32}
    {idx : Memref sig c.2.kind .vmem (⟨2, ![32, W]⟩ : Shape) .i32} {al : Memref sig c.2.kind .vmem (⟨2, ![2, W]⟩ : Shape) .f32}
    {ab db : Memref sig c.2.kind .vmem (⟨1, ![W]⟩ : Shape) .f32} {T : S2x20000.Idx → F .f32}
    {Gi : (⟨2, ![32, W]⟩ : Shape).Idx → BitVec 32} {L : (⟨2, ![2, W]⟩ : Shape).Idx → F .f32} (a b : ℕ → F .f32)
    {A₀ D₀ : (⟨1, ![W]⟩ : Shape).Idx → F .f32}
    (hbody : ∀ (t : Fin l.trips) (A D : (⟨1, ![W]⟩ : Shape).Idx → F .f32), (Chunk c tab idx al ab db T Gi L A D : sProp 𝕄)
      ⊢ wp frame (wpE defs 𝒱 c bd) Set.univ (body t ⟨⟩) fun _ => Chunk c tab idx al ab db T Gi L (stored (16 * (t : ℕ)) a A) (stored (16 * (t : ℕ)) b D)) :
    (Chunk c tab idx al ab db T Gi L A₀ D₀ : sProp 𝕄)
      ⊢ iprop((Chunk c tab idx al ab db T Gi L (fun x => a (x 0)) (fun x => b (x 0)) -∗ wp frame (wpE defs 𝒱 c bd) Set.univ (kk ⟨⟩) Q)
          -∗ wp frame (wpE defs 𝒱 c bd) Set.univ (Scf.Loop.for l hok ⟨⟩ body >>= kk) Q) := by
  let I : ℕ → PUnit → sProp (MT nD τ sig Ix (Elt F) Name U Lvl) := fun k _ =>
    iprop(∃ A D, ⌜∀ x : (⟨1, ![W]⟩ : Shape).Idx, (x 0 : ℕ) < 16 * k → A x = a (x 0) ∧ D x = b (x 0)⌝ ∗ Chunk c tab idx al ab db T Gi L A D)
  have hstep : ∀ (t : Fin l.trips) (acc : PUnit), I t acc ⊢ wp frame (wpE defs 𝒱 c bd) Set.univ (body t acc) (I ((t : ℕ) + 1)) := by
    intro t acc
    iintro ⟨%A, %D, %h, HC⟩
    ihave H := (hbody t A D) $$ HC
    iapply wp_mono frame _ _ ?_ $$ H
    intro _
    iintro HC
    iexists _, _
    isplitr [HC]
    rotate_left
    · iexact HC
    ipureintro
    intro x hx
    unfold stored
    by_cases h1 : 16 * (t : ℕ) ≤ (x 0 : ℕ)
    · have h2 : 16 * (t : ℕ) ≤ (x 0 : ℕ) ∧ (x 0 : ℕ) < 16 * (t : ℕ) + 16 := ⟨h1, by omega⟩
      rw [if_pos h2, if_pos h2]; exact ⟨rfl, rfl⟩
    · have h2 : ¬ (16 * (t : ℕ) ≤ (x 0 : ℕ) ∧ (x 0 : ℕ) < 16 * (t : ℕ) + 16) := fun h => h1 h.1
      rw [if_neg h2, if_neg h2]; exact h x (by omega)
  iintro HC Hk
  unfold Scf.Loop.for
  iapply (Scf.wp_for_bind frame (wpE defs 𝒱 c bd) Set.univ l.lb l.ub l.st hok ⟨⟩ body I hstep) $$ [HC]
  · iexists A₀, D₀
    isplitr [HC]
    · ipureintro; intro x hx; omega
    iexact HC
  iintro %acc ⟨%A, %D, %h, HC⟩
  have hA : A = fun x => a (x 0) := funext fun x => (h x (lt_of_lt_of_eq (show (x 0 : ℕ) < W from (x 0).isLt) hW)).1
  have hD : D = fun x => b (x 0) := funext fun x => (h x (lt_of_lt_of_eq (show (x 0 : ℕ) < W from (x 0).isLt) hW)).2
  subst hA hD
  iapply Hk
  iexact HC

end Cert.Interference
-- ==== Proof.State.lean ====
/-
  The states a tile's buffers pass through, and the rules that take a buffer from one to the next: a chunk's reads issued and
  awaited, its results issued and awaited.
-/
module

public import proofs.«01_k».proof.Defs
public import proofs.«01_k».proof.Proof.Moves
public import proofs.«01_k».proof.Proof.Loop
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix2 ix3)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (c : Thread nD τ) (bd : Option 𝒱.V)
variable {α : Type} {Q : α → sProp (MT nD τ sig Ix (Elt F) Name U Lvl)}
variable [Infinite Name] (EC : UEmb Counters (MT nD τ sig Ix (Elt F) Name U Lvl)) [EC.LandsIn (upEmb : UEmb _ (MT nD τ sig Ix (Elt F) Name U Lvl))]

/-- A guarded step: where the guard holds the step makes `R`, where it does not `R` is there already; the rest runs from `R`. -/
theorem wp_guard {C : Prop} [Decidable C] {P R : sProp 𝕄} {X : C → Prog (TpuEff nD τ sig (Elt F) Λ₀ c.2) α} {K : Prog (TpuEff nD τ sig (Elt F) Λ₀ c.2) α}
    (hpos : ∀ h : C, P ⊢ iprop((R -∗ wp frame (wpE defs 𝒱 c bd) Set.univ K Q) -∗ wp frame (wpE defs 𝒱 c bd) Set.univ (X h) Q))
    (hneg : ¬ C → P ⊢ R) :
    P ⊢ iprop((R -∗ wp frame (wpE defs 𝒱 c bd) Set.univ K Q) -∗ wp frame (wpE defs 𝒱 c bd) Set.univ (dite C X fun _ => K) Q) := by
  by_cases h : C
  · rw [dif_pos h]; exact hpos h
  · rw [dif_neg h]
    iintro HP Hk
    iapply Hk
    iapply (hneg h) $$ HP

section States

variable {m n p r W : ℕ} [NeZero m] [NeZero n] [NeZero p]

/-- The units one block of eight rows of an index buffer brings to its semaphore. -/
def blockCredit (idx : Memref sig c.2.kind .vmem (⟨2, ![32, W]⟩ : Shape) .i32) : ℕ :=
  sig.dmaCredit c.2.kind (c.2.kind.table .vmem) idx.view.buf ⟨2, ![8, W]⟩ .i32

/-- A block is not empty. -/
theorem blockCredit_pos (idx : Memref sig c.2.kind .vmem (⟨2, ![32, W]⟩ : Shape) .i32) (h : 0 < (⟨2, ![8, W]⟩ : Shape).numel) : 0 < blockCredit c idx :=
  sig.dmaCredit_pos _ _ _ _ _ h

/-- A chunk's reads in flight: its index rows and its coordinates, from column `c0` of plane `b`. -/
def ReadOn (ι : Ix) (idx : Memref sig c.2.kind .vmem (⟨2, ![32, W]⟩ : Shape) .i32) (al : Memref sig c.2.kind .vmem (⟨2, ![2, W]⟩ : Shape) .f32)
    (sr sc : DmaSem sig) (Gk : S32x32x20000.Idx → BitVec 32) (Ga : S32x2x20000.Idx → F .f32) (b c0 : ℕ) : sProp 𝕄 :=
  iprop(Blocks c EC sr ι (blockCredit c idx) idx (chunk3 Gk b c0) 4 0 ∗
    Flight EC c (.dma sc) ι al.view.dmaCredit (Reg (F := F) c fullShare al.view Finset.univ (chunk3 Ga b c0)))

/-- No reads in flight: the buffers and their semaphores are at hand. -/
def ReadIdle (idx : Memref sig c.2.kind .vmem (⟨2, ![32, W]⟩ : Shape) .i32) (al : Memref sig c.2.kind .vmem (⟨2, ![2, W]⟩ : Shape) .f32)
    (sr sc : DmaSem sig) : sProp 𝕄 :=
  iprop((∃ G, Reg (F := F) c fullShare idx.view Finset.univ G) ∗ (∃ G, Reg (F := F) c fullShare al.view Finset.univ G) ∗
    semVal (c, .dma sr) 0 ∗ semVal (c, .dma sc) 0)

/-- A chunk's results in flight to the stretch from `lo`. -/
def WriteOn (ι : Ix) (Nw : ℕ) (M6 M7 : Memref sig c.2.kind .hbm S640000 .f32) (ab db : Memref sig c.2.kind .vmem (⟨1, ![W]⟩ : Shape) .f32)
    (sw : DmaSem sig) (Oa Od : S640000.Idx → F .f32) (lo : ℕ) : sProp 𝕄 :=
  Batch EC c (.dma sw) ι Nw (outs (F := F) c M6 M7 ab db Oa Od lo) 2 0

/-- No results in flight. -/
def WriteIdle (ab db : Memref sig c.2.kind .vmem (⟨1, ![W]⟩ : Shape) .f32) (sw : DmaSem sig) : sProp 𝕄 :=
  iprop((∃ G, Reg (F := F) c fullShare ab.view Finset.univ G) ∗ (∃ G, Reg (F := F) c fullShare db.view Finset.univ G) ∗ semVal (c, .dma sw) 0)

/-- A stretch of each of the two result arrays. -/
def Both (M6 M7 : Memref sig c.2.kind .hbm S640000 .f32) (lo hi : ℕ) (Oa Od : S640000.Idx → F .f32) : sProp 𝕄 :=
  iprop(Reg (F := F) c fullShare M6.view (iv lo hi) Oa ∗ Reg (F := F) c fullShare M7.view (iv lo hi) Od)

/-- Two neighbouring stretches of the result arrays make one. -/
theorem Both_join {M6 M7 : Memref sig c.2.kind .hbm S640000 .f32} {lo mid hi : ℕ} {Oa Od : S640000.Idx → F .f32} (h1 : lo ≤ mid) (h2 : mid ≤ hi) :
    iprop(Both c M6 M7 lo mid Oa Od ∗ Both c M6 M7 mid hi Oa Od) ⊢ (Both (F := F) c M6 M7 lo hi Oa Od : sProp 𝕄) := by
  unfold Both
  iintro ⟨⟨H1, H2⟩, H3, H4⟩
  isplitl [H1 H3]
  · iapply (Reg_iv_join (F := F) c h1 h2)
    isplitl [H1]; · iexact H1
    iexact H3
  iapply (Reg_iv_join (F := F) c h1 h2)
  isplitl [H2]; · iexact H2
  iexact H4

/-- The four blocks of a chunk's index rows are issued. -/
theorem wp_issue_blocks {sr : DmaSem sig} {M : Memref sig c.2.kind .hbm S32x32x20000 .i32}
    {idx : Memref sig c.2.kind .vmem (⟨2, ![32, W]⟩ : Shape) .i32} {off0 off1 off2 off3 : Fin 3 → ℕ}
    {ho0 ho1 ho2 ho3} {hu0 hu1 hu2 hu3}
    {hs0 hs1 hs2 hs3 : (⟨3, ![1, 8, W]⟩ : Shape).Squeezes ⟨2, ![8, W]⟩}
    {hd0 hd1 hd2 hd3} {hv0 hv1 hv2 hv3}
    {hsrc0 hsrc1 hsrc2 hsrc3} {hdst0 hdst1 hdst2 hdst3} {hsem0 hsem1 hsem2 hsem3} {k : PUnit → Prog (TpuEff nD τ sig (Elt F) Λ₀ c.2) α} {ι : Ix} (b c0 : ℕ)
    (Gk : S32x32x20000.Idx → BitVec 32) {G₀ : (⟨2, ![32, W]⟩ : Shape).Idx → BitVec 32}
    (h0 : off0 = ![b, 8 * 0, c0]) (h1 : off1 = ![b, 8 * 1, c0]) (h2 : off2 = ![b, 8 * 2, c0]) (h3 : off3 = ![b, 8 * 3, c0]) :
    iprop(Rd (F := F) c M.view Gk ∗ Reg (F := F) c fullShare idx.view Finset.univ G₀ ∗ semVal (c, .dma sr) 0)
      ⊢ iprop((iprop(Rd (F := F) c M.view Gk ∗ Blocks c EC sr ι (blockCredit c idx) idx (chunk3 Gk b c0) 4 0)
            -∗ wp frame (wpE defs 𝒱 c bd) Set.univ (k ⟨⟩) Q)
          -∗ wp frame (wpE defs 𝒱 c bd) Set.univ (
            Prog.lift (.enqueueDma ((M.slice (Rect.unit (s := S32x32x20000) off0 (⟨3, ![1, 8, W]⟩ : Shape).size ho0) hu0).squeeze ⟨2, ![8, W]⟩ hs0)
              (.here (idx.slice (Rect.unit (s := ⟨2, ![32, W]⟩) ![0, 0] (⟨2, ![8, W]⟩ : Shape).size hd0) hv0)) (.dma sr) hsrc0 hdst0 hsem0) >>= fun _ =>
            Prog.lift (.enqueueDma ((M.slice (Rect.unit (s := S32x32x20000) off1 (⟨3, ![1, 8, W]⟩ : Shape).size ho1) hu1).squeeze ⟨2, ![8, W]⟩ hs1)
              (.here (idx.slice (Rect.unit (s := ⟨2, ![32, W]⟩) ![8, 0] (⟨2, ![8, W]⟩ : Shape).size hd1) hv1)) (.dma sr) hsrc1 hdst1 hsem1) >>= fun _ =>
            Prog.lift (.enqueueDma ((M.slice (Rect.unit (s := S32x32x20000) off2 (⟨3, ![1, 8, W]⟩ : Shape).size ho2) hu2).squeeze ⟨2, ![8, W]⟩ hs2)
              (.here (idx.slice (Rect.unit (s := ⟨2, ![32, W]⟩) ![16, 0] (⟨2, ![8, W]⟩ : Shape).size hd2) hv2)) (.dma sr) hsrc2 hdst2 hsem2) >>= fun _ =>
            Prog.lift (.enqueueDma ((M.slice (Rect.unit (s := S32x32x20000) off3 (⟨3, ![1, 8, W]⟩ : Shape).size ho3) hu3).squeeze ⟨2, ![8, W]⟩ hs3)
              (.here (idx.slice (Rect.unit (s := ⟨2, ![32, W]⟩) ![24, 0] (⟨2, ![8, W]⟩ : Shape).size hd3) hv3)) (.dma sr) hsrc3 hdst3 hsem3) >>= k) Q) := by
  have hU : rowsFrom W 0 = Finset.univ := by
    ext x; simp only [rowsFrom, Finset.mem_filter, Finset.mem_univ, true_and, iff_true]; omega
  iintro ⟨HM, HI, HV⟩ Hk
  iapply fupd_wp
  imod (blocks_start (F := F) c EC (ι := ι) (N := blockCredit c idx) (idx := idx) (chunk3 Gk b c0)) $$ HV with HB
  imodintro
  rw [← hU]
  iapply (wp_issue_block (defs := defs) 𝒱 c bd EC 0 (by decide) b c0 Gk h0 rfl rfl) $$ [HM HI HB]
  · isplitl [HM]; · iexact HM
    isplitl [HI]; · iexact HI
    iexact HB
  iintro ⟨HM, HI, HB⟩
  iapply (wp_issue_block (defs := defs) 𝒱 c bd EC 1 (by decide) b c0 Gk h1 rfl rfl) $$ [HM HI HB]
  · isplitl [HM]; · iexact HM
    isplitl [HI]; · iexact HI
    iexact HB
  iintro ⟨HM, HI, HB⟩
  iapply (wp_issue_block (defs := defs) 𝒱 c bd EC 2 (by decide) b c0 Gk h2 rfl rfl) $$ [HM HI HB]
  · isplitl [HM]; · iexact HM
    isplitl [HI]; · iexact HI
    iexact HB
  iintro ⟨HM, HI, HB⟩
  iapply (wp_issue_block (defs := defs) 𝒱 c bd EC 3 (by decide) b c0 Gk h3 rfl rfl) $$ [HM HI HB]
  · isplitl [HM]; · iexact HM
    isplitl [HI]; · iexact HI
    iexact HB
  iintro ⟨HM, -, HB⟩
  iapply Hk
  isplitl [HM]; · iexact HM
  iexact HB

/-- Three of a chunk's four blocks are awaited. -/
theorem wp_wait_three {sr : DmaSem sig} {idx : Memref sig c.2.kind .vmem (⟨2, ![32, W]⟩ : Shape) .i32} {ι : Ix} {Gi : (⟨2, ![32, W]⟩ : Shape).Idx → BitVec 32}
    {sp : Space} {s : Shape} {e : EltTy} {src0 src1 src2 : Memref sig c.2.kind sp s e}
    {hd0 hd1 hd2} {hv0 hv1 hv2}
    {hsrc0 hsrc1 hsrc2} {hdst0 hdst1 hdst2} {k : PUnit → Prog (TpuEff nD τ sig (Elt F) Λ₀ c.2) α} {O : CellTallies nD τ sig Ix} {Wt : Waits sig Ix}
    (hW : 0 < (⟨2, ![8, W]⟩ : Shape).numel) :
    iprop(Blocks c EC sr ι (blockCredit c idx) idx Gi 4 0 ∗ Owed c ι O Wt)
      ⊢ iprop((iprop(Blocks c EC sr ι (blockCredit c idx) idx Gi 4 (0 + blockCredit c idx + blockCredit c idx + blockCredit c idx) ∗ Owed c ι O Wt)
            -∗ wp frame (wpE defs 𝒱 c bd) Set.univ (k ⟨⟩) Q)
          -∗ wp frame (wpE defs 𝒱 c bd) Set.univ (
            Prog.lift (.waitDma2 sr src0 (idx.slice (Rect.unit (s := ⟨2, ![32, W]⟩) ![0, 0] (⟨2, ![8, W]⟩ : Shape).size hd0) hv0) hsrc0 hdst0) >>= fun _ =>
            Prog.lift (.waitDma2 sr src1 (idx.slice (Rect.unit (s := ⟨2, ![32, W]⟩) ![8, 0] (⟨2, ![8, W]⟩ : Shape).size hd1) hv1) hsrc1 hdst1) >>= fun _ =>
            Prog.lift (.waitDma2 sr src2 (idx.slice (Rect.unit (s := ⟨2, ![32, W]⟩) ![16, 0] (⟨2, ![8, W]⟩ : Shape).size hd2) hv2) hsrc2 hdst2) >>= k) Q) := by
  have hN0 := blockCredit_pos c idx hW
  iintro ⟨HB, HO⟩ Hk
  iapply (wp_wait_more (defs := defs) (n := 4) (u := 0) (N := blockCredit c idx) 𝒱 c bd EC rfl (by omega)) $$ [HB HO]
  · isplitl [HB]; · iexact HB
    iexact HO
  iintro ⟨HB, HO⟩
  iapply (wp_wait_more (defs := defs) (n := 4) (u := 0 + blockCredit c idx) (N := blockCredit c idx) 𝒱 c bd EC rfl (by omega)) $$ [HB HO]
  · isplitl [HB]; · iexact HB
    iexact HO
  iintro ⟨HB, HO⟩
  iapply (wp_wait_more (defs := defs) (n := 4) (u := 0 + blockCredit c idx + blockCredit c idx) (N := blockCredit c idx) 𝒱 c bd EC rfl (by omega)) $$ [HB HO]
  · isplitl [HB]; · iexact HB
    iexact HO
  iintro ⟨HB, HO⟩
  iapply Hk
  isplitl [HB]; · iexact HB
  iexact HO

/-- The fourth block and the coordinates are awaited: the chunk's inputs are in place. -/
theorem wp_wait_rest {sr sc : DmaSem sig} {idx : Memref sig c.2.kind .vmem (⟨2, ![32, W]⟩ : Shape) .i32} {al : Memref sig c.2.kind .vmem (⟨2, ![2, W]⟩ : Shape) .f32}
    {ι : Ix} {Gi : (⟨2, ![32, W]⟩ : Shape).Idx → BitVec 32} {L : (⟨2, ![2, W]⟩ : Shape).Idx → F .f32}
    {sp sp' : Space} {s s' : Shape} {e e' : EltTy} {src0 : Memref sig c.2.kind sp s e} {src1 : Memref sig c.2.kind sp' s' e'}
    {hd0} {hv0} {hsrc0 hsrc1} {hdst0 hdst1} {k : PUnit → Prog (TpuEff nD τ sig (Elt F) Λ₀ c.2) α} {O : CellTallies nD τ sig Ix} {Wt : Waits sig Ix}
    (hW : 0 < (⟨2, ![8, W]⟩ : Shape).numel) :
    iprop(Blocks c EC sr ι (blockCredit c idx) idx Gi 4 (0 + blockCredit c idx + blockCredit c idx + blockCredit c idx) ∗
        Flight EC c (.dma sc) ι al.view.dmaCredit (Reg (F := F) c fullShare al.view Finset.univ L) ∗ Owed c ι O Wt)
      ⊢ iprop((iprop(Reg (F := F) c fullShare idx.view Finset.univ Gi ∗ Reg (F := F) c fullShare al.view Finset.univ L ∗
              semVal (c, .dma sr) 0 ∗ semVal (c, .dma sc) 0 ∗ Owed c ι O Wt)
            -∗ wp frame (wpE defs 𝒱 c bd) Set.univ (k ⟨⟩) Q)
          -∗ wp frame (wpE defs 𝒱 c bd) Set.univ (
            Prog.lift (.waitDma2 sr src0 (idx.slice (Rect.unit (s := ⟨2, ![32, W]⟩) ![24, 0] (⟨2, ![8, W]⟩ : Shape).size hd0) hv0) hsrc0 hdst0) >>= fun _ =>
            Prog.lift (.waitDma2 sc src1 al hsrc1 hdst1) >>= k) Q) := by
  have hN0 := blockCredit_pos c idx hW
  iintro ⟨HB, HF, HO⟩ Hk
  iapply (wp_wait_all (defs := defs) (n := 4) (u := 0 + blockCredit c idx + blockCredit c idx + blockCredit c idx) (N := blockCredit c idx) 𝒱 c bd EC rfl hN0 (by omega)) $$ [HB HO]
  · isplitl [HB]; · iexact HB
    iexact HO
  iintro ⟨HB, HV, HO⟩
  ihave HI := (blocks_join (F := F) c) $$ HB
  iapply (wp_wait_one (defs := defs) 𝒱 c bd EC rfl) $$ [HF HO]
  · isplitl [HF]; · iexact HF
    iexact HO
  iintro ⟨HL, HV', HO⟩
  iapply Hk
  isplitl [HI]; · iexact HI
  isplitl [HL]; · iexact HL
  isplitl [HV]; · iexact HV
  isplitl [HV']; · iexact HV'
  iexact HO

/-- A chunk's two results are issued. -/
theorem wp_issue_outs {sw : DmaSem sig} {M6 M7 : Memref sig c.2.kind .hbm S640000 .f32} {ab db : Memref sig c.2.kind .vmem (⟨1, ![W]⟩ : Shape) .f32}
    {off : Fin 1 → ℕ} {ho0 ho1} {hu0 hu1}
    {hsrc0 hsrc1} {hdst0 hdst1} {hsem0 hsem1} {k : PUnit → Prog (TpuEff nD τ sig (Elt F) Λ₀ c.2) α} {ι : Ix} {Nw : ℕ}
    (lo hi : ℕ) {A D : (⟨1, ![W]⟩ : Shape).Idx → F .f32} {Oa Od : S640000.Idx → F .f32} (hoff : off = ![lo]) (hhi : lo + W ≤ hi)
    (h6 : sig.dmaCredit c.2.kind (c.2.kind.table .hbm) M6.view.buf ⟨1, ![W]⟩ .f32 = Nw)
    (h7 : sig.dmaCredit c.2.kind (c.2.kind.table .hbm) M7.view.buf ⟨1, ![W]⟩ .f32 = Nw)
    (hA : ∀ (x : (⟨1, ![W]⟩ : Shape).Idx) (y : S640000.Idx), (y 0 : ℕ) = lo + (x 0 : ℕ) → Oa y = A x)
    (hD : ∀ (x : (⟨1, ![W]⟩ : Shape).Idx) (y : S640000.Idx), (y 0 : ℕ) = lo + (x 0 : ℕ) → Od y = D x) :
    iprop(Reg (F := F) c fullShare ab.view Finset.univ A ∗ Reg (F := F) c fullShare db.view Finset.univ D ∗ semVal (c, .dma sw) 0 ∗
        ∃ X Y, Both (F := F) c M6 M7 lo hi X Y)
      ⊢ iprop((iprop(WriteOn c EC ι Nw M6 M7 ab db sw Oa Od lo ∗ ∃ X Y, Both (F := F) c M6 M7 (lo + W) hi X Y)
            -∗ wp frame (wpE defs 𝒱 c bd) Set.univ (k ⟨⟩) Q)
          -∗ wp frame (wpE defs 𝒱 c bd) Set.univ (
            Prog.lift (.enqueueDma ab (.here (M6.slice (Rect.unit (s := S640000) off (⟨1, ![W]⟩ : Shape).size ho0) hu0)) (.dma sw) hsrc0 hdst0 hsem0) >>= fun _ =>
            Prog.lift (.enqueueDma db (.here (M7.slice (Rect.unit (s := S640000) off (⟨1, ![W]⟩ : Shape).size ho1) hu1)) (.dma sw) hsrc1 hdst1 hsem1) >>= k) Q) := by
  unfold Both WriteOn
  iintro ⟨HA, HD, HV, %X, %Y, H6, H7⟩ Hk
  iapply fupd_wp
  imod (batch_alloc' EC c ι Nw (outs (F := F) c M6 M7 ab db Oa Od lo) (sm := .dma sw) (E := Set.univ)) $$ HV with HB
  imodintro
  iapply (wp_issue_out (defs := defs) 𝒱 c bd EC (M := M6) (D := outs (F := F) c M6 M7 ab db Oa Od lo) 0 (by decide) lo hi hoff hhi h6 hA .rfl) $$ [HA H6 HB]
  · isplitl [HA]; · iexact HA
    isplitl [H6]; · iexact H6
    iexact HB
  iintro ⟨H6, HB⟩
  iapply (wp_issue_out (defs := defs) 𝒱 c bd EC (M := M7) (D := outs (F := F) c M6 M7 ab db Oa Od lo) 1 (by decide) lo hi hoff hhi h7 hD .rfl) $$ [HD H7 HB]
  · isplitl [HD]; · iexact HD
    isplitl [H7]; · iexact H7
    iexact HB
  iintro ⟨H7, HB⟩
  iapply Hk
  isplitl [HB]; · iexact HB
  iexists X, Y
  isplitl [H6]; · iexact H6
  iexact H7

/-- A chunk's two results are awaited: the stretch is done and the buffers are back. -/
theorem wp_wait_outs {sw : DmaSem sig} {M6 M7 : Memref sig c.2.kind .hbm S640000 .f32} {ab db : Memref sig c.2.kind .vmem (⟨1, ![W]⟩ : Shape) .f32}
    {off : Fin 1 → ℕ} {ho0 ho1} {hu0 hu1} {sp sp' : Space} {s s' : Shape} {e e' : EltTy} {src0 : Memref sig c.2.kind sp s e} {src1 : Memref sig c.2.kind sp' s' e'}
    {hsrc0 hsrc1} {hdst0 hdst1} {k : PUnit → Prog (TpuEff nD τ sig (Elt F) Λ₀ c.2) α} {ι : Ix} {Nw : ℕ}
    {O : CellTallies nD τ sig Ix} {Wt : Waits sig Ix} {lo : ℕ} {Oa Od : S640000.Idx → F .f32} (hW : 0 < (⟨1, ![W]⟩ : Shape).numel)
    (h6 : sig.dmaCredit c.2.kind (c.2.kind.table .hbm) M6.view.buf ⟨1, ![W]⟩ .f32 = Nw)
    (h7 : sig.dmaCredit c.2.kind (c.2.kind.table .hbm) M7.view.buf ⟨1, ![W]⟩ .f32 = Nw) :
    iprop(WriteOn c EC ι Nw M6 M7 ab db sw Oa Od lo ∗ Owed c ι O Wt)
      ⊢ iprop((iprop(WriteIdle (F := F) c ab db sw ∗ Both (F := F) c M6 M7 lo (lo + W) Oa Od ∗ Owed c ι O Wt)
            -∗ wp frame (wpE defs 𝒱 c bd) Set.univ (k ⟨⟩) Q)
          -∗ wp frame (wpE defs 𝒱 c bd) Set.univ (
            Prog.lift (.waitDma2 sw src0 (M6.slice (Rect.unit (s := S640000) off (⟨1, ![W]⟩ : Shape).size ho0) hu0) hsrc0 hdst0) >>= fun _ =>
            Prog.lift (.waitDma2 sw src1 (M7.slice (Rect.unit (s := S640000) off (⟨1, ![W]⟩ : Shape).size ho1) hu1) hsrc1 hdst1) >>= k) Q) := by
  have hN0 : 0 < Nw := h6 ▸ sig.dmaCredit_pos _ _ _ _ _ hW
  unfold Both WriteOn WriteIdle
  iintro ⟨HB, HO⟩ Hk
  iapply (wp_wait_more (defs := defs) (n := 2) (u := 0) (N := Nw) 𝒱 c bd EC h6 (by omega)) $$ [HB HO]
  · isplitl [HB]; · iexact HB
    iexact HO
  iintro ⟨HB, HO⟩
  iapply (wp_wait_all (defs := defs) (n := 2) (u := 0 + Nw) (N := Nw) 𝒱 c bd EC h7 hN0 (by omega)) $$ [HB HO]
  · isplitl [HB]; · iexact HB
    iexact HO
  iintro ⟨HB, HV, HO⟩
  ihave HB' := (show bigSep Finset.univ (outs (F := F) c M6 M7 ab db Oa Od lo) ⊢ (iprop(Out (F := F) c M6 ab Oa lo ∗ Out (F := F) c M7 db Od lo) : sProp 𝕄) from
    by rw [bigSep_fin_two]; exact .rfl) $$ HB
  unfold Out
  icases HB' with ⟨⟨H6, HA⟩, H7, HD⟩
  iapply Hk
  isplitl [HA HD HV]
  · isplitl [HA]; · iexact HA
    isplitl [HD]; · iexact HD
    iexact HV
  isplitl [H6 H7]
  · isplitl [H6]; · iexact H6
    iexact H7
  iexact HO

/-- A column of a chunk is a column of the table. -/
theorem at2_chunk3 {β : Type} [NeZero r] [NeZero W] (hr : r = n) (G : (⟨3, ![m, n, p]⟩ : Shape).Idx → β) (b c0 k : ℕ) {x : ℕ} (hx : x < W) :
    at2 (chunk3 (r := r) (W := W) G b c0) k x = at3 G b k (c0 + x) := by
  subst hr
  unfold at2 chunk3 at3
  have e1 : ((ix2 (Fin.ofNat r k) (Fin.ofNat W x) : (⟨2, ![r, W]⟩ : Shape).Idx) 0 : ℕ) = k % r := rfl
  have e2 : ((ix2 (Fin.ofNat r k) (Fin.ofNat W x) : (⟨2, ![r, W]⟩ : Shape).Idx) 1 : ℕ) = x := Nat.mod_eq_of_lt hx
  rw [e1, e2]
  congr 2
  exact Fin.ext (Nat.mod_mod _ _)

end States

end Cert.Interference
-- ==== Proof.Offsets.lean ====
/-
  Where the kernel's copies and groups start: each offset the kernel computes, as a number of the tile, the trip and the row.
-/
module

public import proofs.«01_k».proof.Defs
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (vectorLoadIdx V)
open Idealize.ShloMosaic.ValueIdx (ix1 ix2 eq_ix1 eq_ix2)

/-- The number of the tile at a pair of a SparseCore and a subcore: the batch element it works on. -/
def bt (i : grid0.Coords) : ℕ := (i 1 : ℕ) * 2 + (i 0 : ℕ)

theorem off46_eq : ∀ (t1 : Fin k0_t1_loop.trips) (t : Fin k0_t2_loop.trips), k0_off46 t1 t 1 = (2 * (t1 : ℕ)) * 640 + 16 * (t : ℕ) := by decide +kernel
theorem off47_eq : ∀ (t1 : Fin k0_t1_loop.trips) (t : Fin k0_t2_loop.trips), k0_off47 t1 t 1 = (2 * (t1 : ℕ)) * 640 + 16 * (t : ℕ) := by decide +kernel
theorem off95_eq : ∀ (t1 : Fin k0_t1_loop.trips) (t : Fin k0_t3_loop.trips), k0_off95 t1 t 1 = (2 * (t1 : ℕ) + 1) * 640 + 16 * (t : ℕ) := by decide +kernel
theorem off96_eq : ∀ (t1 : Fin k0_t1_loop.trips) (t : Fin k0_t3_loop.trips), k0_off96 t1 t 1 = (2 * (t1 : ℕ) + 1) * 640 + 16 * (t : ℕ) := by decide +kernel
theorem off138_eq : ∀ t : Fin k0_t4_loop.trips, k0_off138 t 1 = 19200 + 16 * (t : ℕ) := by decide +kernel
theorem off139_eq : ∀ t : Fin k0_t4_loop.trips, k0_off139 t 1 = 19200 + 16 * (t : ℕ) := by decide +kernel
theorem off50_eq : ∀ t : Fin k0_t2_loop.trips, k0_off50 t 0 = 16 * (t : ℕ) := by decide +kernel
theorem off99_eq : ∀ t : Fin k0_t3_loop.trips, k0_off99 t 0 = 16 * (t : ℕ) := by decide +kernel
theorem off142_eq : ∀ t : Fin k0_t4_loop.trips, k0_off142 t 0 = 16 * (t : ℕ) := by decide +kernel
theorem off1_eq : ∀ i : grid0.Coords, k0_off1 i = ![bt i, 0, 0] := by decide +kernel
theorem off2_eq : ∀ i : grid0.Coords, k0_off2 i = ![bt i * 16] := by decide +kernel
theorem off3_eq : ∀ i : grid0.Coords, k0_off3 i = ![bt i, 8 * 0, 0] := by decide +kernel
theorem off8_eq : ∀ i : grid0.Coords, k0_off8 i = ![bt i, 8 * 0, 640] := by decide +kernel
theorem off52_eq : ∀ (i : grid0.Coords) (t1 : Fin k0_t1_loop.trips), k0_off52 i t1 = ![bt i, 8 * 0, (2 * (t1 : ℕ) + 2) * 640] := by decide +kernel
theorem off57_eq : ∀ i : grid0.Coords, k0_off57 i = ![bt i, 8 * 0, 19200] := by decide +kernel
theorem off100_eq : ∀ (i : grid0.Coords) (t1 : Fin k0_t1_loop.trips), k0_off100 i t1 = ![bt i, 8 * 0, (2 * (t1 : ℕ) + 3) * 640] := by decide +kernel
theorem off4_eq : ∀ i : grid0.Coords, k0_off4 i = ![bt i, 8 * 1, 0] := by decide +kernel
theorem off9_eq : ∀ i : grid0.Coords, k0_off9 i = ![bt i, 8 * 1, 640] := by decide +kernel
theorem off53_eq : ∀ (i : grid0.Coords) (t1 : Fin k0_t1_loop.trips), k0_off53 i t1 = ![bt i, 8 * 1, (2 * (t1 : ℕ) + 2) * 640] := by decide +kernel
theorem off58_eq : ∀ i : grid0.Coords, k0_off58 i = ![bt i, 8 * 1, 19200] := by decide +kernel
theorem off101_eq : ∀ (i : grid0.Coords) (t1 : Fin k0_t1_loop.trips), k0_off101 i t1 = ![bt i, 8 * 1, (2 * (t1 : ℕ) + 3) * 640] := by decide +kernel
theorem off5_eq : ∀ i : grid0.Coords, k0_off5 i = ![bt i, 8 * 2, 0] := by decide +kernel
theorem off10_eq : ∀ i : grid0.Coords, k0_off10 i = ![bt i, 8 * 2, 640] := by decide +kernel
theorem off54_eq : ∀ (i : grid0.Coords) (t1 : Fin k0_t1_loop.trips), k0_off54 i t1 = ![bt i, 8 * 2, (2 * (t1 : ℕ) + 2) * 640] := by decide +kernel
theorem off59_eq : ∀ i : grid0.Coords, k0_off59 i = ![bt i, 8 * 2, 19200] := by decide +kernel
theorem off102_eq : ∀ (i : grid0.Coords) (t1 : Fin k0_t1_loop.trips), k0_off102 i t1 = ![bt i, 8 * 2, (2 * (t1 : ℕ) + 3) * 640] := by decide +kernel
theorem off6_eq : ∀ i : grid0.Coords, k0_off6 i = ![bt i, 8 * 3, 0] := by decide +kernel
theorem off11_eq : ∀ i : grid0.Coords, k0_off11 i = ![bt i, 8 * 3, 640] := by decide +kernel
theorem off55_eq : ∀ (i : grid0.Coords) (t1 : Fin k0_t1_loop.trips), k0_off55 i t1 = ![bt i, 8 * 3, (2 * (t1 : ℕ) + 2) * 640] := by decide +kernel
theorem off60_eq : ∀ i : grid0.Coords, k0_off60 i = ![bt i, 8 * 3, 19200] := by decide +kernel
theorem off103_eq : ∀ (i : grid0.Coords) (t1 : Fin k0_t1_loop.trips), k0_off103 i t1 = ![bt i, 8 * 3, (2 * (t1 : ℕ) + 3) * 640] := by decide +kernel
theorem off7_eq : ∀ i : grid0.Coords, k0_off7 i = ![bt i, 0, 0] := by decide +kernel
theorem off12_eq : ∀ i : grid0.Coords, k0_off12 i = ![bt i, 0, 640] := by decide +kernel
theorem off56_eq : ∀ (i : grid0.Coords) (t1 : Fin k0_t1_loop.trips), k0_off56 i t1 = ![bt i, 0, (2 * (t1 : ℕ) + 2) * 640] := by decide +kernel
theorem off61_eq : ∀ i : grid0.Coords, k0_off61 i = ![bt i, 0, 19200] := by decide +kernel
theorem off104_eq : ∀ (i : grid0.Coords) (t1 : Fin k0_t1_loop.trips), k0_off104 i t1 = ![bt i, 0, (2 * (t1 : ℕ) + 3) * 640] := by decide +kernel
theorem off51_eq0 : ∀ (i : grid0.Coords) (t1 : Fin k0_t1_loop.trips), k0_off51 i t1 0#32 = ![bt i * 20000 + (2 * (t1 : ℕ)) * 640] := by decide +kernel
theorem off51_eq1 : ∀ (i : grid0.Coords) (t1 : Fin k0_t1_loop.trips), k0_off51 i t1 1#32 = ![bt i * 20000 + (2 * (t1 : ℕ) + 1) * 640] := by decide +kernel
theorem off143_eq : ∀ i : grid0.Coords, k0_off143 i = ![bt i * 20000 + 19200] := by decide +kernel
theorem cond1_iff : ∀ t1 : Fin k0_t1_loop.trips, k0_cond1 t1 = 1#1 ↔ 0 < (t1 : ℕ) := by decide +kernel
theorem cond2_iff : ∀ t1 : Fin k0_t1_loop.trips, k0_cond2 t1 = 1#1 ↔ (t1 : ℕ) < 14 := by decide +kernel
theorem cond3_iff : ∀ t1 : Fin k0_t1_loop.trips, k0_cond3 t1 = 1#1 ↔ (t1 : ℕ) = 14 := by decide +kernel
theorem cond4_iff : ∀ t1 : Fin k0_t1_loop.trips, k0_cond4 t1 = 1#1 ↔ 0 < (t1 : ℕ) := by decide +kernel
theorem cond5_iff : ∀ t1 : Fin k0_t1_loop.trips, k0_cond5 t1 = 1#1 ↔ (t1 : ℕ) < 14 := by decide +kernel
theorem trips1 : k0_t1_loop.trips = 15 := by decide +kernel
theorem trips2 : k0_t2_loop.trips = 40 := by decide +kernel
theorem trips3 : k0_t3_loop.trips = 40 := by decide +kernel
theorem trips4 : k0_t4_loop.trips = 50 := by decide +kernel
theorem bt_lt : ∀ i : grid0.Coords, bt i < 32 := by decide +kernel

end Cert.Interference
-- ==== Proof.Group2.lean ====
/-
  The group of sixteen nodes worked on by the loop over an even chunk.
-/
module

public import proofs.«01_k».proof.Defs
public import proofs.«01_k».proof.Proof.Steps
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix1 ix2 eq_ix1 eq_ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD)

set_option maxHeartbeats 4000000 in
set_option maxRecDepth 65536 in
/-- One group: the sixteen nodes from `16 t` of the chunk get their interference and their weighted squared distance. -/
theorem group2 (bd : Option 𝒱.V) (i : grid0.Coords) {arg2 : Memref sig .scVector .hbm S32x2x20000 .f32} {harg2 : arg2.IsWhole} {arg3 : Memref sig .scVector .hbm S32x2x20000 .f32} {harg3 : arg3.IsWhole} {arg4 : Memref sig .scVector .hbm S32x32x20000 .i32} {harg4 : arg4.IsWhole} {arg5 : Memref sig .scVector .hbm S512 .f32} {harg5 : arg5.IsWhole} {arg6 : Memref sig .scVector .hbm S640000 .f32} {harg6 : arg6.IsWhole} {arg7 : Memref sig .scVector .hbm S640000 .f32} {harg7 : arg7.IsWhole} {arg8 : Memref sig .scVector .vmem S2x20000 .f32} {harg8 : arg8.IsWhole} {arg9 : Memref sig .scVector .vmem S16 .f32} {harg9 : arg9.IsWhole} {arg10 : Memref sig .scVector .vmem S32x640 .i32} {harg10 : arg10.IsWhole} {arg11 : Memref sig .scVector .vmem S32x640 .i32} {harg11 : arg11.IsWhole} {arg12 : Memref sig .scVector .vmem S2x640 .f32} {harg12 : arg12.IsWhole} {arg13 : Memref sig .scVector .vmem S2x640 .f32} {harg13 : arg13.IsWhole} {arg14 : Memref sig .scVector .vmem S640 .f32} {harg14 : arg14.IsWhole} {arg15 : Memref sig .scVector .vmem S640 .f32} {harg15 : arg15.IsWhole} {arg16 : Memref sig .scVector .vmem S640 .f32} {harg16 : arg16.IsWhole} {arg17 : Memref sig .scVector .vmem S640 .f32} {harg17 : arg17.IsWhole} {arg18 : Memref sig .scVector .vmem S32x800 .i32} {harg18 : arg18.IsWhole} {arg19 : Memref sig .scVector .vmem S2x800 .f32} {harg19 : arg19.IsWhole} {arg20 : Memref sig .scVector .vmem S800 .f32} {harg20 : arg20.IsWhole} {arg21 : Memref sig .scVector .vmem S800 .f32} {harg21 : arg21.IsWhole} {arg22 : DmaSems sig S_} {arg23 : DmaSems sig S_} {arg24 : DmaSems sig S_} {arg25 : DmaSems sig S_} {arg26 : DmaSems sig S_} {arg27 : DmaSems sig S_} {arg28 : DmaSems sig S_} {arg29 : DmaSems sig S_} {arg30 : DmaSems sig S_} {v121_r0 : DmaSems sig S_} {v121_r1 : DmaSems sig S_} (v5 v7 v9 v11 v13 v15 : F .f32) (v16 : BitVec 32) (k0_t1 : Fin k0_t1_loop.trips) (arg31 v122 v123 : BitVec 32) (t : Fin k0_t2_loop.trips)
    (T : S2x20000.Idx → F .f32) (Gi : S32x640.Idx → BitVec 32) (hG : ∀ x, (Gi x).toNat < 20000) (L : S2x640.Idx → F .f32)
    (A D : S640.Idx → F .f32) (c0 : ℕ)
    (h0 : k0_off46 k0_t1 t 1 = c0 + 16 * t) (h1 : k0_off47 k0_t1 t 1 = c0 + 16 * t) (h2 : k0_off50 t 0 = 16 * t) :
    (Chunk (tile d i) arg8 arg10 arg12 arg14 arg16 T Gi L A D : sProp 𝕄)
      ⊢ wp frame (wpE defs 𝒱 (tile d i) bd) Set.univ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 v121_r0 v121_r1 v5 v7 v9 v11 v13 v15 v16 k0_t1 arg31 v122 v123 t ()) fun _ =>
          Chunk (tile d i) arg8 arg10 arg12 arg14 arg16 T Gi L
            (stored (16 * t) (fun n => aNode v5 v7 v9 (at2 T) (fun k => at2 Gi k n) (c0 + n)) A)
            (stored (16 * t) (fun n => dNode v11 v13 v15 (at2 L 0 n) (at2 L 1 n)) D) := by
  rw [← h2] at h0 h1 ⊢
  have hx : ∀ x, shapeCast S16 (fun y => T ((Rect.unit (s := S2x20000) (k0_off46 k0_t1 t) S1x16.size (k0_off46_inb k0_t1 t)).emb y)) shapeCasts_S1x16_S16 x
      = at2 T 0 (c0 + (k0_off50 t 0 + (x 0 : ℕ))) := fun x => by
    rw [shapeCast_row, h0, Nat.add_assoc]; rfl
  have hy : ∀ x, shapeCast S16 (fun y => T ((Rect.unit (s := S2x20000) (k0_off47 k0_t1 t) S1x16.size (k0_off47_inb k0_t1 t)).emb y)) shapeCasts_S1x16_S16 x
      = at2 T 1 (c0 + (k0_off50 t 0 + (x 0 : ℕ))) := fun x => by
    rw [shapeCast_row, h1, Nat.add_assoc]; rfl
  unfold k0_t2_body Chunk
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  iintro ⟨Hi, Hp, Hl, HA, HD⟩
  iapply wp_seq (defs := defs) 𝒱 _ bd
  iterate 2
    iapply (wp_row (defs := defs) 𝒱 _ bd Gi) $$ Hi
    iintro Hi
    iterate 2
      iapply (wp_check (defs := defs) 𝒱 _ bd (row_ok hG (by decide)))
      iapply (wp_pick (defs := defs) 𝒱 _ bd Gi T) $$ Hp
      iintro Hp
  iterate 7
    iapply (wp_row (defs := defs) 𝒱 _ bd Gi) $$ Hi
    iintro Hi
    iapply (wp_check (defs := defs) 𝒱 _ bd (row_ok hG (by decide)))
    iapply (wp_pick (defs := defs) 𝒱 _ bd Gi T) $$ Hp
    iintro Hp
    iapply wp_done (defs := defs) 𝒱 _ bd
    iapply wp_seq (defs := defs) 𝒱 _ bd
    iapply (wp_check (defs := defs) 𝒱 _ bd (row_ok hG (by decide)))
    iapply (wp_pick (defs := defs) 𝒱 _ bd Gi T) $$ Hp
    iintro Hp
    iterate 3
      iapply (wp_row (defs := defs) 𝒱 _ bd Gi) $$ Hi
      iintro Hi
      iterate 2
        iapply (wp_check (defs := defs) 𝒱 _ bd (row_ok hG (by decide)))
        iapply (wp_pick (defs := defs) 𝒱 _ bd Gi T) $$ Hp
        iintro Hp
  iapply (wp_row (defs := defs) 𝒱 _ bd Gi) $$ Hi
  iintro Hi
  iapply (wp_check (defs := defs) 𝒱 _ bd (row_ok hG (by decide)))
  iapply (wp_pick (defs := defs) 𝒱 _ bd Gi T) $$ Hp
  iintro Hp
  iapply wp_done (defs := defs) 𝒱 _ bd
  iapply wp_seq (defs := defs) 𝒱 _ bd
  iapply (wp_check (defs := defs) 𝒱 _ bd (row_ok hG (by decide)))
  iapply (wp_pick (defs := defs) 𝒱 _ bd Gi T) $$ Hp
  iintro Hp
  iapply (wp_row (defs := defs) 𝒱 _ bd Gi) $$ Hi
  iintro Hi
  iterate 2
    iapply (wp_check (defs := defs) 𝒱 _ bd (row_ok hG (by decide)))
    iapply (wp_pick (defs := defs) 𝒱 _ bd Gi T) $$ Hp
    iintro Hp
  iterate 2
    iapply (wp_row (defs := defs) 𝒱 _ bd T) $$ Hp
    iintro Hp
  iterate 2
    iapply (wp_row (defs := defs) 𝒱 _ bd L) $$ Hl
    iintro Hl
  iapply wp_done (defs := defs) 𝒱 _ bd
  iapply (wp_row (defs := defs) 𝒱 _ bd A) $$ HA
  iintro HA
  iapply (wp_put (defs := defs) 𝒱 _ bd (fun n => aNode v5 v7 v9 (at2 T) (fun k => at2 Gi k n) (c0 + n)) A (fun x => by
    simp only [k0_pay65, addf, mulf, broadcast, hx, hy]; rfl)) $$ HA
  iintro HA
  iapply (wp_row (defs := defs) 𝒱 _ bd D) $$ HD
  iintro HD
  iapply (wp_put (defs := defs) 𝒱 _ bd (fun n => dNode v11 v13 v15 (at2 L 0 n) (at2 L 1 n)) D (fun x => by
    simp only [k0_pay135, k0_pay66, k0_pay67, addf, mulf, subf, broadcast, shapeCast_row]; rfl)) $$ HD
  iintro HD
  iapply wp_done (defs := defs) 𝒱 _ bd
  isplitl [Hi]; · iexact Hi
  isplitl [Hp]; · iexact Hp
  isplitl [Hl]; · iexact Hl
  isplitl [HA]; · iexact HA
  iexact HD

end Cert.Interference
-- ==== Proof.Group3.lean ====
/-
  The group of sixteen nodes worked on by the loop over an odd chunk.
-/
module

public import proofs.«01_k».proof.Defs
public import proofs.«01_k».proof.Proof.Steps
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix1 ix2 eq_ix1 eq_ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD)

set_option maxHeartbeats 4000000 in
set_option maxRecDepth 65536 in
/-- One group: the sixteen nodes from `16 t` of the chunk get their interference and their weighted squared distance. -/
theorem group3 (bd : Option 𝒱.V) (i : grid0.Coords) {arg2 : Memref sig .scVector .hbm S32x2x20000 .f32} {harg2 : arg2.IsWhole} {arg3 : Memref sig .scVector .hbm S32x2x20000 .f32} {harg3 : arg3.IsWhole} {arg4 : Memref sig .scVector .hbm S32x32x20000 .i32} {harg4 : arg4.IsWhole} {arg5 : Memref sig .scVector .hbm S512 .f32} {harg5 : arg5.IsWhole} {arg6 : Memref sig .scVector .hbm S640000 .f32} {harg6 : arg6.IsWhole} {arg7 : Memref sig .scVector .hbm S640000 .f32} {harg7 : arg7.IsWhole} {arg8 : Memref sig .scVector .vmem S2x20000 .f32} {harg8 : arg8.IsWhole} {arg9 : Memref sig .scVector .vmem S16 .f32} {harg9 : arg9.IsWhole} {arg10 : Memref sig .scVector .vmem S32x640 .i32} {harg10 : arg10.IsWhole} {arg11 : Memref sig .scVector .vmem S32x640 .i32} {harg11 : arg11.IsWhole} {arg12 : Memref sig .scVector .vmem S2x640 .f32} {harg12 : arg12.IsWhole} {arg13 : Memref sig .scVector .vmem S2x640 .f32} {harg13 : arg13.IsWhole} {arg14 : Memref sig .scVector .vmem S640 .f32} {harg14 : arg14.IsWhole} {arg15 : Memref sig .scVector .vmem S640 .f32} {harg15 : arg15.IsWhole} {arg16 : Memref sig .scVector .vmem S640 .f32} {harg16 : arg16.IsWhole} {arg17 : Memref sig .scVector .vmem S640 .f32} {harg17 : arg17.IsWhole} {arg18 : Memref sig .scVector .vmem S32x800 .i32} {harg18 : arg18.IsWhole} {arg19 : Memref sig .scVector .vmem S2x800 .f32} {harg19 : arg19.IsWhole} {arg20 : Memref sig .scVector .vmem S800 .f32} {harg20 : arg20.IsWhole} {arg21 : Memref sig .scVector .vmem S800 .f32} {harg21 : arg21.IsWhole} {arg22 : DmaSems sig S_} {arg23 : DmaSems sig S_} {arg24 : DmaSems sig S_} {arg25 : DmaSems sig S_} {arg26 : DmaSems sig S_} {arg27 : DmaSems sig S_} {arg28 : DmaSems sig S_} {arg29 : DmaSems sig S_} {arg30 : DmaSems sig S_} {v121_r0 : DmaSems sig S_} {v121_r1 : DmaSems sig S_} (v5 v7 v9 v11 v13 v15 : F .f32) (v16 : BitVec 32) (k0_t1 : Fin k0_t1_loop.trips) (v171 : BitVec 32) (t : Fin k0_t3_loop.trips)
    (T : S2x20000.Idx → F .f32) (Gi : S32x640.Idx → BitVec 32) (hG : ∀ x, (Gi x).toNat < 20000) (L : S2x640.Idx → F .f32)
    (A D : S640.Idx → F .f32) (c0 : ℕ)
    (h0 : k0_off95 k0_t1 t 1 = c0 + 16 * t) (h1 : k0_off96 k0_t1 t 1 = c0 + 16 * t) (h2 : k0_off99 t 0 = 16 * t) :
    (Chunk (tile d i) arg8 arg11 arg13 arg15 arg17 T Gi L A D : sProp 𝕄)
      ⊢ wp frame (wpE defs 𝒱 (tile d i) bd) Set.univ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 v121_r0 v121_r1 v5 v7 v9 v11 v13 v15 v16 k0_t1 v171 t ()) fun _ =>
          Chunk (tile d i) arg8 arg11 arg13 arg15 arg17 T Gi L
            (stored (16 * t) (fun n => aNode v5 v7 v9 (at2 T) (fun k => at2 Gi k n) (c0 + n)) A)
            (stored (16 * t) (fun n => dNode v11 v13 v15 (at2 L 0 n) (at2 L 1 n)) D) := by
  rw [← h2] at h0 h1 ⊢
  have hx : ∀ x, shapeCast S16 (fun y => T ((Rect.unit (s := S2x20000) (k0_off95 k0_t1 t) S1x16.size (k0_off95_inb k0_t1 t)).emb y)) shapeCasts_S1x16_S16 x
      = at2 T 0 (c0 + (k0_off99 t 0 + (x 0 : ℕ))) := fun x => by
    rw [shapeCast_row, h0, Nat.add_assoc]; rfl
  have hy : ∀ x, shapeCast S16 (fun y => T ((Rect.unit (s := S2x20000) (k0_off96 k0_t1 t) S1x16.size (k0_off96_inb k0_t1 t)).emb y)) shapeCasts_S1x16_S16 x
      = at2 T 1 (c0 + (k0_off99 t 0 + (x 0 : ℕ))) := fun x => by
    rw [shapeCast_row, h1, Nat.add_assoc]; rfl
  unfold k0_t3_body Chunk
  rw [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part12_skel k0_part13_skel k0_part14_skel k0_part15_skel k0_part16_skel k0_part17_skel k0_part18_skel k0_part19_skel k0_part20_skel
  iintro ⟨Hi, Hp, Hl, HA, HD⟩
  iapply wp_seq (defs := defs) 𝒱 _ bd
  iterate 2
    iapply (wp_row (defs := defs) 𝒱 _ bd Gi) $$ Hi
    iintro Hi
    iterate 2
      iapply (wp_check (defs := defs) 𝒱 _ bd (row_ok hG (by decide)))
      iapply (wp_pick (defs := defs) 𝒱 _ bd Gi T) $$ Hp
      iintro Hp
  iterate 7
    iapply (wp_row (defs := defs) 𝒱 _ bd Gi) $$ Hi
    iintro Hi
    iapply (wp_check (defs := defs) 𝒱 _ bd (row_ok hG (by decide)))
    iapply (wp_pick (defs := defs) 𝒱 _ bd Gi T) $$ Hp
    iintro Hp
    iapply wp_done (defs := defs) 𝒱 _ bd
    iapply wp_seq (defs := defs) 𝒱 _ bd
    iapply (wp_check (defs := defs) 𝒱 _ bd (row_ok hG (by decide)))
    iapply (wp_pick (defs := defs) 𝒱 _ bd Gi T) $$ Hp
    iintro Hp
    iterate 3
      iapply (wp_row (defs := defs) 𝒱 _ bd Gi) $$ Hi
      iintro Hi
      iterate 2
        iapply (wp_check (defs := defs) 𝒱 _ bd (row_ok hG (by decide)))
        iapply (wp_pick (defs := defs) 𝒱 _ bd Gi T) $$ Hp
        iintro Hp
  iapply (wp_row (defs := defs) 𝒱 _ bd Gi) $$ Hi
  iintro Hi
  iapply (wp_check (defs := defs) 𝒱 _ bd (row_ok hG (by decide)))
  iapply (wp_pick (defs := defs) 𝒱 _ bd Gi T) $$ Hp
  iintro Hp
  iapply wp_done (defs := defs) 𝒱 _ bd
  iapply wp_seq (defs := defs) 𝒱 _ bd
  iapply (wp_check (defs := defs) 𝒱 _ bd (row_ok hG (by decide)))
  iapply (wp_pick (defs := defs) 𝒱 _ bd Gi T) $$ Hp
  iintro Hp
  iapply (wp_row (defs := defs) 𝒱 _ bd Gi) $$ Hi
  iintro Hi
  iterate 2
    iapply (wp_check (defs := defs) 𝒱 _ bd (row_ok hG (by decide)))
    iapply (wp_pick (defs := defs) 𝒱 _ bd Gi T) $$ Hp
    iintro Hp
  iterate 2
    iapply (wp_row (defs := defs) 𝒱 _ bd T) $$ Hp
    iintro Hp
  iterate 2
    iapply (wp_row (defs := defs) 𝒱 _ bd L) $$ Hl
    iintro Hl
  iapply wp_done (defs := defs) 𝒱 _ bd
  iapply (wp_row (defs := defs) 𝒱 _ bd A) $$ HA
  iintro HA
  iapply (wp_put (defs := defs) 𝒱 _ bd (fun n => aNode v5 v7 v9 (at2 T) (fun k => at2 Gi k n) (c0 + n)) A (fun x => by
    simp only [k0_pay132, addf, mulf, broadcast, hx, hy]; rfl)) $$ HA
  iintro HA
  iapply (wp_row (defs := defs) 𝒱 _ bd D) $$ HD
  iintro HD
  iapply (wp_put (defs := defs) 𝒱 _ bd (fun n => dNode v11 v13 v15 (at2 L 0 n) (at2 L 1 n)) D (fun x => by
    simp only [k0_pay208, k0_pay133, k0_pay134, addf, mulf, subf, broadcast, shapeCast_row]; rfl)) $$ HD
  iintro HD
  iapply wp_done (defs := defs) 𝒱 _ bd
  isplitl [Hi]; · iexact Hi
  isplitl [Hp]; · iexact Hp
  isplitl [Hl]; · iexact Hl
  isplitl [HA]; · iexact HA
  iexact HD

end Cert.Interference
-- ==== Proof.Trip.lean ====
/-
  One trip of a tile's loop: an even chunk and an odd chunk are computed, the reads of the next two issued and the results of
  the last two awaited.
-/
module

public import proofs.«01_k».proof.Defs
public import proofs.«01_k».proof.Proof.State
public import proofs.«01_k».proof.Proof.Offsets
public import proofs.«01_k».proof.Proof.Group2
public import proofs.«01_k».proof.Proof.Group3
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix2 ix3)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (c : Thread nD τ) (d : Dev nD) (bd : Option 𝒱.V)
variable [Infinite Name] (EC : UEmb Counters (MT nD τ sig Ix (Elt F) Name U Lvl)) [EC.LandsIn (upEmb : UEmb _ (MT nD τ sig Ix (Elt F) Name U Lvl))]

/-- The interference of node `n` of batch element `b`. -/
def aAt (qx qy lam : F .f32) (Gp : S32x2x20000.Idx → F .f32) (Gk : S32x32x20000.Idx → BitVec 32) (b n : ℕ) : F .f32 :=
  aNode qx qy lam (at2 (chunk3 (r := 2) (W := 20000) Gp b 0)) (fun k => at3 Gk b k n) n

/-- The weighted squared distance of node `n` of batch element `b`. -/
def dAt (mu2 cx cy : F .f32) (Ga : S32x2x20000.Idx → F .f32) (b n : ℕ) : F .f32 :=
  dNode mu2 cx cy (at3 Ga b 0 n) (at3 Ga b 1 n)

/-- The result array of batch element `b`'s nodes, from the element where they start. -/
def outOf (b : ℕ) (f : ℕ → F .f32) : S640000.Idx → F .f32 := fun y => f ((y 0 : ℕ) - b * 20000)

section

variable {W : ℕ}

/-- A chunk's reads, in flight or not. -/
def Reads (on : Prop) [Decidable on] (ι : Ix) (idx : Memref sig c.2.kind .vmem (⟨2, ![32, W]⟩ : Shape) .i32) (al : Memref sig c.2.kind .vmem (⟨2, ![2, W]⟩ : Shape) .f32)
    (sr sc : DmaSem sig) (Gk : S32x32x20000.Idx → BitVec 32) (Ga : S32x2x20000.Idx → F .f32) (b c0 : ℕ) : sProp 𝕄 :=
  if on then ReadOn c EC ι idx al sr sc Gk Ga b c0 else ReadIdle (F := F) c idx al sr sc

/-- A chunk's writes, in flight or not. -/
def Writes (on : Prop) [Decidable on] (ι : Ix) (Nw : ℕ) (M6 M7 : Memref sig c.2.kind .hbm S640000 .f32) (ab db : Memref sig c.2.kind .vmem (⟨1, ![W]⟩ : Shape) .f32)
    (sw : DmaSem sig) (Oa Od : S640000.Idx → F .f32) (lo : ℕ) : sProp 𝕄 :=
  if on then WriteOn c EC ι Nw M6 M7 ab db sw Oa Od lo else WriteIdle (F := F) c ab db sw

end

/-- What a tile holds between trips: the tables it reads, the two chunks' reads in flight while there are chunks left, the tail's
    once there are none, the results of the last trip in flight, the results already in place and the stretch still to be written. -/
def Inv (i : grid0.Coords) (arg3 : Memref sig .scVector .hbm S32x2x20000 .f32) (arg4 : Memref sig .scVector .hbm S32x32x20000 .i32) (arg6 : Memref sig .scVector .hbm S640000 .f32) (arg7 : Memref sig .scVector .hbm S640000 .f32) (arg8 : Memref sig .scVector .vmem S2x20000 .f32) (arg10 : Memref sig .scVector .vmem S32x640 .i32) (arg11 : Memref sig .scVector .vmem S32x640 .i32) (arg12 : Memref sig .scVector .vmem S2x640 .f32) (arg13 : Memref sig .scVector .vmem S2x640 .f32) (arg14 : Memref sig .scVector .vmem S640 .f32) (arg15 : Memref sig .scVector .vmem S640 .f32) (arg16 : Memref sig .scVector .vmem S640 .f32) (arg17 : Memref sig .scVector .vmem S640 .f32) (arg18 : Memref sig .scVector .vmem S32x800 .i32) (arg19 : Memref sig .scVector .vmem S2x800 .f32) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_)
    (qx qy lam mu2 cx cy : F .f32) (Gp Ga : S32x2x20000.Idx → F .f32) (Gk : S32x32x20000.Idx → BitVec 32) (ι : Ix) (Nw : ℕ) (O : CellTallies nD τ sig Ix) (Wt : Waits sig Ix) (j : ℕ) : sProp 𝕄 :=
  iprop((Rd (F := F) (tile d i) arg3.view Ga ∗ Rd (F := F) (tile d i) arg4.view Gk ∗ Owed (tile d i) ι O Wt ∗
      Reg (F := F) (tile d i) fullShare arg8.view Finset.univ (chunk3 Gp (bt i) 0)) ∗
    Reads (tile d i) EC (j < 15) ι arg10 arg12 arg22.sem arg25.sem Gk Ga (bt i) ((2 * j) * 640) ∗
    Reads (tile d i) EC (j < 15) ι arg11 arg13 arg23.sem arg26.sem Gk Ga (bt i) ((2 * j + 1) * 640) ∗
    Reads (tile d i) EC (j = 15) ι arg18 arg19 arg24.sem arg27.sem Gk Ga (bt i) 19200 ∗
    Writes (tile d i) EC (0 < j) ι Nw arg6 arg7 arg14 arg16 arg28.sem (outOf (bt i) (aAt qx qy lam Gp Gk (bt i))) (outOf (bt i) (dAt mu2 cx cy Ga (bt i))) (bt i * 20000 + (2 * j - 2) * 640) ∗
    Writes (tile d i) EC (0 < j) ι Nw arg6 arg7 arg15 arg17 arg29.sem (outOf (bt i) (aAt qx qy lam Gp Gk (bt i))) (outOf (bt i) (dAt mu2 cx cy Ga (bt i))) (bt i * 20000 + (2 * j - 1) * 640) ∗
    Both (F := F) (tile d i) arg6 arg7 (bt i * 20000) (bt i * 20000 + (2 * j - 2) * 640) (outOf (bt i) (aAt qx qy lam Gp Gk (bt i))) (outOf (bt i) (dAt mu2 cx cy Ga (bt i))) ∗
    ∃ X Y, Both (F := F) (tile d i) arg6 arg7 (bt i * 20000 + (2 * j) * 640) (bt i * 20000 + 20000) X Y)

/-- A chunk's interferences, as its loop computes them, are the batch element's. -/
theorem out_a {W : ℕ} [NeZero W] {qx qy lam : F .f32} {Gp : S32x2x20000.Idx → F .f32} {Gk : S32x32x20000.Idx → BitVec 32} {b c0 : ℕ}
    (x : (⟨1, ![W]⟩ : Shape).Idx) (y : S640000.Idx) (h : (y 0 : ℕ) = b * 20000 + c0 + (x 0 : ℕ)) :
    outOf b (aAt qx qy lam Gp Gk b) y
      = aNode qx qy lam (at2 (chunk3 (r := 2) (W := 20000) Gp b 0)) (fun k => at2 (chunk3 (r := 32) (W := W) Gk b c0) k (x 0)) (c0 + (x 0 : ℕ)) := by
  unfold outOf aAt
  rw [h, show b * 20000 + c0 + (x 0 : ℕ) - b * 20000 = c0 + (x 0 : ℕ) by omega]
  congr 1
  funext k
  exact (at2_chunk3 (W := W) rfl Gk b c0 k (show (x 0 : ℕ) < W from (x 0).isLt)).symm

/-- A chunk's weighted squared distances, as its loop computes them, are the batch element's. -/
theorem out_d {W : ℕ} [NeZero W] {mu2 cx cy : F .f32} {Ga : S32x2x20000.Idx → F .f32} {b c0 : ℕ}
    (x : (⟨1, ![W]⟩ : Shape).Idx) (y : S640000.Idx) (h : (y 0 : ℕ) = b * 20000 + c0 + (x 0 : ℕ)) :
    outOf b (dAt mu2 cx cy Ga b) y
      = dNode mu2 cx cy (at2 (chunk3 (r := 2) (W := W) Ga b c0) 0 (x 0)) (at2 (chunk3 (r := 2) (W := W) Ga b c0) 1 (x 0)) := by
  unfold outOf dAt
  rw [h, show b * 20000 + c0 + (x 0 : ℕ) - b * 20000 = c0 + (x 0 : ℕ) by omega,
    at2_chunk3 (W := W) rfl Ga b c0 0 (show (x 0 : ℕ) < W from (x 0).isLt), at2_chunk3 (W := W) rfl Ga b c0 1 (show (x 0 : ℕ) < W from (x 0).isLt)]

/-- A chunk's buffers and semaphores at hand are an idle state of its reads. -/
theorem read_idle {W : ℕ} {idx : Memref sig c.2.kind .vmem (⟨2, ![32, W]⟩ : Shape) .i32} {al : Memref sig c.2.kind .vmem (⟨2, ![2, W]⟩ : Shape) .f32}
    {sr sc : DmaSem sig} {Gi : (⟨2, ![32, W]⟩ : Shape).Idx → BitVec 32} {L : (⟨2, ![2, W]⟩ : Shape).Idx → F .f32} :
    iprop(Reg (F := F) c fullShare idx.view Finset.univ Gi ∗ Reg (F := F) c fullShare al.view Finset.univ L ∗ semVal (c, .dma sr) 0 ∗ semVal (c, .dma sc) 0)
      ⊢ (ReadIdle (F := F) c idx al sr sc : sProp 𝕄) := by
  unfold ReadIdle
  iintro ⟨H1, H2, H3, H4⟩
  isplitl [H1]; · iexists _; iexact H1
  isplitl [H2]; · iexists _; iexact H2
  isplitl [H3]; · iexact H3
  iexact H4

set_option maxHeartbeats 4000000 in
set_option maxRecDepth 65536 in
/-- One trip takes what the tile holds between trips from `t` to `t + 1`. -/
theorem trip (i : grid0.Coords) {arg2 : Memref sig .scVector .hbm S32x2x20000 .f32} {harg2 : arg2.IsWhole} {arg3 : Memref sig .scVector .hbm S32x2x20000 .f32} {harg3 : arg3.IsWhole} {arg4 : Memref sig .scVector .hbm S32x32x20000 .i32} {harg4 : arg4.IsWhole} {arg5 : Memref sig .scVector .hbm S512 .f32} {harg5 : arg5.IsWhole} {arg6 : Memref sig .scVector .hbm S640000 .f32} {harg6 : arg6.IsWhole} {arg7 : Memref sig .scVector .hbm S640000 .f32} {harg7 : arg7.IsWhole} {arg8 : Memref sig .scVector .vmem S2x20000 .f32} {harg8 : arg8.IsWhole} {arg9 : Memref sig .scVector .vmem S16 .f32} {harg9 : arg9.IsWhole} {arg10 : Memref sig .scVector .vmem S32x640 .i32} {harg10 : arg10.IsWhole} {arg11 : Memref sig .scVector .vmem S32x640 .i32} {harg11 : arg11.IsWhole} {arg12 : Memref sig .scVector .vmem S2x640 .f32} {harg12 : arg12.IsWhole} {arg13 : Memref sig .scVector .vmem S2x640 .f32} {harg13 : arg13.IsWhole} {arg14 : Memref sig .scVector .vmem S640 .f32} {harg14 : arg14.IsWhole} {arg15 : Memref sig .scVector .vmem S640 .f32} {harg15 : arg15.IsWhole} {arg16 : Memref sig .scVector .vmem S640 .f32} {harg16 : arg16.IsWhole} {arg17 : Memref sig .scVector .vmem S640 .f32} {harg17 : arg17.IsWhole} {arg18 : Memref sig .scVector .vmem S32x800 .i32} {harg18 : arg18.IsWhole} {arg19 : Memref sig .scVector .vmem S2x800 .f32} {harg19 : arg19.IsWhole} {arg20 : Memref sig .scVector .vmem S800 .f32} {harg20 : arg20.IsWhole} {arg21 : Memref sig .scVector .vmem S800 .f32} {harg21 : arg21.IsWhole} {arg22 : DmaSems sig S_} {arg23 : DmaSems sig S_} {arg24 : DmaSems sig S_} {arg25 : DmaSems sig S_} {arg26 : DmaSems sig S_} {arg27 : DmaSems sig S_} {arg28 : DmaSems sig S_} {arg29 : DmaSems sig S_} {arg30 : DmaSems sig S_} {v121_r0 : DmaSems sig S_} {v121_r1 : DmaSems sig S_} (v5 v7 v9 v11 v13 v15 : F .f32) (v16 : BitVec 32) (Gp Ga : S32x2x20000.Idx → F .f32) (Gk : S32x32x20000.Idx → BitVec 32) (hGk : ∀ x, (Gk x).toNat < 20000)
    (ι : Ix) (Nw : ℕ) (O : CellTallies nD τ sig Ix) (Wt : Waits sig Ix)
    (h6 : sig.dmaCredit .scVector (Kind.scVector.table .hbm) arg6.view.buf S640 .f32 = Nw)
    (h7 : sig.dmaCredit .scVector (Kind.scVector.table .hbm) arg7.view.buf S640 .f32 = Nw) (t : Fin k0_t1_loop.trips) :
    (Inv d EC i arg3 arg4 arg6 arg7 arg8 arg10 arg11 arg12 arg13 arg14 arg15 arg16 arg17 arg18 arg19 arg22 arg23 arg24 arg25 arg26 arg27 arg28 arg29 v5 v7 v9 v11 v13 v15 Gp Ga Gk ι Nw O Wt t : sProp 𝕄)
      ⊢ wp frame (wpE defs 𝒱 (tile d i) bd) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 v121_r0 v121_r1 v5 v7 v9 v11 v13 v15 v16 t ⟨⟩) fun _ =>
          Inv d EC i arg3 arg4 arg6 arg7 arg8 arg10 arg11 arg12 arg13 arg14 arg15 arg16 arg17 arg18 arg19 arg22 arg23 arg24 arg25 arg26 arg27 arg28 arg29 v5 v7 v9 v11 v13 v15 Gp Ga Gk ι Nw O Wt ((t : ℕ) + 1) := by
  have ht15 : (t : ℕ) < 15 := lt_of_lt_of_eq t.isLt trips1
  unfold Inv k0_t1_body
  rw [show Reads (tile d i) EC ((t : ℕ) < 15) ι arg10 arg12 arg22.sem arg25.sem Gk Ga (bt i) ((2 * (t : ℕ)) * 640) = _ from if_pos ht15,
    show Reads (tile d i) EC ((t : ℕ) < 15) ι arg11 arg13 arg23.sem arg26.sem Gk Ga (bt i) ((2 * (t : ℕ) + 1) * 640) = _ from if_pos ht15]
  unfold ReadOn
  rw [k0_part22_eq_skeleton, k0_part23_eq_skeleton, k0_part24_eq_skeleton]
  unfold k0_part22_skel k0_part23_skel k0_part24_skel
  iintro ⟨⟨HA3, HA4, HO, HT⟩, ⟨HR0, HF⟩, ⟨HR1, HF1⟩, HRT, HW0, HW1, HDone, HTodo⟩
  iapply wp_seq (defs := defs) 𝒱 _ bd
  iapply (wp_wait_three (defs := defs) 𝒱 (tile d i) bd EC (idx := arg10) (by decide)) $$ [HR0 HO]
  · isplitl [HR0]; · iexact HR0
    iexact HO
  iintro ⟨HR0, HO⟩
  iapply wp_done (defs := defs) 𝒱 _ bd
  iapply wp_seq (defs := defs) 𝒱 _ bd
  iapply (wp_wait_rest (defs := defs) 𝒱 (tile d i) bd EC (idx := arg10) (al := arg12) (by decide)) $$ [HR0 HF HO]
  · isplitl [HR0]; · iexact HR0
    isplitl [HF]; · iexact HF
    iexact HO
  iintro ⟨HI, HL, HVr, HVc, HO⟩
  iapply (wp_guard (defs := defs) 𝒱 (tile d i) bd
    (P := iprop(Writes (tile d i) EC (0 < (t : ℕ)) ι Nw arg6 arg7 arg14 arg16 arg28.sem (outOf (bt i) (aAt v5 v7 v9 Gp Gk (bt i))) (outOf (bt i) (dAt v11 v13 v15 Ga (bt i))) (bt i * 20000 + (2 * (t : ℕ) - 2) * 640) ∗
      Both (F := F) (tile d i) arg6 arg7 (bt i * 20000) (bt i * 20000 + (2 * (t : ℕ) - 2) * 640) (outOf (bt i) (aAt v5 v7 v9 Gp Gk (bt i))) (outOf (bt i) (dAt v11 v13 v15 Ga (bt i))) ∗ Owed (tile d i) ι O Wt))
    (R := iprop(WriteIdle (F := F) (tile d i) arg14 arg16 arg28.sem ∗
      Both (F := F) (tile d i) arg6 arg7 (bt i * 20000) (bt i * 20000 + (2 * (t : ℕ) - 1) * 640) (outOf (bt i) (aAt v5 v7 v9 Gp Gk (bt i))) (outOf (bt i) (dAt v11 v13 v15 Ga (bt i))) ∗ Owed (tile d i) ι O Wt)) ?_ ?_) $$ [HW0 HDone HO]
  rotate_left 2
  · isplitl [HW0]; · iexact HW0
    isplitl [HDone]; · iexact HDone
    iexact HO
  rotate_left 1
  · intro hc
    have ht : 0 < (t : ℕ) := (cond1_iff t).mp hc
    unfold Writes
    rw [if_pos ht]
    iintro ⟨HW, HD, HO⟩ Hk
    iapply (wp_wait_outs (defs := defs) 𝒱 (tile d i) bd EC (M6 := arg6) (M7 := arg7) (ab := arg14) (db := arg16) (by decide) h6 h7) $$ [HW HO]
    · isplitl [HW]; · iexact HW
      iexact HO
    iintro ⟨HW, HB, HO⟩
    iapply Hk
    isplitl [HW]; · iexact HW
    isplitl [HD HB]
    · rw [show bt i * 20000 + (2 * (t : ℕ) - 1) * 640 = bt i * 20000 + (2 * (t : ℕ) - 2) * 640 + 640 by omega]
      iapply (Both_join (F := F) (tile d i) (mid := bt i * 20000 + (2 * (t : ℕ) - 2) * 640) (by omega) (by omega))
      isplitl [HD]; · iexact HD
      iexact HB
    iexact HO
  · intro hc
    have ht : ¬ 0 < (t : ℕ) := fun h => hc ((cond1_iff t).mpr h)
    unfold Writes
    rw [if_neg ht, show (2 * (t : ℕ) - 1) * 640 = (2 * (t : ℕ) - 2) * 640 by omega]
  iintro ⟨HW, HDone, HO⟩
  unfold WriteIdle
  icases HW with ⟨⟨%A₀, HA⟩, ⟨%D₀, HD⟩, HVw⟩
  iapply (wp_chunk (defs := defs) 𝒱 (tile d i) bd k0_t2_loop k0_t2_ok (by rw [trips2])
    (fun n => aNode v5 v7 v9 (at2 (chunk3 (r := 2) (W := 20000) Gp (bt i) 0)) (fun k => at2 (chunk3 (r := 32) (W := 640) Gk (bt i) ((2 * (t : ℕ)) * 640)) k n) ((2 * (t : ℕ)) * 640 + n))
    (fun n => dNode v11 v13 v15 (at2 (chunk3 (r := 2) (W := 640) Ga (bt i) ((2 * (t : ℕ)) * 640)) 0 n) (at2 (chunk3 (r := 2) (W := 640) Ga (bt i) ((2 * (t : ℕ)) * 640)) 1 n))
    (fun u A D => group2 (defs := defs) 𝒱 d bd i v5 v7 v9 v11 v13 v15 v16 t _ _ _ u (chunk3 Gp (bt i) 0) (chunk3 Gk (bt i) ((2 * (t : ℕ)) * 640)) (fun x => hGk _)
      (chunk3 Ga (bt i) ((2 * (t : ℕ)) * 640)) A D ((2 * (t : ℕ)) * 640) (off46_eq t u) (off47_eq t u) (off50_eq u))) $$ [HI HT HL HA HD]
  · unfold Chunk
    isplitl [HI]; · iexact HI
    isplitl [HT]; · iexact HT
    isplitl [HL]; · iexact HL
    isplitl [HA]; · iexact HA
    iexact HD
  unfold Chunk
  iintro ⟨HI, HT, HL, HA, HD⟩
  iapply (wp_issue_outs (defs := defs) 𝒱 (tile d i) bd EC (M6 := arg6) (M7 := arg7) (ab := arg14) (db := arg16) (sw := arg28.sem) (ι := ι) (Nw := Nw) (Oa := (outOf (bt i) (aAt v5 v7 v9 Gp Gk (bt i)))) (Od := (outOf (bt i) (dAt v11 v13 v15 Ga (bt i))))
    (bt i * 20000 + (2 * (t : ℕ)) * 640) (bt i * 20000 + 20000) (off51_eq0 i t) (by have := lt_of_lt_of_eq t.isLt trips1; omega) h6 h7 (fun x y h => out_a x y h) (fun x y h => out_d x y h)) $$ [HA HD HVw HTodo]
  · isplitl [HA]; · iexact HA
    isplitl [HD]; · iexact HD
    isplitl [HVw]; · iexact HVw
    iexact HTodo
  iintro ⟨HW0, HTodo⟩
  rw [show bt i * 20000 + (2 * (t : ℕ)) * 640 + 640 = bt i * 20000 + (2 * (t : ℕ) + 1) * 640 by omega]
  ihave HRi := (read_idle (F := F) (tile d i) (idx := arg10) (al := arg12) (sr := arg22.sem) (sc := arg25.sem)
      (Gi := chunk3 Gk (bt i) ((2 * (t : ℕ)) * 640)) (L := chunk3 Ga (bt i) ((2 * (t : ℕ)) * 640))) $$ [HI HL HVr HVc]
  · isplitl [HI]; · iexact HI
    isplitl [HL]; · iexact HL
    isplitl [HVr]; · iexact HVr
    iexact HVc
  iapply (wp_guard (defs := defs) 𝒱 (tile d i) bd
    (P := iprop(ReadIdle (F := F) (tile d i) arg10 arg12 arg22.sem arg25.sem ∗ Rd (F := F) (tile d i) arg3.view Ga ∗ Rd (F := F) (tile d i) arg4.view Gk))
    (R := iprop(Reads (tile d i) EC ((t : ℕ) + 1 < 15) ι arg10 arg12 arg22.sem arg25.sem Gk Ga (bt i) ((2 * (t : ℕ) + 2) * 640) ∗ Rd (F := F) (tile d i) arg3.view Ga ∗ Rd (F := F) (tile d i) arg4.view Gk)) ?_ ?_) $$ [HRi HA3 HA4]
  rotate_left 2
  · isplitl [HRi]; · iexact HRi
    isplitl [HA3]; · iexact HA3
    iexact HA4
  rotate_left 1
  · intro hc
    have ht := (cond2_iff t).mp hc
    have hon : (t : ℕ) + 1 < 15 := by omega
    have hoff : ¬ (t : ℕ) = 15 := by omega
    unfold Reads
    rw [if_pos hon]
    unfold ReadIdle ReadOn
    iintro ⟨⟨⟨%G, HI⟩, ⟨%L, HL⟩, HVr, HVc⟩, HA3, HA4⟩ Hk
    iapply wp_seq (defs := defs) 𝒱 _ bd
    rw [k0_part10_eq_skeleton]
    unfold k0_part10_skel
    iapply (wp_issue_blocks (defs := defs) 𝒱 (tile d i) bd EC (idx := arg10) (ι := ι) (bt i) ((2 * (t : ℕ) + 2) * 640) Gk (off52_eq i t) (off53_eq i t) (off54_eq i t) (off55_eq i t)) $$ [HI HVr HA4]
    · isplitl [HA4]; · iexact HA4
      isplitl [HI]; · iexact HI
      iexact HVr
    iintro ⟨HA4, HB⟩
    iapply wp_done (defs := defs) 𝒱 _ bd
    iapply (wp_issue_rows (defs := defs) 𝒱 (tile d i) bd EC (al := arg12) (ι := ι) (bt i) ((2 * (t : ℕ) + 2) * 640) Ga (off56_eq i t) rfl (View.dmaCredit_pos _ (by decide))) $$ [HL HVc HA3]
    · isplitl [HA3]; · iexact HA3
      isplitl [HL]; · iexact HL
      iexact HVc
    iintro ⟨HA3, HF⟩
    iapply Hk
    isplitl [HB HF]
    · isplitl [HB]; · iexact HB
      iexact HF
    isplitl [HA3]; · iexact HA3
    iexact HA4
  · intro hc
    have ht : ¬ (t : ℕ) < 14 := fun h => hc ((cond2_iff t).mpr h)
    have htl := lt_of_lt_of_eq t.isLt trips1
    unfold Reads
    rw [if_neg (show ¬ (t : ℕ) + 1 < 15 by omega)]
  iintro ⟨HR0, HA3, HA4⟩
  iapply (wp_guard (defs := defs) 𝒱 (tile d i) bd
    (P := iprop(Reads (tile d i) EC ((t : ℕ) = 15) ι arg18 arg19 arg24.sem arg27.sem Gk Ga (bt i) 19200 ∗ Rd (F := F) (tile d i) arg3.view Ga ∗ Rd (F := F) (tile d i) arg4.view Gk))
    (R := iprop(Reads (tile d i) EC ((t : ℕ) + 1 = 15) ι arg18 arg19 arg24.sem arg27.sem Gk Ga (bt i) (19200) ∗ Rd (F := F) (tile d i) arg3.view Ga ∗ Rd (F := F) (tile d i) arg4.view Gk)) ?_ ?_) $$ [HRT HA3 HA4]
  rotate_left 2
  · isplitl [HRT]; · iexact HRT
    isplitl [HA3]; · iexact HA3
    iexact HA4
  rotate_left 1
  · intro hc
    have ht := (cond3_iff t).mp hc
    have hon : (t : ℕ) + 1 = 15 := by omega
    have hoff : ¬ (t : ℕ) = 15 := by omega
    unfold Reads
    rw [if_pos hon, if_neg hoff]
    unfold ReadIdle ReadOn
    iintro ⟨⟨⟨%G, HI⟩, ⟨%L, HL⟩, HVr, HVc⟩, HA3, HA4⟩ Hk
    iapply wp_seq (defs := defs) 𝒱 _ bd
    rw [k0_part11_eq_skeleton]
    unfold k0_part11_skel
    iapply (wp_issue_blocks (defs := defs) 𝒱 (tile d i) bd EC (idx := arg18) (ι := ι) (bt i) (19200) Gk (off57_eq i) (off58_eq i) (off59_eq i) (off60_eq i)) $$ [HI HVr HA4]
    · isplitl [HA4]; · iexact HA4
      isplitl [HI]; · iexact HI
      iexact HVr
    iintro ⟨HA4, HB⟩
    iapply wp_done (defs := defs) 𝒱 _ bd
    iapply (wp_issue_rows (defs := defs) 𝒱 (tile d i) bd EC (al := arg19) (ι := ι) (bt i) (19200) Ga (off61_eq i) rfl (View.dmaCredit_pos _ (by decide))) $$ [HL HVc HA3]
    · isplitl [HA3]; · iexact HA3
      isplitl [HL]; · iexact HL
      iexact HVc
    iintro ⟨HA3, HF⟩
    iapply Hk
    isplitl [HB HF]
    · isplitl [HB]; · iexact HB
      iexact HF
    isplitl [HA3]; · iexact HA3
    iexact HA4
  · intro hc
    have ht : ¬ (t : ℕ) = 14 := fun h => hc ((cond3_iff t).mpr h)
    have htl := lt_of_lt_of_eq t.isLt trips1
    unfold Reads
    rw [if_neg (show ¬ (t : ℕ) + 1 = 15 by omega), if_neg (show ¬ (t : ℕ) = 15 by omega)]
  iintro ⟨HRT, HA3, HA4⟩
  iapply wp_done (defs := defs) 𝒱 _ bd
  iapply wp_seq (defs := defs) 𝒱 _ bd
  iapply (wp_wait_three (defs := defs) 𝒱 (tile d i) bd EC (idx := arg11) (by decide)) $$ [HR1 HO]
  · isplitl [HR1]; · iexact HR1
    iexact HO
  iintro ⟨HR1, HO⟩
  iapply wp_done (defs := defs) 𝒱 _ bd
  iapply (wp_wait_rest (defs := defs) 𝒱 (tile d i) bd EC (idx := arg11) (al := arg13) (by decide)) $$ [HR1 HF1 HO]
  · isplitl [HR1]; · iexact HR1
    isplitl [HF1]; · iexact HF1
    iexact HO
  iintro ⟨HI, HL, HVr, HVc, HO⟩
  iapply (wp_guard (defs := defs) 𝒱 (tile d i) bd
    (P := iprop(Writes (tile d i) EC (0 < (t : ℕ)) ι Nw arg6 arg7 arg15 arg17 arg29.sem (outOf (bt i) (aAt v5 v7 v9 Gp Gk (bt i))) (outOf (bt i) (dAt v11 v13 v15 Ga (bt i))) (bt i * 20000 + (2 * (t : ℕ) - 1) * 640) ∗
      Both (F := F) (tile d i) arg6 arg7 (bt i * 20000) (bt i * 20000 + (2 * (t : ℕ) - 1) * 640) (outOf (bt i) (aAt v5 v7 v9 Gp Gk (bt i))) (outOf (bt i) (dAt v11 v13 v15 Ga (bt i))) ∗ Owed (tile d i) ι O Wt))
    (R := iprop(WriteIdle (F := F) (tile d i) arg15 arg17 arg29.sem ∗
      Both (F := F) (tile d i) arg6 arg7 (bt i * 20000) (bt i * 20000 + (2 * (t : ℕ)) * 640) (outOf (bt i) (aAt v5 v7 v9 Gp Gk (bt i))) (outOf (bt i) (dAt v11 v13 v15 Ga (bt i))) ∗ Owed (tile d i) ι O Wt)) ?_ ?_) $$ [HW1 HDone HO]
  rotate_left 2
  · isplitl [HW1]; · iexact HW1
    isplitl [HDone]; · iexact HDone
    iexact HO
  rotate_left 1
  · intro hc
    have ht : 0 < (t : ℕ) := (cond4_iff t).mp hc
    unfold Writes
    rw [if_pos ht]
    iintro ⟨HW, HD, HO⟩ Hk
    iapply (wp_wait_outs (defs := defs) 𝒱 (tile d i) bd EC (M6 := arg6) (M7 := arg7) (ab := arg15) (db := arg17) (by decide) h6 h7) $$ [HW HO]
    · isplitl [HW]; · iexact HW
      iexact HO
    iintro ⟨HW, HB, HO⟩
    iapply Hk
    isplitl [HW]; · iexact HW
    isplitl [HD HB]
    · rw [show bt i * 20000 + (2 * (t : ℕ)) * 640 = bt i * 20000 + (2 * (t : ℕ) - 1) * 640 + 640 by omega]
      iapply (Both_join (F := F) (tile d i) (mid := bt i * 20000 + (2 * (t : ℕ) - 1) * 640) (by omega) (by omega))
      isplitl [HD]; · iexact HD
      iexact HB
    iexact HO
  · intro hc
    have ht : ¬ 0 < (t : ℕ) := fun h => hc ((cond4_iff t).mpr h)
    unfold Writes
    rw [if_neg ht, show (2 * (t : ℕ)) * 640 = (2 * (t : ℕ) - 1) * 640 by omega]
  iintro ⟨HW, HDone, HO⟩
  unfold WriteIdle
  icases HW with ⟨⟨%A₀, HA⟩, ⟨%D₀, HD⟩, HVw⟩
  iapply (wp_chunk (defs := defs) 𝒱 (tile d i) bd k0_t3_loop k0_t3_ok (by rw [trips3])
    (fun n => aNode v5 v7 v9 (at2 (chunk3 (r := 2) (W := 20000) Gp (bt i) 0)) (fun k => at2 (chunk3 (r := 32) (W := 640) Gk (bt i) ((2 * (t : ℕ) + 1) * 640)) k n) ((2 * (t : ℕ) + 1) * 640 + n))
    (fun n => dNode v11 v13 v15 (at2 (chunk3 (r := 2) (W := 640) Ga (bt i) ((2 * (t : ℕ) + 1) * 640)) 0 n) (at2 (chunk3 (r := 2) (W := 640) Ga (bt i) ((2 * (t : ℕ) + 1) * 640)) 1 n))
    (fun u A D => group3 (defs := defs) 𝒱 d bd i v5 v7 v9 v11 v13 v15 v16 t _ u (chunk3 Gp (bt i) 0) (chunk3 Gk (bt i) ((2 * (t : ℕ) + 1) * 640)) (fun x => hGk _)
      (chunk3 Ga (bt i) ((2 * (t : ℕ) + 1) * 640)) A D ((2 * (t : ℕ) + 1) * 640) (off95_eq t u) (off96_eq t u) (off99_eq u))) $$ [HI HT HL HA HD]
  · unfold Chunk
    isplitl [HI]; · iexact HI
    isplitl [HT]; · iexact HT
    isplitl [HL]; · iexact HL
    isplitl [HA]; · iexact HA
    iexact HD
  unfold Chunk
  iintro ⟨HI, HT, HL, HA, HD⟩
  iapply (wp_issue_outs (defs := defs) 𝒱 (tile d i) bd EC (M6 := arg6) (M7 := arg7) (ab := arg15) (db := arg17) (sw := arg29.sem) (ι := ι) (Nw := Nw) (Oa := (outOf (bt i) (aAt v5 v7 v9 Gp Gk (bt i)))) (Od := (outOf (bt i) (dAt v11 v13 v15 Ga (bt i))))
    (bt i * 20000 + (2 * (t : ℕ) + 1) * 640) (bt i * 20000 + 20000) (off51_eq1 i t) (by have := lt_of_lt_of_eq t.isLt trips1; omega) h6 h7 (fun x y h => out_a x y h) (fun x y h => out_d x y h)) $$ [HA HD HVw HTodo]
  · isplitl [HA]; · iexact HA
    isplitl [HD]; · iexact HD
    isplitl [HVw]; · iexact HVw
    iexact HTodo
  iintro ⟨HW1, HTodo⟩
  ihave HRi := (read_idle (F := F) (tile d i) (idx := arg11) (al := arg13) (sr := arg23.sem) (sc := arg26.sem)
      (Gi := chunk3 Gk (bt i) ((2 * (t : ℕ) + 1) * 640)) (L := chunk3 Ga (bt i) ((2 * (t : ℕ) + 1) * 640))) $$ [HI HL HVr HVc]
  · isplitl [HI]; · iexact HI
    isplitl [HL]; · iexact HL
    isplitl [HVr]; · iexact HVr
    iexact HVc
  iapply (wp_guard (defs := defs) 𝒱 (tile d i) bd
    (P := iprop(ReadIdle (F := F) (tile d i) arg11 arg13 arg23.sem arg26.sem ∗ Rd (F := F) (tile d i) arg3.view Ga ∗ Rd (F := F) (tile d i) arg4.view Gk))
    (R := iprop(Reads (tile d i) EC ((t : ℕ) + 1 < 15) ι arg11 arg13 arg23.sem arg26.sem Gk Ga (bt i) ((2 * (t : ℕ) + 3) * 640) ∗ Rd (F := F) (tile d i) arg3.view Ga ∗ Rd (F := F) (tile d i) arg4.view Gk)) ?_ ?_) $$ [HRi HA3 HA4]
  rotate_left 2
  · isplitl [HRi]; · iexact HRi
    isplitl [HA3]; · iexact HA3
    iexact HA4
  rotate_left 1
  · intro hc
    have ht := (cond5_iff t).mp hc
    have hon : (t : ℕ) + 1 < 15 := by omega
    have hoff : ¬ (t : ℕ) = 15 := by omega
    unfold Reads
    rw [if_pos hon]
    unfold ReadIdle ReadOn
    iintro ⟨⟨⟨%G, HI⟩, ⟨%L, HL⟩, HVr, HVc⟩, HA3, HA4⟩ Hk
    iapply wp_seq (defs := defs) 𝒱 _ bd
    rw [k0_part21_eq_skeleton]
    unfold k0_part21_skel
    iapply (wp_issue_blocks (defs := defs) 𝒱 (tile d i) bd EC (idx := arg11) (ι := ι) (bt i) ((2 * (t : ℕ) + 3) * 640) Gk (off100_eq i t) (off101_eq i t) (off102_eq i t) (off103_eq i t)) $$ [HI HVr HA4]
    · isplitl [HA4]; · iexact HA4
      isplitl [HI]; · iexact HI
      iexact HVr
    iintro ⟨HA4, HB⟩
    iapply wp_done (defs := defs) 𝒱 _ bd
    iapply (wp_issue_rows (defs := defs) 𝒱 (tile d i) bd EC (al := arg13) (ι := ι) (bt i) ((2 * (t : ℕ) + 3) * 640) Ga (off104_eq i t) rfl (View.dmaCredit_pos _ (by decide))) $$ [HL HVc HA3]
    · isplitl [HA3]; · iexact HA3
      isplitl [HL]; · iexact HL
      iexact HVc
    iintro ⟨HA3, HF⟩
    iapply Hk
    isplitl [HB HF]
    · isplitl [HB]; · iexact HB
      iexact HF
    isplitl [HA3]; · iexact HA3
    iexact HA4
  · intro hc
    have ht : ¬ (t : ℕ) < 14 := fun h => hc ((cond5_iff t).mpr h)
    have htl := lt_of_lt_of_eq t.isLt trips1
    unfold Reads
    rw [if_neg (show ¬ (t : ℕ) + 1 < 15 by omega)]
  iintro ⟨HR1, HA3, HA4⟩
  iapply wp_done (defs := defs) 𝒱 _ bd
  rw [show 2 * ((t : ℕ) + 1) = 2 * (t : ℕ) + 2 by omega, show 2 * (t : ℕ) + 2 + 1 = 2 * (t : ℕ) + 3 by omega,
    show 2 * (t : ℕ) + 2 - 2 = 2 * (t : ℕ) by omega, show 2 * (t : ℕ) + 2 - 1 = 2 * (t : ℕ) + 1 by omega]
  unfold Writes
  rw [if_pos (Nat.succ_pos _), if_pos (Nat.succ_pos _)]
  isplitl [HA3 HA4 HO HT]
  · isplitl [HA3]; · iexact HA3
    isplitl [HA4]; · iexact HA4
    isplitl [HO]; · iexact HO
    iexact HT
  isplitl [HR0]; · iexact HR0
  isplitl [HR1]; · iexact HR1
  isplitl [HRT]; · iexact HRT
  isplitl [HW0]; · iexact HW0
  isplitl [HW1]; · iexact HW1
  isplitl [HDone]; · iexact HDone
  rw [show bt i * 20000 + (2 * (t : ℕ) + 2) * 640 = bt i * 20000 + (2 * (t : ℕ) + 1) * 640 + 640 by omega]
  iexact HTodo

end Cert.Interference
-- ==== Proof.Group4.lean ====
/-
  The group of sixteen nodes worked on by the loop over the last chunk.
-/
module

public import proofs.«01_k».proof.Defs
public import proofs.«01_k».proof.Proof.Steps
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix1 ix2 eq_ix1 eq_ix2)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD)

set_option maxHeartbeats 4000000 in
set_option maxRecDepth 65536 in
/-- One group: the sixteen nodes from `16 t` of the chunk get their interference and their weighted squared distance. -/
theorem group4 (bd : Option 𝒱.V) (i : grid0.Coords) {arg2 : Memref sig .scVector .hbm S32x2x20000 .f32} {harg2 : arg2.IsWhole} {arg3 : Memref sig .scVector .hbm S32x2x20000 .f32} {harg3 : arg3.IsWhole} {arg4 : Memref sig .scVector .hbm S32x32x20000 .i32} {harg4 : arg4.IsWhole} {arg5 : Memref sig .scVector .hbm S512 .f32} {harg5 : arg5.IsWhole} {arg6 : Memref sig .scVector .hbm S640000 .f32} {harg6 : arg6.IsWhole} {arg7 : Memref sig .scVector .hbm S640000 .f32} {harg7 : arg7.IsWhole} {arg8 : Memref sig .scVector .vmem S2x20000 .f32} {harg8 : arg8.IsWhole} {arg9 : Memref sig .scVector .vmem S16 .f32} {harg9 : arg9.IsWhole} {arg10 : Memref sig .scVector .vmem S32x640 .i32} {harg10 : arg10.IsWhole} {arg11 : Memref sig .scVector .vmem S32x640 .i32} {harg11 : arg11.IsWhole} {arg12 : Memref sig .scVector .vmem S2x640 .f32} {harg12 : arg12.IsWhole} {arg13 : Memref sig .scVector .vmem S2x640 .f32} {harg13 : arg13.IsWhole} {arg14 : Memref sig .scVector .vmem S640 .f32} {harg14 : arg14.IsWhole} {arg15 : Memref sig .scVector .vmem S640 .f32} {harg15 : arg15.IsWhole} {arg16 : Memref sig .scVector .vmem S640 .f32} {harg16 : arg16.IsWhole} {arg17 : Memref sig .scVector .vmem S640 .f32} {harg17 : arg17.IsWhole} {arg18 : Memref sig .scVector .vmem S32x800 .i32} {harg18 : arg18.IsWhole} {arg19 : Memref sig .scVector .vmem S2x800 .f32} {harg19 : arg19.IsWhole} {arg20 : Memref sig .scVector .vmem S800 .f32} {harg20 : arg20.IsWhole} {arg21 : Memref sig .scVector .vmem S800 .f32} {harg21 : arg21.IsWhole} {arg22 : DmaSems sig S_} {arg23 : DmaSems sig S_} {arg24 : DmaSems sig S_} {arg25 : DmaSems sig S_} {arg26 : DmaSems sig S_} {arg27 : DmaSems sig S_} {arg28 : DmaSems sig S_} {arg29 : DmaSems sig S_} {arg30 : DmaSems sig S_} {v121_r0 : DmaSems sig S_} {v121_r1 : DmaSems sig S_} (v5 v7 v9 v11 v13 v15 : F .f32) (v16 : BitVec 32) (t : Fin k0_t4_loop.trips)
    (T : S2x20000.Idx → F .f32) (Gi : S32x800.Idx → BitVec 32) (hG : ∀ x, (Gi x).toNat < 20000) (L : S2x800.Idx → F .f32)
    (A D : S800.Idx → F .f32) (c0 : ℕ)
    (h0 : k0_off138 t 1 = c0 + 16 * t) (h1 : k0_off139 t 1 = c0 + 16 * t) (h2 : k0_off142 t 0 = 16 * t) :
    (Chunk (tile d i) arg8 arg18 arg19 arg20 arg21 T Gi L A D : sProp 𝕄)
      ⊢ wp frame (wpE defs 𝒱 (tile d i) bd) Set.univ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 v121_r0 v121_r1 v5 v7 v9 v11 v13 v15 v16 t ()) fun _ =>
          Chunk (tile d i) arg8 arg18 arg19 arg20 arg21 T Gi L
            (stored (16 * t) (fun n => aNode v5 v7 v9 (at2 T) (fun k => at2 Gi k n) (c0 + n)) A)
            (stored (16 * t) (fun n => dNode v11 v13 v15 (at2 L 0 n) (at2 L 1 n)) D) := by
  rw [← h2] at h0 h1 ⊢
  have hx : ∀ x, shapeCast S16 (fun y => T ((Rect.unit (s := S2x20000) (k0_off138 t) S1x16.size (k0_off138_inb t)).emb y)) shapeCasts_S1x16_S16 x
      = at2 T 0 (c0 + (k0_off142 t 0 + (x 0 : ℕ))) := fun x => by
    rw [shapeCast_row, h0, Nat.add_assoc]; rfl
  have hy : ∀ x, shapeCast S16 (fun y => T ((Rect.unit (s := S2x20000) (k0_off139 t) S1x16.size (k0_off139_inb t)).emb y)) shapeCasts_S1x16_S16 x
      = at2 T 1 (c0 + (k0_off142 t 0 + (x 0 : ℕ))) := fun x => by
    rw [shapeCast_row, h1, Nat.add_assoc]; rfl
  unfold k0_t4_body Chunk
  rw [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part25_skel k0_part26_skel k0_part27_skel k0_part28_skel k0_part29_skel k0_part30_skel k0_part31_skel k0_part32_skel k0_part33_skel
  iintro ⟨Hi, Hp, Hl, HA, HD⟩
  iapply wp_seq (defs := defs) 𝒱 _ bd
  iterate 2
    iapply (wp_row (defs := defs) 𝒱 _ bd Gi) $$ Hi
    iintro Hi
    iterate 2
      iapply (wp_check (defs := defs) 𝒱 _ bd (row_ok hG (by decide)))
      iapply (wp_pick (defs := defs) 𝒱 _ bd Gi T) $$ Hp
      iintro Hp
  iterate 7
    iapply (wp_row (defs := defs) 𝒱 _ bd Gi) $$ Hi
    iintro Hi
    iapply (wp_check (defs := defs) 𝒱 _ bd (row_ok hG (by decide)))
    iapply (wp_pick (defs := defs) 𝒱 _ bd Gi T) $$ Hp
    iintro Hp
    iapply wp_done (defs := defs) 𝒱 _ bd
    iapply wp_seq (defs := defs) 𝒱 _ bd
    iapply (wp_check (defs := defs) 𝒱 _ bd (row_ok hG (by decide)))
    iapply (wp_pick (defs := defs) 𝒱 _ bd Gi T) $$ Hp
    iintro Hp
    iterate 3
      iapply (wp_row (defs := defs) 𝒱 _ bd Gi) $$ Hi
      iintro Hi
      iterate 2
        iapply (wp_check (defs := defs) 𝒱 _ bd (row_ok hG (by decide)))
        iapply (wp_pick (defs := defs) 𝒱 _ bd Gi T) $$ Hp
        iintro Hp
  iapply (wp_row (defs := defs) 𝒱 _ bd Gi) $$ Hi
  iintro Hi
  iapply (wp_check (defs := defs) 𝒱 _ bd (row_ok hG (by decide)))
  iapply (wp_pick (defs := defs) 𝒱 _ bd Gi T) $$ Hp
  iintro Hp
  iapply wp_done (defs := defs) 𝒱 _ bd
  iapply wp_seq (defs := defs) 𝒱 _ bd
  iapply (wp_check (defs := defs) 𝒱 _ bd (row_ok hG (by decide)))
  iapply (wp_pick (defs := defs) 𝒱 _ bd Gi T) $$ Hp
  iintro Hp
  iapply (wp_row (defs := defs) 𝒱 _ bd Gi) $$ Hi
  iintro Hi
  iterate 2
    iapply (wp_check (defs := defs) 𝒱 _ bd (row_ok hG (by decide)))
    iapply (wp_pick (defs := defs) 𝒱 _ bd Gi T) $$ Hp
    iintro Hp
  iterate 2
    iapply (wp_row (defs := defs) 𝒱 _ bd T) $$ Hp
    iintro Hp
  iapply (wp_row (defs := defs) 𝒱 _ bd L) $$ Hl
  iintro Hl
  iapply wp_done (defs := defs) 𝒱 _ bd
  iapply (wp_row (defs := defs) 𝒱 _ bd L) $$ Hl
  iintro Hl
  iapply (wp_row (defs := defs) 𝒱 _ bd A) $$ HA
  iintro HA
  iapply (wp_put (defs := defs) 𝒱 _ bd (fun n => aNode v5 v7 v9 (at2 T) (fun k => at2 Gi k n) (c0 + n)) A (fun x => by
    simp only [k0_pay200, addf, mulf, broadcast, hx, hy]; rfl)) $$ HA
  iintro HA
  iapply (wp_row (defs := defs) 𝒱 _ bd D) $$ HD
  iintro HD
  iapply (wp_put (defs := defs) 𝒱 _ bd (fun n => dNode v11 v13 v15 (at2 L 0 n) (at2 L 1 n)) D (fun x => by
    simp only [k0_pay209, k0_pay201, addf, mulf, subf, broadcast, shapeCast_row]; rfl)) $$ HD
  iintro HD
  iapply wp_done (defs := defs) 𝒱 _ bd
  isplitl [Hi]; · iexact Hi
  isplitl [Hp]; · iexact Hp
  isplitl [Hl]; · iexact Hl
  isplitl [HA]; · iexact HA
  iexact HD

end Cert.Interference
-- ==== Proof.Start.lean ====
/-
  A tile's start: its table and its parameters fetched.
-/
module

public import proofs.«01_k».proof.Defs
public import proofs.«01_k».proof.Proof.Trip
public import proofs.«01_k».proof.Proof.Group4
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix1 ix2 ix3)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (c : Thread nD τ) (d : Dev nD) (bd : Option 𝒱.V)
variable [Infinite Name] (EC : UEmb Counters (MT nD τ sig Ix (Elt F) Name U Lvl)) [EC.LandsIn (upEmb : UEmb _ (MT nD τ sig Ix (Elt F) Name U Lvl))]

/-- An array of one axis read at a number, taken modulo its length. -/
def at1 {n : ℕ} [NeZero n] {β : Type} (G : (⟨1, ![n]⟩ : Shape).Idx → β) (a : ℕ) : β := G (ix1 (Fin.ofNat n a))

/-- An element of an array of one axis, by its coordinate. -/
theorem at1_eq {n : ℕ} [NeZero n] {β : Type} (G : (⟨1, ![n]⟩ : Shape).Idx → β) (x : (⟨1, ![n]⟩ : Shape).Idx) {a : ℕ} (ha : (x 0 : ℕ) = a) :
    G x = at1 G a := by
  subst ha
  unfold at1
  congr 1
  funext q
  match q with
  | ⟨0, _⟩ => exact Fin.ext (Nat.mod_eq_of_lt (x 0).isLt).symm

/-- Parameter `k` of batch element `b`: the parameters lie in rows of sixteen. -/
def prm (Gq : S512.Idx → F .f32) (b k : ℕ) : F .f32 := at1 (n := 512) Gq (b * 16 + k)

/-- The row of sixteen parameters of batch element `b`. -/
def rowOf (Gq : S512.Idx → F .f32) (b : ℕ) : S16.Idx → F .f32 := fun x => prm Gq b (x 0 : ℕ)

/-- Parameter 0 of a tile, out of its row of sixteen. -/
theorem pay202 (G : S16.Idx → F .f32) : k0_pay202 (F := F) (fun y => G ((Rect.unit (s := S16) ![0] S16.size inb_S16_S16_0).emb y)) = G (ix1 0) := by
  unfold k0_pay202
  simp only [extractAt, extractStridedSlice]
  congr 1
  funext q
  match q with
  | ⟨0, _⟩ => rfl

/-- Parameter 1 of a tile, out of its row of sixteen. -/
theorem pay203 (G : S16.Idx → F .f32) : k0_pay203 (F := F) (fun y => G ((Rect.unit (s := S16) ![0] S16.size inb_S16_S16_0).emb y)) = G (ix1 1) := by
  unfold k0_pay203
  simp only [extractAt, extractStridedSlice]
  congr 1
  funext q
  match q with
  | ⟨0, _⟩ => rfl

/-- Parameter 2 of a tile, out of its row of sixteen. -/
theorem pay204 (G : S16.Idx → F .f32) : k0_pay204 (F := F) (fun y => G ((Rect.unit (s := S16) ![0] S16.size inb_S16_S16_0).emb y)) = G (ix1 2) := by
  unfold k0_pay204
  simp only [extractAt, extractStridedSlice]
  congr 1
  funext q
  match q with
  | ⟨0, _⟩ => rfl

/-- Parameter 3 of a tile, out of its row of sixteen. -/
theorem pay205 (G : S16.Idx → F .f32) : k0_pay205 (F := F) (fun y => G ((Rect.unit (s := S16) ![0] S16.size inb_S16_S16_0).emb y)) = G (ix1 3) := by
  unfold k0_pay205
  simp only [extractAt, extractStridedSlice]
  congr 1
  funext q
  match q with
  | ⟨0, _⟩ => rfl

/-- Parameter 4 of a tile, out of its row of sixteen. -/
theorem pay206 (G : S16.Idx → F .f32) : k0_pay206 (F := F) (fun y => G ((Rect.unit (s := S16) ![0] S16.size inb_S16_S16_0).emb y)) = G (ix1 4) := by
  unfold k0_pay206
  simp only [extractAt, extractStridedSlice]
  congr 1
  funext q
  match q with
  | ⟨0, _⟩ => rfl

/-- Parameter 5 of a tile, out of its row of sixteen. -/
theorem pay207 (G : S16.Idx → F .f32) : k0_pay207 (F := F) (fun y => G ((Rect.unit (s := S16) ![0] S16.size inb_S16_S16_0).emb y)) = G (ix1 5) := by
  unfold k0_pay207
  simp only [extractAt, extractStridedSlice]
  congr 1
  funext q
  match q with
  | ⟨0, _⟩ => rfl

include EC in
set_option maxRecDepth 65536 in
/-- A tile's start: its table of psi is fetched, and its six parameters. -/
theorem start_run (i : grid0.Coords) (arg2 : Memref sig .scVector .hbm S32x2x20000 .f32) (harg2 : arg2.IsWhole) (arg3 : Memref sig .scVector .hbm S32x2x20000 .f32) (harg3 : arg3.IsWhole) (arg4 : Memref sig .scVector .hbm S32x32x20000 .i32) (harg4 : arg4.IsWhole) (arg5 : Memref sig .scVector .hbm S512 .f32) (harg5 : arg5.IsWhole) (arg6 : Memref sig .scVector .hbm S640000 .f32) (harg6 : arg6.IsWhole) (arg7 : Memref sig .scVector .hbm S640000 .f32) (harg7 : arg7.IsWhole) (arg8 : Memref sig .scVector .vmem S2x20000 .f32) (harg8 : arg8.IsWhole) (arg9 : Memref sig .scVector .vmem S16 .f32) (harg9 : arg9.IsWhole) (arg10 : Memref sig .scVector .vmem S32x640 .i32) (harg10 : arg10.IsWhole) (arg11 : Memref sig .scVector .vmem S32x640 .i32) (harg11 : arg11.IsWhole) (arg12 : Memref sig .scVector .vmem S2x640 .f32) (harg12 : arg12.IsWhole) (arg13 : Memref sig .scVector .vmem S2x640 .f32) (harg13 : arg13.IsWhole) (arg14 : Memref sig .scVector .vmem S640 .f32) (harg14 : arg14.IsWhole) (arg15 : Memref sig .scVector .vmem S640 .f32) (harg15 : arg15.IsWhole) (arg16 : Memref sig .scVector .vmem S640 .f32) (harg16 : arg16.IsWhole) (arg17 : Memref sig .scVector .vmem S640 .f32) (harg17 : arg17.IsWhole) (arg18 : Memref sig .scVector .vmem S32x800 .i32) (harg18 : arg18.IsWhole) (arg19 : Memref sig .scVector .vmem S2x800 .f32) (harg19 : arg19.IsWhole) (arg20 : Memref sig .scVector .vmem S800 .f32) (harg20 : arg20.IsWhole) (arg21 : Memref sig .scVector .vmem S800 .f32) (harg21 : arg21.IsWhole) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (v121_r0 : DmaSems sig S_) (v121_r1 : DmaSems sig S_) (Gp : S32x2x20000.Idx → F .f32)
    (Gq : S512.Idx → F .f32) (ι : Ix) (O : CellTallies nD τ sig Ix) (Wt : Waits sig Ix)
    {Q : (Σ' (v5 : F .f32) (v7 : F .f32) (v9 : F .f32) (v11 : F .f32) (v13 : F .f32) (v15 : F .f32), BitVec 32) → sProp 𝕄} :
    iprop(Rd (F := F) (tile d i) arg2.view Gp ∗ Rd (F := F) (tile d i) arg5.view Gq ∗
        (∃ G, Reg (F := F) (tile d i) fullShare arg8.view Finset.univ G) ∗ (∃ G, Reg (F := F) (tile d i) fullShare arg9.view Finset.univ G) ∗
        semVal (tile d i, .dma v121_r0.sem) 0 ∗ semVal (tile d i, .dma v121_r1.sem) 0 ∗ Owed (tile d i) ι O Wt)
      ⊢ (iprop((∀ w : BitVec 32, iprop(Reg (F := F) (tile d i) fullShare arg8.view Finset.univ (chunk3 (r := 2) (W := 20000) Gp (bt i) 0) ∗
            (∃ G, Reg (F := F) (tile d i) fullShare arg9.view Finset.univ G) ∗
            semVal (tile d i, .dma v121_r0.sem) 0 ∗ semVal (tile d i, .dma v121_r1.sem) 0 ∗ Owed (tile d i) ι O Wt)
          -∗ Q ⟨(prm Gq (bt i) 0), (prm Gq (bt i) 1), (prm Gq (bt i) 2), (prm Gq (bt i) 3), (prm Gq (bt i) 4), (prm Gq (bt i) 5), w⟩)
        -∗ wp frame (wpE defs 𝒱 (tile d i) bd) Set.univ (k0_part34_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 v121_r0 v121_r1) Q) : sProp 𝕄) := by
  have e0 : k0_pay202 (F := F) (fun y : (Rect.unit (s := S16) ![0] S16.size inb_S16_S16_0).shape.Idx => rowOf Gq (bt i) ((Rect.unit (s := S16) ![0] S16.size inb_S16_S16_0).emb y)) = (prm Gq (bt i) 0) := pay202 (rowOf Gq (bt i))
  have e1 : k0_pay203 (F := F) (fun y : (Rect.unit (s := S16) ![0] S16.size inb_S16_S16_0).shape.Idx => rowOf Gq (bt i) ((Rect.unit (s := S16) ![0] S16.size inb_S16_S16_0).emb y)) = (prm Gq (bt i) 1) := pay203 (rowOf Gq (bt i))
  have e2 : k0_pay204 (F := F) (fun y : (Rect.unit (s := S16) ![0] S16.size inb_S16_S16_0).shape.Idx => rowOf Gq (bt i) ((Rect.unit (s := S16) ![0] S16.size inb_S16_S16_0).emb y)) = (prm Gq (bt i) 2) := pay204 (rowOf Gq (bt i))
  have e3 : k0_pay205 (F := F) (fun y : (Rect.unit (s := S16) ![0] S16.size inb_S16_S16_0).shape.Idx => rowOf Gq (bt i) ((Rect.unit (s := S16) ![0] S16.size inb_S16_S16_0).emb y)) = (prm Gq (bt i) 3) := pay205 (rowOf Gq (bt i))
  have e4 : k0_pay206 (F := F) (fun y : (Rect.unit (s := S16) ![0] S16.size inb_S16_S16_0).shape.Idx => rowOf Gq (bt i) ((Rect.unit (s := S16) ![0] S16.size inb_S16_S16_0).emb y)) = (prm Gq (bt i) 4) := pay206 (rowOf Gq (bt i))
  have e5 : k0_pay207 (F := F) (fun y : (Rect.unit (s := S16) ![0] S16.size inb_S16_S16_0).shape.Idx => rowOf Gq (bt i) ((Rect.unit (s := S16) ![0] S16.size inb_S16_S16_0).emb y)) = (prm Gq (bt i) 5) := pay207 (rowOf Gq (bt i))
  rw [← e0, ← e1, ← e2, ← e3, ← e4, ← e5]
  clear e0 e1 e2 e3 e4 e5
  unfold k0_part34_skel
  iintro ⟨HA2, HA5, ⟨%G8, H8⟩, ⟨%G9, H9⟩, HVr0, HVr1, HO⟩ HQ
  iapply (wp_issue_rows (defs := defs) 𝒱 (tile d i) bd EC (al := arg8) (ι := ι) (bt i) 0 Gp (off1_eq i) rfl (View.dmaCredit_pos _ (by decide))) $$ [H8 HVr0 HA2]
  · isplitl [HA2]; · iexact HA2
    isplitl [H8]; · iexact H8
    iexact HVr0
  iintro ⟨-, HF⟩
  iapply (wp_wait_one (defs := defs) 𝒱 (tile d i) bd EC rfl) $$ [HF HO]
  · isplitl [HF]; · iexact HF
    iexact HO
  iintro ⟨H8, HVr0, HO⟩
  have hp : ∀ x : S16.Idx, Gq ((Rect.unit (s := S512) (k0_off2 i) S16.size (k0_off2_inb i)).emb x) = rowOf Gq (bt i) x :=
    fun x => at1_eq Gq _ (by
      have h : k0_off2 i 0 = bt i * 16 := congrFun (off2_eq i) 0
      show k0_off2 i 0 + 1 * (x 0 : ℕ) = _
      omega)
  ihave HA5' := (Rd_slice (F := F) (tile d i) (Rect.unit (s := S512) (k0_off2 i) S16.size (k0_off2_inb i))
    (e := .f32) (G := rowOf Gq (bt i)) (G' := Gq) hp) $$ HA5
  iapply (wp_copy_reg (defs := defs) (sm := .dma v121_r1.sem) (dst := arg9) 𝒱 (tile d i) bd EC ι _ rfl (View.dmaCredit_pos _ (by decide))) $$ [HA5' H9 HVr1]
  · isplitl [HA5']; · iexact HA5'
    isplitl [H9]; · iexact H9
    iexact HVr1
  iintro HF
  iapply (wp_wait_one (defs := defs) 𝒱 (tile d i) bd EC rfl) $$ [HF HO]
  · isplitl [HF]; · iexact HF
    iexact HO
  iintro ⟨H9, HVr1, HO⟩
  iapply (wp_row (defs := defs) (M := arg9) (r := Rect.unit (s := S16) ![0] S16.size inb_S16_S16_0) 𝒱 (tile d i) bd (rowOf Gq (bt i))) $$ H9
  iintro H9
  iapply wp_done (defs := defs) 𝒱 _ bd
  iapply HQ
  isplitl [H8]; · iexact H8
  isplitl [H9]; · iexists _; iexact H9
  isplitl [HVr0]; · iexact HVr0
  isplitl [HVr1]; · iexact HVr1
  iexact HO

end Cert.Interference
-- ==== Proof.Tile.lean ====
/-
  A tile's whole run: its tables fetched, fifteen trips over pairs of chunks, and the tail.
-/
module

public import proofs.«01_k».proof.Defs
public import proofs.«01_k».proof.Proof.Trip
public import proofs.«01_k».proof.Proof.Start
public import proofs.«01_k».proof.Proof.Group4
public import Idealize.ShloMosaic.Lib.StableHlo.Run
public import Idealize.ShloMosaic.Lib.ValueIdxCore
public import Idealize.ShloMosaic.Lib.Pipeline.Kit
public import proofs.«01_k».proof.Proof.Gen.KernelIdeal
public import proofs.«01_k».proof.Proof.Gen.KernelIdeal.Skeleton

@[expose] public section

noncomputable section

namespace Cert.Interference

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.SparseCore (vectorLoadIdx V)
open Idealize.ShloMosaic.ValueIdx (ix1 ix2 ix3)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (c : Thread nD τ) (d : Dev nD) (bd : Option 𝒱.V)
variable [Infinite Name] (EC : UEmb Counters (MT nD τ sig Ix (Elt F) Name U Lvl)) [EC.LandsIn (upEmb : UEmb _ (MT nD τ sig Ix (Elt F) Name U Lvl))]

/-- A tile's own buffers and semaphores, none of them in use. -/
def Idle (i : grid0.Coords) (arg8 : Memref sig .scVector .vmem S2x20000 .f32) (arg9 : Memref sig .scVector .vmem S16 .f32) (arg10 : Memref sig .scVector .vmem S32x640 .i32) (arg11 : Memref sig .scVector .vmem S32x640 .i32) (arg12 : Memref sig .scVector .vmem S2x640 .f32) (arg13 : Memref sig .scVector .vmem S2x640 .f32) (arg14 : Memref sig .scVector .vmem S640 .f32) (arg15 : Memref sig .scVector .vmem S640 .f32) (arg16 : Memref sig .scVector .vmem S640 .f32) (arg17 : Memref sig .scVector .vmem S640 .f32) (arg18 : Memref sig .scVector .vmem S32x800 .i32) (arg19 : Memref sig .scVector .vmem S2x800 .f32) (arg20 : Memref sig .scVector .vmem S800 .f32) (arg21 : Memref sig .scVector .vmem S800 .f32) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (v121_r0 : DmaSems sig S_) (v121_r1 : DmaSems sig S_) : sProp 𝕄 :=
  iprop((∃ G, Reg (F := F) (tile d i) fullShare arg8.view Finset.univ G) ∗ (∃ G, Reg (F := F) (tile d i) fullShare arg9.view Finset.univ G) ∗
    ReadIdle (F := F) (tile d i) arg10 arg12 arg22.sem arg25.sem ∗ ReadIdle (F := F) (tile d i) arg11 arg13 arg23.sem arg26.sem ∗
    ReadIdle (F := F) (tile d i) arg18 arg19 arg24.sem arg27.sem ∗
    WriteIdle (F := F) (tile d i) arg14 arg16 arg28.sem ∗ WriteIdle (F := F) (tile d i) arg15 arg17 arg29.sem ∗
    WriteIdle (F := F) (tile d i) arg20 arg21 arg30.sem ∗
    semVal (tile d i, .dma v121_r0.sem) 0 ∗ semVal (tile d i, .dma v121_r1.sem) 0)

/-- Before the first trip nothing is in place and the whole stretch is to be written. -/
theorem Both_start {M6 M7 : Memref sig c.2.kind .hbm S640000 .f32} {b : ℕ} {Oa Od : S640000.Idx → F .f32} :
    iprop(∃ X Y, Both (F := F) c M6 M7 (b * 20000) (b * 20000 + 20000) X Y)
      ⊢ (iprop(Both (F := F) c M6 M7 (b * 20000) (b * 20000 + (2 * 0 - 2) * 640) Oa Od ∗ ∃ X Y, Both (F := F) c M6 M7 (b * 20000 + (2 * 0) * 640) (b * 20000 + 20000) X Y) : sProp 𝕄) := by
  have hem : ∀ (G G' : S640000.Idx → F .f32), ∀ x ∈ iv (b * 20000) (b * 20000 + (2 * 0 - 2) * 640), G x = G' x := by
    intro G G' x hx
    simp only [iv, Finset.mem_filter, Finset.mem_univ, true_and] at hx
    omega
  unfold Both
  iintro ⟨%X, %Y, H6, H7⟩
  ihave H6' := (Reg_iv_split (F := F) c (mid := b * 20000 + (2 * 0 - 2) * 640) (by omega) (by omega)) $$ H6
  ihave H7' := (Reg_iv_split (F := F) c (mid := b * 20000 + (2 * 0 - 2) * 640) (by omega) (by omega)) $$ H7
  icases H6' with ⟨H6, H6r⟩
  icases H7' with ⟨H7, H7r⟩
  isplitl [H6 H7]
  · isplitl [H6]
    · iapply (Reg_congr (F := F) c (hem X Oa)) $$ H6
    iapply (Reg_congr (F := F) c (hem Y Od)) $$ H7
  iexists X, Y
  isplitl [H6r]; · iexact H6r
  iexact H7r

/-- What the copies of a chunk's two results deliver, piece by piece. -/
theorem outs_all {W : ℕ} {M6 M7 : Memref sig c.2.kind .hbm S640000 .f32} {ab db : Memref sig c.2.kind .vmem (⟨1, ![W]⟩ : Shape) .f32} {Oa Od : S640000.Idx → F .f32} {lo : ℕ} :
    bigSep Finset.univ (outs (F := F) c M6 M7 ab db Oa Od lo)
      ⊢ (iprop(Both (F := F) c M6 M7 lo (lo + W) Oa Od ∗ (∃ G, Reg (F := F) c fullShare ab.view Finset.univ G) ∗ ∃ G, Reg (F := F) c fullShare db.view Finset.univ G) : sProp 𝕄) := by
  rw [bigSep_fin_two]
  unfold Both
  show iprop(Out (F := F) c M6 ab Oa lo ∗ Out (F := F) c M7 db Od lo) ⊢ _
  unfold Out
  iintro ⟨⟨H6, HA⟩, H7, HD⟩
  isplitl [H6 H7]
  · isplitl [H6]; · iexact H6
    iexact H7
  isplitl [HA]; · iexact HA
  iexact HD

include EC in
set_option maxHeartbeats 4000000 in
set_option maxRecDepth 65536 in
/-- A tile's run puts each of its batch element's nodes' interference and weighted squared distance in the result arrays. -/
theorem tile_run (i : grid0.Coords) (arg2 : Memref sig .scVector .hbm S32x2x20000 .f32) (harg2 : arg2.IsWhole) (arg3 : Memref sig .scVector .hbm S32x2x20000 .f32) (harg3 : arg3.IsWhole) (arg4 : Memref sig .scVector .hbm S32x32x20000 .i32) (harg4 : arg4.IsWhole) (arg5 : Memref sig .scVector .hbm S512 .f32) (harg5 : arg5.IsWhole) (arg6 : Memref sig .scVector .hbm S640000 .f32) (harg6 : arg6.IsWhole) (arg7 : Memref sig .scVector .hbm S640000 .f32) (harg7 : arg7.IsWhole) (arg8 : Memref sig .scVector .vmem S2x20000 .f32) (harg8 : arg8.IsWhole) (arg9 : Memref sig .scVector .vmem S16 .f32) (harg9 : arg9.IsWhole) (arg10 : Memref sig .scVector .vmem S32x640 .i32) (harg10 : arg10.IsWhole) (arg11 : Memref sig .scVector .vmem S32x640 .i32) (harg11 : arg11.IsWhole) (arg12 : Memref sig .scVector .vmem S2x640 .f32) (harg12 : arg12.IsWhole) (arg13 : Memref sig .scVector .vmem S2x640 .f32) (harg13 : arg13.IsWhole) (arg14 : Memref sig .scVector .vmem S640 .f32) (harg14 : arg14.IsWhole) (arg15 : Memref sig .scVector .vmem S640 .f32) (harg15 : arg15.IsWhole) (arg16 : Memref sig .scVector .vmem S640 .f32) (harg16 : arg16.IsWhole) (arg17 : Memref sig .scVector .vmem S640 .f32) (harg17 : arg17.IsWhole) (arg18 : Memref sig .scVector .vmem S32x800 .i32) (harg18 : arg18.IsWhole) (arg19 : Memref sig .scVector .vmem S2x800 .f32) (harg19 : arg19.IsWhole) (arg20 : Memref sig .scVector .vmem S800 .f32) (harg20 : arg20.IsWhole) (arg21 : Memref sig .scVector .vmem S800 .f32) (harg21 : arg21.IsWhole) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (v121_r0 : DmaSems sig S_) (v121_r1 : DmaSems sig S_) (Gp Ga : S32x2x20000.Idx → F .f32) (Gk : S32x32x20000.Idx → BitVec 32)
    (Gq : S512.Idx → F .f32) (hGk : ∀ x, (Gk x).toNat < 20000)
    (ι : Ix) (O : CellTallies nD τ sig Ix) (Wt : Waits sig Ix) (Nw Nt : ℕ)
    (h6 : sig.dmaCredit .scVector (Kind.scVector.table .hbm) arg6.view.buf S640 .f32 = Nw)
    (h7 : sig.dmaCredit .scVector (Kind.scVector.table .hbm) arg7.view.buf S640 .f32 = Nw)
    (h6t : sig.dmaCredit .scVector (Kind.scVector.table .hbm) arg6.view.buf S800 .f32 = Nt)
    (h7t : sig.dmaCredit .scVector (Kind.scVector.table .hbm) arg7.view.buf S800 .f32 = Nt) :
    iprop(Rd (F := F) (tile d i) arg2.view Gp ∗ Rd (F := F) (tile d i) arg3.view Ga ∗ Rd (F := F) (tile d i) arg4.view Gk ∗ Rd (F := F) (tile d i) arg5.view Gq ∗
        Owed (tile d i) ι O Wt ∗ (∃ X Y, Both (F := F) (tile d i) arg6 arg7 (bt i * 20000) (bt i * 20000 + 20000) X Y) ∗
        Idle d i arg8 arg9 arg10 arg11 arg12 arg13 arg14 arg15 arg16 arg17 arg18 arg19 arg20 arg21 arg22 arg23 arg24 arg25 arg26 arg27 arg28 arg29 arg30 v121_r0 v121_r1)
      ⊢ (wp frame (wpE defs 𝒱 (tile d i) bd) Set.univ (cc0__interference_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 v121_r0 v121_r1) fun _ =>
          iprop(Both (F := F) (tile d i) arg6 arg7 (bt i * 20000) (bt i * 20000 + 20000) (outOf (bt i) (aAt (prm Gq (bt i) 0) (prm Gq (bt i) 1) (prm Gq (bt i) 2) Gp Gk (bt i))) (outOf (bt i) (dAt (prm Gq (bt i) 3) (prm Gq (bt i) 4) (prm Gq (bt i) 5) Ga (bt i))) ∗
            Owed (tile d i) ι O Wt ∗ Idle d i arg8 arg9 arg10 arg11 arg12 arg13 arg14 arg15 arg16 arg17 arg18 arg19 arg20 arg21 arg22 arg23 arg24 arg25 arg26 arg27 arg28 arg29 arg30 v121_r0 v121_r1) : sProp 𝕄) := by
  rw [cc0__interference_body_eq_skeleton]
  unfold cc0__interference_body_skel
  rw [k0_part34_eq_skeleton, k0_part35_eq_skeleton, k0_part36_eq_skeleton, k0_part37_eq_skeleton, k0_part38_eq_skeleton]
  unfold k0_part35_skel k0_part36_skel k0_part37_skel k0_part38_skel
  unfold Idle ReadIdle WriteIdle
  iintro ⟨HA2, HA3, HA4, HA5, HO, HTodo, H8, H9, ⟨⟨%G10, H10⟩, ⟨%G12, H12⟩, HV22, HV25⟩, ⟨⟨%G11, H11⟩, ⟨%G13, H13⟩, HV23, HV26⟩,
    ⟨H18, H19, HV24, HV27⟩, ⟨H14, H16, HV28⟩, ⟨H15, H17, HV29⟩, ⟨⟨%G20, H20⟩, ⟨%G21, H21⟩, HV30⟩, HVr0, HVr1⟩
  iapply wp_seq (defs := defs) 𝒱 _ bd
  iapply (start_run (defs := defs) 𝒱 d bd EC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 arg27 arg28 arg29 arg30 v121_r0 v121_r1 Gp Gq ι O Wt) $$ [HA2 HA5 H8 H9 HVr0 HVr1 HO]
  · isplitl [HA2]; · iexact HA2
    isplitl [HA5]; · iexact HA5
    isplitl [H8]; · iexact H8
    isplitl [H9]; · iexact H9
    isplitl [HVr0]; · iexact HVr0
    isplitl [HVr1]; · iexact HVr1
    iexact HO
  iintro %w ⟨H8, ⟨%G9', H9⟩, HVr0, HVr1, HO⟩
  generalize hq0 : (prm Gq (bt i) 0) = q0
  generalize hq1 : (prm Gq (bt i) 1) = q1
  generalize hq2 : (prm Gq (bt i) 2) = q2
  generalize hq3 : (prm Gq (bt i) 3) = q3
  generalize hq4 : (prm Gq (bt i) 4) = q4
  generalize hq5 : (prm Gq (bt i) 5) = q5
  iapply wp_seq (defs := defs) 𝒱 _ bd
  iapply (wp_issue_blocks (defs := defs) 𝒱 (tile d i) bd EC (idx := arg10) (ι := ι) (bt i) ((2 * 0) * 640) Gk (off3_eq i) (off4_eq i) (off5_eq i) (off6_eq i)) $$ [H10 HV22 HA4]
  · isplitl [HA4]; · iexact HA4
    isplitl [H10]; · iexact H10
    iexact HV22
  iintro ⟨HA4, HB0⟩
  iapply (wp_issue_rows (defs := defs) 𝒱 (tile d i) bd EC (al := arg12) (ι := ι) (bt i) ((2 * 0) * 640) Ga (off7_eq i) rfl (View.dmaCredit_pos _ (by decide))) $$ [H12 HV25 HA3]
  · isplitl [HA3]; · iexact HA3
    isplitl [H12]; · iexact H12
    iexact HV25
  iintro ⟨HA3, HF0⟩
  iapply wp_done (defs := defs) 𝒱 _ bd
  iapply wp_seq (defs := defs) 𝒱 _ bd
  iapply (wp_issue_blocks (defs := defs) 𝒱 (tile d i) bd EC (idx := arg11) (ι := ι) (bt i) ((2 * 0 + 1) * 640) Gk (off8_eq i) (off9_eq i) (off10_eq i) (off11_eq i)) $$ [H11 HV23 HA4]
  · isplitl [HA4]; · iexact HA4
    isplitl [H11]; · iexact H11
    iexact HV23
  iintro ⟨HA4, HB1⟩
  iapply wp_done (defs := defs) 𝒱 _ bd
  iapply wp_seq (defs := defs) 𝒱 _ bd
  iapply (wp_issue_rows (defs := defs) 𝒱 (tile d i) bd EC (al := arg13) (ι := ι) (bt i) ((2 * 0 + 1) * 640) Ga (off12_eq i) rfl (View.dmaCredit_pos _ (by decide))) $$ [H13 HV26 HA3]
  · isplitl [HA3]; · iexact HA3
    isplitl [H13]; · iexact H13
    iexact HV26
  iintro ⟨HA3, HF1⟩
  iapply (wp_loop (defs := defs) 𝒱 (tile d i) bd k0_t1_loop k0_t1_ok trips1
    (fun j => Inv d EC i arg3 arg4 arg6 arg7 arg8 arg10 arg11 arg12 arg13 arg14 arg15 arg16 arg17 arg18 arg19 arg22 arg23 arg24 arg25 arg26 arg27 arg28 arg29 q0 q1 q2 q3 q4 q5 Gp Ga Gk ι Nw O Wt j)
    (fun t => trip 𝒱 d bd EC i q0 q1 q2 q3 q4 q5 _ Gp Ga Gk hGk ι Nw O Wt h6 h7 t)) $$ [HA3 HA4 HO H8 HB0 HF0 HB1 HF1 H18 H19 HV24 HV27 H14 H16 HV28 H15 H17 HV29 HTodo]
  · unfold Inv Reads Writes
    rw [if_pos (by decide), if_pos (by decide), if_neg (by decide), if_neg (by decide), if_neg (by decide)]
    unfold ReadOn ReadIdle WriteIdle
    isplitl [HA3 HA4 HO H8]
    · isplitl [HA3]; · iexact HA3
      isplitl [HA4]; · iexact HA4
      isplitl [HO]; · iexact HO
      iexact H8
    isplitl [HB0 HF0]
    · isplitl [HB0]; · iexact HB0
      iexact HF0
    isplitl [HB1 HF1]
    · isplitl [HB1]; · iexact HB1
      iexact HF1
    isplitl [H18 H19 HV24 HV27]
    · isplitl [H18]; · iexact H18
      isplitl [H19]; · iexact H19
      isplitl [HV24]; · iexact HV24
      iexact HV27
    isplitl [H14 H16 HV28]
    · isplitl [H14]; · iexact H14
      isplitl [H16]; · iexact H16
      iexact HV28
    isplitl [H15 H17 HV29]
    · isplitl [H15]; · iexact H15
      isplitl [H17]; · iexact H17
      iexact HV29
    iapply (Both_start (F := F) (tile d i)) $$ HTodo
  iintro HInv
  unfold Inv Reads Writes
  rw [if_neg (by decide), if_neg (by decide), if_pos rfl, if_pos (by decide), if_pos (by decide)]
  unfold ReadOn
  icases HInv with ⟨⟨HA3, HA4, HO, HT⟩, HR0, HR1, ⟨HRT, HF⟩, HW0, HW1, HDone, HTodo⟩
  iapply (wp_wait_three (defs := defs) 𝒱 (tile d i) bd EC (idx := arg18) (by decide)) $$ [HRT HO]
  · isplitl [HRT]; · iexact HRT
    iexact HO
  iintro ⟨HRT, HO⟩
  iapply wp_done (defs := defs) 𝒱 _ bd
  iapply wp_seq (defs := defs) 𝒱 _ bd
  iapply (wp_wait_rest (defs := defs) 𝒱 (tile d i) bd EC (idx := arg18) (al := arg19) (by decide)) $$ [HRT HF HO]
  · isplitl [HRT]; · iexact HRT
    isplitl [HF]; · iexact HF
    iexact HO
  iintro ⟨HI, HL, HVr, HVc, HO⟩
  iapply (wp_wait_outs (defs := defs) 𝒱 (tile d i) bd EC (M6 := arg6) (M7 := arg7) (ab := arg14) (db := arg16) (by decide) h6 h7) $$ [HW0 HO]
  · isplitl [HW0]; · iexact HW0
    iexact HO
  iintro ⟨HW0, HBa, HO⟩
  ihave HDone := (Both_join (F := F) (tile d i) (lo := bt i * 20000) (mid := bt i * 20000 + (2 * 15 - 2) * 640) (hi := bt i * 20000 + (2 * 15 - 2) * 640 + 640) (by omega) (by omega)) $$ [HDone HBa]
  · isplitl [HDone]; · iexact HDone
    iexact HBa
  iapply (wp_chunk (defs := defs) 𝒱 (tile d i) bd k0_t4_loop k0_t4_ok (by rw [trips4])
    (fun n => aNode q0 q1 q2 (at2 (chunk3 (r := 2) (W := 20000) Gp (bt i) 0)) (fun k => at2 (chunk3 (r := 32) (W := 800) Gk (bt i) 19200) k n) (19200 + n))
    (fun n => dNode q3 q4 q5 (at2 (chunk3 (r := 2) (W := 800) Ga (bt i) 19200) 0 n) (at2 (chunk3 (r := 2) (W := 800) Ga (bt i) 19200) 1 n))
    (fun u A D => group4 (defs := defs) 𝒱 d bd i q0 q1 q2 q3 q4 q5 _ u (chunk3 Gp (bt i) 0) (chunk3 Gk (bt i) 19200) (fun x => hGk _)
      (chunk3 Ga (bt i) 19200) A D 19200 (off138_eq u) (off139_eq u) (off142_eq u))) $$ [HI HT HL H20 H21]
  · unfold Chunk
    isplitl [HI]; · iexact HI
    isplitl [HT]; · iexact HT
    isplitl [HL]; · iexact HL
    isplitl [H20]; · iexact H20
    iexact H21
  unfold Chunk
  iintro ⟨HI, HT, HL, H20, H21⟩
  rw [show bt i * 20000 + (2 * 15) * 640 = bt i * 20000 + 19200 by omega]
  iapply (wp_issue_outs (defs := defs) 𝒱 (tile d i) bd EC (M6 := arg6) (M7 := arg7) (ab := arg20) (db := arg21) (sw := arg30.sem) (ι := ι) (Nw := Nt)
    (Oa := outOf (bt i) (aAt q0 q1 q2 Gp Gk (bt i))) (Od := outOf (bt i) (dAt q3 q4 q5 Ga (bt i)))
    (bt i * 20000 + 19200) (bt i * 20000 + 20000) (off143_eq i) (by omega) h6t h7t (fun x y h => out_a x y h) (fun x y h => out_d x y h)) $$ [H20 H21 HV30 HTodo]
  · isplitl [H20]; · iexact H20
    isplitl [H21]; · iexact H21
    isplitl [HV30]; · iexact HV30
    iexact HTodo
  iintro ⟨HWT, -⟩
  iapply (wp_wait_outs (defs := defs) 𝒱 (tile d i) bd EC (M6 := arg6) (M7 := arg7) (ab := arg15) (db := arg17) (by decide) h6 h7) $$ [HW1 HO]
  · isplitl [HW1]; · iexact HW1
    iexact HO
  iintro ⟨HW1, HBa, HO⟩
  rw [show bt i * 20000 + (2 * 15 - 2) * 640 + 640 = bt i * 20000 + (2 * 15 - 1) * 640 by omega]
  ihave HDone := (Both_join (F := F) (tile d i) (lo := bt i * 20000) (mid := bt i * 20000 + (2 * 15 - 1) * 640) (hi := bt i * 20000 + (2 * 15 - 1) * 640 + 640) (by omega) (by omega)) $$ [HDone HBa]
  · isplitl [HDone]; · iexact HDone
    iexact HBa
  rw [show bt i * 20000 + (2 * 15 - 1) * 640 + 640 = bt i * 20000 + 19200 by omega]
  have hNt : 0 < Nt := h6t ▸ sig.dmaCredit_pos _ _ _ _ _ (by decide)
  unfold WriteOn
  iapply (wp_wait_more (defs := defs) (n := 2) (u := 0) (N := Nt) 𝒱 (tile d i) bd EC h6t (by omega)) $$ [HWT HO]
  · isplitl [HWT]; · iexact HWT
    iexact HO
  iintro ⟨HWT, HO⟩
  iapply wp_done (defs := defs) 𝒱 _ bd
  iapply (wp_wait_all (defs := defs) (n := 2) (u := 0 + Nt) (N := Nt) 𝒱 (tile d i) bd EC h7t hNt (by omega)) $$ [HWT HO]
  · isplitl [HWT]; · iexact HWT
    iexact HO
  iintro ⟨HB, HV30, HO⟩
  ihave HB' := (outs_all (F := F) (tile d i)) $$ HB
  icases HB' with ⟨HBa, H20, H21⟩
  ihave HDone := (Both_join (F := F) (tile d i) (lo := bt i * 20000) (mid := bt i * 20000 + 19200) (hi := bt i * 20000 + 19200 + 800) (by omega) (by omega)) $$ [HDone HBa]
  · isplitl [HDone]; · iexact HDone
    iexact HBa
  rw [show bt i * 20000 + 19200 + 800 = bt i * 20000 + 20000 by omega]
  iapply wp_done (defs := defs) 𝒱 _ bd
  subst hq0 hq1 hq2 hq3 hq4 hq5
  isplitl [HDone]; · iexact HDone
  isplitl [HO]; · iexact HO
  unfold ReadIdle WriteIdle
  isplitl [HT]; · iexists _; iexact HT
  isplitl [H9]; · iexists _; iexact H9
  isplitl [HR0]; · iexact HR0
  isplitl [HR1]; · iexact HR1
  isplitl [HI HL HVr HVc]
  · isplitl [HI]; · iexists _; iexact HI
    isplitl [HL]; · iexists _; iexact HL
    isplitl [HVr]; · iexact HVr
    iexact HVc
  isplitl [HW0]; · iexact HW0
  isplitl [HW1]; · iexact HW1
  isplitl [H20 H21 HV30]
  · isplitl [H20]; · iexact H20
    isplitl [H21]; · iexact H21
    iexact HV30
  isplitl [HVr0]; · iexact HVr0
  iexact HVr1

end Cert.Interference
-- ==== Proof.Setup.lean ====
/-
  The program as the launch theorem sees it: the kernels' table, the ghost state, what the SparseCore call hands
  each tile and takes back, and a tile's own storage as the tile's run names it.
-/
module

public import proofs.«01_k».proof.Defs
public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Interference

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## What the call hands each tile -/

/-- What the four operand arrays hold on each device. -/
structure Operands (F : FTy → Type) where
  psi : Dev nD → S32x2x20000.Idx → F .f32
  all : Dev nD → S32x2x20000.Idx → F .f32
  knn : Dev nD → S32x32x20000.Idx → BitVec 32
  prm : Dev nD → S512.Idx → F .f32

variable (o : Operands F)

/-- The interference at a node of batch `b`. -/
def aOut (d : Dev nD) (b : ℕ) : S640000.Idx → F .f32 :=
  outOf b (aAt (prm (o.prm d) b 0) (prm (o.prm d) b 1) (prm (o.prm d) b 2) (o.psi d) (o.knn d) b)

/-- The squared scaled distance of a node of batch `b`. -/
def dOut (d : Dev nD) (b : ℕ) : S640000.Idx → F .f32 :=
  outOf b (dAt (prm (o.prm d) b 3) (prm (o.prm d) b 4) (prm (o.prm d) b 5) (o.all d) b)

/-- What tile `i` is handed: a share of each operand and its stretch of the two results. -/
def goAt (d : Dev nD) (i : grid0.Coords) : sProp 𝕄 :=
  iprop(Rd (F := F) (tile d i) (Memref.whole main_v24_scv : Memref sig .scVector .hbm S32x2x20000 .f32).view (o.psi d) ∗
    Rd (F := F) (tile d i) (Memref.whole main_v25_scv : Memref sig .scVector .hbm S32x2x20000 .f32).view (o.all d) ∗
    Rd (F := F) (e := .i32) (tile d i) (Memref.whole main_v26_scv : Memref sig .scVector .hbm S32x32x20000 .i32).view (o.knn d) ∗
    Rd (F := F) (tile d i) (Memref.whole main_v27_scv : Memref sig .scVector .hbm S512 .f32).view (o.prm d) ∗
    ∃ X Y, Both (F := F) (tile d i) (Memref.whole main_v28_0_scv) (Memref.whole main_v28_1_scv) (bt i * 20000) (bt i * 20000 + 20000) X Y)

/-- What tile `i` brings back: its stretch of the two results, computed. -/
def tdAt (d : Dev nD) (i : grid0.Coords) : sProp 𝕄 :=
  Both (F := F) (tile d i) (Memref.whole main_v28_0_scv) (Memref.whole main_v28_1_scv) (bt i * 20000) (bt i * 20000 + 20000)
    (aOut o d (bt i)) (dOut o d (bt i))

instance goAt_storable (d : Dev nD) (i : grid0.Coords) : BI.Storable (upEmb : UEmb _ (MT nD τ sig (HIx 1) (Elt F) ℕ UU ℕ)) (goAt o d i) := by
  unfold goAt Rd Both; infer_instance
instance tdAt_storable (d : Dev nD) (i : grid0.Coords) : BI.Storable (upEmb : UEmb _ (MT nD τ sig (HIx 1) (Elt F) ℕ UU ℕ)) (tdAt o d i) := by
  unfold tdAt Both; infer_instance

/-- The coordinates of tile `s` of core `c`. -/
def coords (c : Fin (grid0.bound 0)) (s : Fin (grid0.bound 1)) : grid0.Coords :=
  fun | 0 => c | 1 => s | ⟨_ + 2, h⟩ => absurd h (Nat.not_lt.2 (Nat.le_add_left _ _))

/-- The coordinates of task `s` of core `c` of the call. -/
def task (q : Fin 1) (c : Fin ((K (F := F)).nCore q)) (s : Fin ((K (F := F)).nSub q)) : grid0.Coords :=
  match q with | 0 => coords c s

/-- The call's payloads: a core is handed what its tiles are, and brings back what they do. -/
def P : (K (F := F)).Pay (nD := nD) (Val := Elt F) (Name := ℕ) (U := UU) where
  st := fun q d c => bigSep Finset.univ fun s => goAt o d (task (F := F) q c s)
  dn := fun q d c => bigSep Finset.univ fun s => tdAt o d (task (F := F) q c s)
  go := fun q d c s => goAt o d (task (F := F) q c s)
  td := fun q d c s => tdAt o d (task (F := F) q c s)
  x := fun _ _ => iprop(emp)

instance P_storable : (P (F := F) o).IsStorable where
  st _ _ _ := by unfold P; infer_instance
  dn _ _ _ := by unfold P; infer_instance
  go _ _ _ _ := by unfold P; infer_instance
  td _ _ _ _ := by unfold P; infer_instance

/-- A core's tiles are handed all it is, and bring back all it does. -/
theorem vecSplit : (K (F := F)).VecSplit' (P o) 0 := by
  intro d c
  unfold P
  iintro H; imodintro
  isplitl [H]; · iexact H
  iintro H; iexact H

end Cert.Interference

end
-- ==== Proof.TileObl.lean ====
/-
  A tile's task: its own buffers and semaphores told apart, the run of the kernel's body on them, and the launch
  theorem's obligation for the tiles.
-/
module

public import proofs.«01_k».proof.Defs
public import proofs.«01_k».proof.Proof.Setup
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Interference

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (o : Operands F)

/-! ## A tile's storage -/

/-- A conjunction over a set, at a family of distinct members and at the others. -/
theorem bigSep_family {α : Type} [DecidableEq α] {n : ℕ} {s : Finset α} (f : Fin n → α) (hf : Function.Injective f) (hs : ∀ k, f k ∈ s) (Φ : α → sProp 𝕄) :
    bigSep s Φ = iprop((bigSep Finset.univ fun k => Φ (f k)) ∗ bigSep (s \ Finset.univ.image f) Φ) := by
  rw [SparseCore.bigSep_sdiff_split' (s := s) (t := Finset.univ.image f) (fun x hx => by
    obtain ⟨k, -, rfl⟩ := Finset.mem_image.mp hx; exact hs k), bigSep_image_of_injOn hf.injOn]

/-- The tile's buffers, in the order the kernel takes them. -/
def scratch : Fin 14 → Ref sig .scVector := ![cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13]
/-- The tile's semaphores, in the order the kernel takes them. -/
def scratchSem : Fin 11 → SemLoc sig := ![.dma cc0_scratch14.sem, .dma cc0_scratch15.sem, .dma cc0_scratch16.sem, .dma cc0_scratch17.sem, .dma cc0_scratch18.sem, .dma cc0_scratch19.sem, .dma cc0_scratch20.sem, .dma cc0_scratch21.sem, .dma cc0_scratch22.sem, .dma cc0_scoped0.sem, .dma cc0_scoped1.sem]

theorem scratch_inj : Function.Injective scratch := by decide
theorem scratchSem_inj : Function.Injective scratchSem := by decide
theorem scratchSem_scoped : ∀ k, (scratchSem k).isScoped .scVector = true := by decide

variable (d : Dev nD) (i : grid0.Coords)

/-- Every other buffer of the tile. -/
def restBufs : sProp 𝕄 :=
  bigSep (ownRefs (τ := τ) (tile d i).2 \ Finset.univ.image fun k => (tile d i).2.devRef (scratch k)) fun b => iprop(∃ f, ((d, b) : Loc nD τ sig) ↦{fullShare} f)
/-- Every other semaphore of the tile. -/
def restSems : sProp 𝕄 :=
  bigSep (ownCells (tile d i) \ Finset.univ.image fun k => ((tile d i, scratchSem k) : GSem nD τ sig)) fun g => semVal g 0

theorem ownBufs_tile : (ownBufs (tile d i) : sProp 𝕄)
    = iprop((bigSep Finset.univ fun k => iprop(∃ f, (tile d i).loc (scratch k) ↦{fullShare} f)) ∗ restBufs (F := F) d i) := by
  unfold SparseCore.Cfg.ownBufs restBufs
  exact bigSep_family (F := F) (fun k => (tile d i).2.devRef (scratch k)) (fun a b e => scratch_inj (Proc.devRef_injective _ e))
    (fun k => SparseCore.Cfg.mem_ownRefs_of_owner (by fin_cases k <;> rfl)) _

theorem ownSems_tile : (ownSems0 (tile d i) : sProp 𝕄)
    = iprop((bigSep Finset.univ fun k => semVal (tile d i, scratchSem k) 0) ∗ restSems (F := F) d i) := by
  unfold SparseCore.Cfg.ownSems0 restSems
  exact bigSep_family (F := F) (fun k => ((tile d i, scratchSem k) : GSem nD τ sig)) (fun a b e => scratchSem_inj (Prod.mk.inj e).2)
    (fun k => mem_ownCells.mpr ⟨rfl, scratchSem_scoped k⟩) _

/-- A whole buffer at some contents, as the kernel's memref of it is held. -/
theorem whole_held (thr : Thread nD τ) (b : Ref sig thr.2.kind) :
    (iprop(∃ f, thr.loc b ↦{fullShare} f) : sProp 𝕄) ⊢ iprop(∃ G, Reg (F := F) thr fullShare (View.whole b) Finset.univ G) := by
  iintro ⟨%f, H⟩
  iexists f
  unfold Reg
  iexists f
  isplitl [H]
  · rw [show (View.whole b : View sig thr.2.kind _ _ _).setOn Finset.univ = Finset.univ from View.set_whole b]
    iexact H
  ipureintro; exact fun x _ => rfl

/-- The other way. -/
theorem held_whole (thr : Thread nD τ) (b : Ref sig thr.2.kind) :
    (iprop(∃ G, Reg (F := F) thr fullShare (View.whole b) Finset.univ G) : sProp 𝕄) ⊢ iprop(∃ f, thr.loc b ↦{fullShare} f) := by
  unfold Reg
  iintro ⟨%G, %f, H, -⟩
  iexists f
  rw [show (View.whole b : View sig thr.2.kind _ _ _).setOn Finset.univ = Finset.univ from View.set_whole b]
  iexact H

/-- The tile's buffers, one by one. -/
theorem bufs_eq : (bigSep Finset.univ fun k => iprop(∃ f, (tile d i).loc (scratch k) ↦{fullShare} f) : sProp 𝕄)
    = iprop((∃ f, (tile d i).loc cc0_scratch0 ↦{fullShare} f) ∗ (∃ f, (tile d i).loc cc0_scratch1 ↦{fullShare} f) ∗ (∃ f, (tile d i).loc cc0_scratch2 ↦{fullShare} f) ∗ (∃ f, (tile d i).loc cc0_scratch3 ↦{fullShare} f) ∗ (∃ f, (tile d i).loc cc0_scratch4 ↦{fullShare} f) ∗ (∃ f, (tile d i).loc cc0_scratch5 ↦{fullShare} f) ∗ (∃ f, (tile d i).loc cc0_scratch6 ↦{fullShare} f) ∗ (∃ f, (tile d i).loc cc0_scratch7 ↦{fullShare} f) ∗ (∃ f, (tile d i).loc cc0_scratch8 ↦{fullShare} f) ∗ (∃ f, (tile d i).loc cc0_scratch9 ↦{fullShare} f) ∗ (∃ f, (tile d i).loc cc0_scratch10 ↦{fullShare} f) ∗ (∃ f, (tile d i).loc cc0_scratch11 ↦{fullShare} f) ∗ (∃ f, (tile d i).loc cc0_scratch12 ↦{fullShare} f) ∗ (∃ f, (tile d i).loc cc0_scratch13 ↦{fullShare} f)) :=
  bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide) _

/-- The tile's semaphores, one by one. -/
theorem sems_eq : (bigSep Finset.univ fun k => semVal (tile d i, scratchSem k) 0 : sProp 𝕄)
    = iprop(semVal (tile d i, .dma cc0_scratch14.sem) 0 ∗ semVal (tile d i, .dma cc0_scratch15.sem) 0 ∗ semVal (tile d i, .dma cc0_scratch16.sem) 0 ∗ semVal (tile d i, .dma cc0_scratch17.sem) 0 ∗ semVal (tile d i, .dma cc0_scratch18.sem) 0 ∗ semVal (tile d i, .dma cc0_scratch19.sem) 0 ∗ semVal (tile d i, .dma cc0_scratch20.sem) 0 ∗ semVal (tile d i, .dma cc0_scratch21.sem) 0 ∗ semVal (tile d i, .dma cc0_scratch22.sem) 0 ∗ semVal (tile d i, .dma cc0_scoped0.sem) 0 ∗ semVal (tile d i, .dma cc0_scoped1.sem) 0) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) _

/-- The tile's storage as its run names it. -/
abbrev idle : sProp 𝕄 := Idle (F := F) d i (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) cc0_scratch14 cc0_scratch15 cc0_scratch16 cc0_scratch17 cc0_scratch18 cc0_scratch19 cc0_scratch20 cc0_scratch21 cc0_scratch22 cc0_scoped0 cc0_scoped1

theorem idle_intro : iprop((bigSep Finset.univ fun k => iprop(∃ f, (tile d i).loc (scratch k) ↦{fullShare} f)) ∗ bigSep Finset.univ fun k => semVal (tile d i, scratchSem k) 0)
    ⊢ (idle (F := F) d i : sProp 𝕄) := by
  rw [bufs_eq, sems_eq]
  unfold idle Idle ReadIdle WriteIdle
  iintro ⟨⟨H0, H1, H2, H3, H4, H5, H6, H7, H8, H9, H10, H11, H12, H13⟩, ⟨S0, S1, S2, S3, S4, S5, S6, S7, S8, S9, S10⟩⟩
  isplitl [H0]
  · iapply (whole_held (F := F) (tile d i) cc0_scratch0); iexact H0
  isplitl [H1]
  · iapply (whole_held (F := F) (tile d i) cc0_scratch1); iexact H1
  isplitl [H2 H4 S0 S3]
  · isplitl [H2]
    · iapply (whole_held (F := F) (tile d i) cc0_scratch2); iexact H2
    isplitl [H4]
    · iapply (whole_held (F := F) (tile d i) cc0_scratch4); iexact H4
    isplitl [S0]
    · iexact S0
    iexact S3
  isplitl [H3 H5 S1 S4]
  · isplitl [H3]
    · iapply (whole_held (F := F) (tile d i) cc0_scratch3); iexact H3
    isplitl [H5]
    · iapply (whole_held (F := F) (tile d i) cc0_scratch5); iexact H5
    isplitl [S1]
    · iexact S1
    iexact S4
  isplitl [H10 H11 S2 S5]
  · isplitl [H10]
    · iapply (whole_held (F := F) (tile d i) cc0_scratch10); iexact H10
    isplitl [H11]
    · iapply (whole_held (F := F) (tile d i) cc0_scratch11); iexact H11
    isplitl [S2]
    · iexact S2
    iexact S5
  isplitl [H6 H8 S6]
  · isplitl [H6]
    · iapply (whole_held (F := F) (tile d i) cc0_scratch6); iexact H6
    isplitl [H8]
    · iapply (whole_held (F := F) (tile d i) cc0_scratch8); iexact H8
    iexact S6
  isplitl [H7 H9 S7]
  · isplitl [H7]
    · iapply (whole_held (F := F) (tile d i) cc0_scratch7); iexact H7
    isplitl [H9]
    · iapply (whole_held (F := F) (tile d i) cc0_scratch9); iexact H9
    iexact S7
  isplitl [H12 H13 S8]
  · isplitl [H12]
    · iapply (whole_held (F := F) (tile d i) cc0_scratch12); iexact H12
    isplitl [H13]
    · iapply (whole_held (F := F) (tile d i) cc0_scratch13); iexact H13
    iexact S8
  isplitl [S9]
  · iexact S9
  iexact S10

theorem idle_elim : (idle (F := F) d i : sProp 𝕄)
    ⊢ iprop((bigSep Finset.univ fun k => iprop(∃ f, (tile d i).loc (scratch k) ↦{fullShare} f)) ∗ bigSep Finset.univ fun k => semVal (tile d i, scratchSem k) 0) := by
  rw [bufs_eq, sems_eq]
  unfold idle Idle ReadIdle WriteIdle
  iintro ⟨H0, H1, ⟨H2, H4, S0, S3⟩, ⟨H3, H5, S1, S4⟩, ⟨H10, H11, S2, S5⟩, ⟨H6, H8, S6⟩, ⟨H7, H9, S7⟩, ⟨H12, H13, S8⟩, S9, S10⟩
  isplitl [H0 H1 H2 H3 H4 H5 H6 H7 H8 H9 H10 H11 H12 H13]
  · isplitl [H0]
    · iapply (held_whole (F := F) (tile d i) cc0_scratch0); iexact H0
    isplitl [H1]
    · iapply (held_whole (F := F) (tile d i) cc0_scratch1); iexact H1
    isplitl [H2]
    · iapply (held_whole (F := F) (tile d i) cc0_scratch2); iexact H2
    isplitl [H3]
    · iapply (held_whole (F := F) (tile d i) cc0_scratch3); iexact H3
    isplitl [H4]
    · iapply (held_whole (F := F) (tile d i) cc0_scratch4); iexact H4
    isplitl [H5]
    · iapply (held_whole (F := F) (tile d i) cc0_scratch5); iexact H5
    isplitl [H6]
    · iapply (held_whole (F := F) (tile d i) cc0_scratch6); iexact H6
    isplitl [H7]
    · iapply (held_whole (F := F) (tile d i) cc0_scratch7); iexact H7
    isplitl [H8]
    · iapply (held_whole (F := F) (tile d i) cc0_scratch8); iexact H8
    isplitl [H9]
    · iapply (held_whole (F := F) (tile d i) cc0_scratch9); iexact H9
    isplitl [H10]
    · iapply (held_whole (F := F) (tile d i) cc0_scratch10); iexact H10
    isplitl [H11]
    · iapply (held_whole (F := F) (tile d i) cc0_scratch11); iexact H11
    isplitl [H12]
    · iapply (held_whole (F := F) (tile d i) cc0_scratch12); iexact H12
    iapply (held_whole (F := F) (tile d i) cc0_scratch13); iexact H13
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  isplitl [S8]
  · iexact S8
  isplitl [S9]
  · iexact S9
  iexact S10

/-! ## The task -/

/-- A run from a part of what is held, the rest kept beside it. -/
theorem around {thr : Thread nD τ} {bd : Option 𝒱₀.V} {p : Prog (TpuEff nD τ sig (Elt F) Λ₀ thr.2) PUnit} {A X R : sProp 𝕄} {Q Q' : PUnit → sProp 𝕄}
    (h1 : A ⊢ iprop(X ∗ R)) (h2 : X ⊢ wp frame (wpE (defs₀ (F := F)) 𝒱₀ thr bd) Set.univ p Q) (h3 : ∀ a, iprop(Q a ∗ R) ⊢ Q' a) :
    A ⊢ wp frame (wpE (defs₀ (F := F)) 𝒱₀ thr bd) Set.univ p Q' := by
  refine h1.trans ?_
  iintro ⟨HX, HR⟩
  ihave H := h2 $$ HX
  iapply (wp_mono frame _ _ h3)
  iapply (wp_frame_r frame _)
  isplitl [H]; · iexact H
  iexact HR

/-- The kernel's body on tile `i`: from what it is handed and its own storage to what it brings back. -/
theorem tile_body (hk : ∀ d x, (o.knn d x).toNat < 20000) (O : CellTallies nD τ sig (HIx 1)) (W : Waits sig (HIx 1)) (hO : ∀ g, O g none = 0) :
    iprop(levAts (K (F := F)).L (K (F := F)).lev ∗ iprop(emp) ∗ goAt o d i
        ∗ scopedBufs (tile d i) ∗ scopedSems0 (tile d i) ∗ owes (tile d i) O W)
      ⊢ (wp frame (wpE (defs₀ (F := F)) 𝒱₀ (tile d i) none) Set.univ
          (cc0__interference_body i (Memref.whole main_v24_scv) (Memref.isWhole_whole _) (Memref.whole main_v25_scv) (Memref.isWhole_whole _) (Memref.whole main_v26_scv) (Memref.isWhole_whole _) (Memref.whole main_v27_scv) (Memref.isWhole_whole _) (Memref.whole main_v28_0_scv) (Memref.isWhole_whole _) (Memref.whole main_v28_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scoped0 cc0_scoped1)
          fun _ => iprop(tdAt o d i ∗ scopedBufs (tile d i) ∗ scopedSems0 (tile d i) ∗ ∃ W', ⌜∀ p ∈ W', p ∈ W ∨ p.2 = none⌝ ∗ owes (tile d i) O W') : sProp 𝕄) := by
  have hrun := tile_run (F := F) (defs := defs₀ (F := F)) 𝒱₀ d none EC i (Memref.whole main_v24_scv) (Memref.isWhole_whole _) (Memref.whole main_v25_scv) (Memref.isWhole_whole _) (Memref.whole main_v26_scv) (Memref.isWhole_whole _) (Memref.whole main_v27_scv) (Memref.isWhole_whole _) (Memref.whole main_v28_0_scv) (Memref.isWhole_whole _) (Memref.whole main_v28_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scoped0 cc0_scoped1 (o.psi d) (o.all d) (o.knn d) (o.prm d) (hk d) none O W _ _ rfl rfl rfl rfl
  refine around (R := iprop(restBufs (F := F) d i ∗ restSems (F := F) d i)) ?_ hrun (fun _ => ?_)
  · rw [(K (F := F)).scopedBufs_V facts d _ _, SparseCore.Cfg.scopedSems0_V (Val := Elt F) d _ _, ownBufs_tile, ownSems_tile]
    unfold goAt
    iintro ⟨#Hlv, -, ⟨Hp, Ha, Hk, Hq, Hout⟩, ⟨Hb, Hbr⟩, ⟨Hs, Hsr⟩, HO⟩
    ihave Hid := (idle_intro (F := F) d i) $$ [Hb Hs]
    · isplitl [Hb]; · iexact Hb
      iexact Hs
    ihave Hmw := ((K (F := F)).mayWaits_none (thr := tile d i) hO) $$ Hlv
    isplitr [Hbr Hsr]; swap
    · isplitl [Hbr]; · iexact Hbr
      iexact Hsr
    isplitl [Hp]; · iexact Hp
    isplitl [Ha]; · iexact Ha
    isplitl [Hk]; · iexact Hk
    isplitl [Hq]; · iexact Hq
    isplitl [HO Hmw]
    · unfold Owed
      iexists W
      isplitr; · ipureintro; exact fun p hp => .inl hp
      isplitl [HO]; · iexact HO
      iexact Hmw
    isplitl [Hout]; · iexact Hout
    iexact Hid
  · rw [(K (F := F)).scopedBufs_V facts d _ _, SparseCore.Cfg.scopedSems0_V (Val := Elt F) d _ _, ownBufs_tile, ownSems_tile]
    unfold Owed
    iintro ⟨⟨Hout, ⟨%W', %hW', HO, -⟩, Hid⟩, Hbr, Hsr⟩
    ihave Hst := (idle_elim (F := F) d i) $$ Hid
    icases Hst with ⟨Hb, Hs⟩
    isplitl [Hout]; · unfold tdAt; iexact Hout
    isplitl [Hb Hbr]
    · isplitl [Hb]; · iexact Hb
      iexact Hbr
    isplitl [Hs Hsr]
    · isplitl [Hs]; · iexact Hs
      iexact Hsr
    iexists W'
    isplitr; · ipureintro; exact hW'
    iexact HO

/-! ## The obligation -/

/-- The table's row for the tiles. -/
theorem defs₀_vector (c : Fin τ.nSC) (s : Fin τ.nSub) :
    defs₀ (F := F) (.scVector c s) 0 ()
      = SparseCore.onTile hcore0 hsub0 (fun c s => cc0__interference_body (coords c s) (Memref.whole main_v24_scv) (Memref.isWhole_whole _) (Memref.whole main_v25_scv) (Memref.isWhole_whole _) (Memref.whole main_v26_scv) (Memref.isWhole_whole _) (Memref.whole main_v27_scv) (Memref.isWhole_whole _) (Memref.whole main_v28_0_scv) (Memref.isWhole_whole _) (Memref.whole main_v28_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 cc0_scratch19 cc0_scratch20 cc0_scratch21 cc0_scratch22 cc0_scoped0 cc0_scoped1) ⟨⟩ c s := rfl

/-- Waits recorded at the copies' own index are among those a task may record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call runs its task. -/
theorem tileObl (hk : ∀ d x, (o.knn d x).toNat < 20000) : (K (F := F)).TileObl (D (F := F)) 𝒱 (P o) v₀ 0 := by
  intro d c s O W hO _ _
  simp only [show (P o).ox = fun _ _ => 0 from rfl, add_zero]
  change _ ⊢ wp _ _ _ (Pipeline.liftProg (defs₀ (F := F) (.scVector ((K (F := F)).core 0 c) ((K (F := F)).sub 0 s)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body o d (coords ⟨_, hc.1⟩ ⟨_, hc.2⟩) hk O W hO).trans (wp_mono frame _ _ fun _ => obl_post)

end Cert.Interference

end
-- ==== Proof.Deal.lean ====
/-
  How the TensorCore deals the call's arrays to the tiles and takes the results back: every tile gets a right to read
  each operand, tile `b` the stretch of elements of batch `b` of the two result arrays, and the stretches that come back
  make the whole arrays.
-/
module

public import proofs.«01_k».proof.Proof.TileObl

@[expose] public section

noncomputable section

namespace Cert.Interference

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Copies and stretches -/

/-- A right to read is as many rights to read as there are tiles. -/
theorem rd_copies {c : Thread nD τ} {sp : Space} {s : Shape} {e : EltTy} (v : View sig c.2.kind sp s e) (G : s.Idx → Elt F e) (n : ℕ) :
    (Rd (F := F) c v G : sProp 𝕄) ⊢ bigSep (Finset.range n) fun _ => Rd (F := F) c v G := by
  induction n with
  | zero => rw [Finset.range_zero, BI.bigSep_empty]; iintro -; iempintro
  | succ n ih =>
    rw [Finset.range_add_one, SparseCore.bigSep_insert' Finset.notMem_range_self]
    refine (Rd_dup (F := F) c).trans ?_
    iintro ⟨H1, H2⟩
    isplitl [H1]; · iexact H1
    iapply ih; iexact H2

/-- The first `n` batches of a result array, batch by batch. -/
theorem cut {c : Thread nD τ} (v : View sig c.2.kind .hbm S640000 .f32) (G : S640000.Idx → F .f32) (n : ℕ) :
    (Reg (F := F) c fullShare v (iv 0 (n * 20000)) G : sProp 𝕄)
      ⊢ bigSep (Finset.range n) fun b => Reg (F := F) c fullShare v (iv (b * 20000) (b * 20000 + 20000)) G := by
  induction n with
  | zero => rw [Finset.range_zero, BI.bigSep_empty]; iintro -; iempintro
  | succ n ih =>
    rw [Finset.range_add_one, SparseCore.bigSep_insert' Finset.notMem_range_self, show (n + 1) * 20000 = n * 20000 + 20000 by ring]
    refine (Reg_iv_split (F := F) c (lo := 0) (mid := n * 20000) (hi := n * 20000 + 20000) (Nat.zero_le _) (Nat.le_add_right _ _)).trans ?_
    iintro ⟨H1, H2⟩
    isplitl [H2]; · iexact H2
    iapply ih; iexact H1

/-- The batches put together: each element as its batch has it. -/
theorem paste {c : Thread nD τ} (v : View sig c.2.kind .hbm S640000 .f32) (G : ℕ → S640000.Idx → F .f32) (n : ℕ) :
    (bigSep (Finset.range (n + 1)) fun b => Reg (F := F) c fullShare v (iv (b * 20000) (b * 20000 + 20000)) (G b) : sProp 𝕄)
      ⊢ Reg (F := F) c fullShare v (iv 0 ((n + 1) * 20000)) fun y => G ((y 0 : ℕ) / 20000) y := by
  have hc : ∀ n : ℕ, (Reg (F := F) c fullShare v (iv (n * 20000) (n * 20000 + 20000)) (G n) : sProp 𝕄)
      ⊢ Reg (F := F) c fullShare v (iv (n * 20000) (n * 20000 + 20000)) fun y => G ((y 0 : ℕ) / 20000) y := by
    intro n
    refine Reg_congr (F := F) c fun y hy => ?_
    have h : (y 0 : ℕ) / 20000 = n := by
      simp only [iv, Finset.mem_filter, Finset.mem_univ, true_and] at hy
      omega
    rw [h]
  induction n with
  | zero =>
    rw [Finset.range_add_one, SparseCore.bigSep_insert' Finset.notMem_range_self]
    refine BIBase.Entails.trans ?_ (hc 0)
    iintro ⟨H, -⟩; iexact H
  | succ n ih =>
    rw [Finset.range_add_one, SparseCore.bigSep_insert' Finset.notMem_range_self, show (n + 1 + 1) * 20000 = (n + 1) * 20000 + 20000 by ring]
    iintro ⟨H1, H2⟩
    ihave H1 := (hc (n + 1)) $$ H1
    ihave H2 := ih $$ H2
    iapply (Reg_iv_join (F := F) c (lo := 0) (mid := (n + 1) * 20000) (hi := (n + 1) * 20000 + 20000) (Nat.zero_le _) (Nat.le_add_right _ _))
    isplitl [H2]; · iexact H2
    iexact H1

theorem iv_all : iv 0 (32 * 20000) = Finset.univ := by
  ext x
  simp only [iv, Finset.mem_filter, Finset.mem_univ, true_and, iff_true]
  exact ⟨Nat.zero_le _, (x 0).isLt⟩

/-- The tiles of the grid are the thirty-two batches. -/
theorem reindex {M : Type} [URA M] {n m : ℕ} (hn : n = 2) (hm : m = 16) (Φ : ℕ → sProp M) :
    (bigSep Finset.univ fun c : Fin n => bigSep Finset.univ fun s : Fin m => Φ (s.val * 2 + c.val)) = bigSep (Finset.range 32) Φ := by
  subst hn hm
  rw [← SparseCore.bigSep_product (Finset.univ : Finset (Fin 2)) (Finset.univ : Finset (Fin 16)) (fun x => Φ (x.2.val * 2 + x.1.val)),
    ← SparseCore.bigSep_image_of_injOn (f := fun x : Fin 2 × Fin 16 => x.2.val * 2 + x.1.val) (s := Finset.univ ×ˢ Finset.univ) (by decide) Φ]
  exact congrArg (fun t => bigSep t Φ) (show Finset.image (fun x : Fin 2 × Fin 16 => x.2.val * 2 + x.1.val) (Finset.univ ×ˢ Finset.univ) = Finset.range 32 by decide)

variable (o : Operands F) (d : Dev nD)

/-- The first tile. -/
def i₀ : grid0.Coords := coords ⟨0, by decide⟩ ⟨0, by decide⟩

/-- What the tile of batch `b` is handed. -/
def goB (b : ℕ) : sProp 𝕄 :=
  iprop(Rd (F := F) (tile d i₀) (Memref.whole main_v24_scv : Memref sig .scVector .hbm S32x2x20000 .f32).view (o.psi d) ∗
    Rd (F := F) (tile d i₀) (Memref.whole main_v25_scv : Memref sig .scVector .hbm S32x2x20000 .f32).view (o.all d) ∗
    Rd (F := F) (e := .i32) (tile d i₀) (Memref.whole main_v26_scv : Memref sig .scVector .hbm S32x32x20000 .i32).view (o.knn d) ∗
    Rd (F := F) (tile d i₀) (Memref.whole main_v27_scv : Memref sig .scVector .hbm S512 .f32).view (o.prm d) ∗
    ∃ X Y, Both (F := F) (tile d i₀) (Memref.whole main_v28_0_scv) (Memref.whole main_v28_1_scv) (b * 20000) (b * 20000 + 20000) X Y)

/-- What it brings back. -/
def tdB (b : ℕ) : sProp 𝕄 :=
  Both (F := F) (tile d i₀) (Memref.whole main_v28_0_scv) (Memref.whole main_v28_1_scv) (b * 20000) (b * 20000 + 20000) (aOut o d b) (dOut o d b)

/-- The arrays are the same to every tile. -/
theorem goAt_eq (i : grid0.Coords) : goAt o d i = goB o d (bt i) := rfl
theorem tdAt_eq (i : grid0.Coords) : tdAt o d i = tdB o d (bt i) := rfl

theorem bt_task (c : Fin ((K (F := F)).nCore 0)) (s : Fin ((K (F := F)).nSub 0)) : bt (task (F := F) 0 c s) = s.val * 2 + c.val := rfl

theorem st_eq : (bigSep Finset.univ fun c : Fin ((K (F := F)).nCore 0) => (P (F := F) o).st 0 d c) = bigSep (Finset.range 32) (goB o d) := by
  rw [← reindex (show (K (F := F)).nCore 0 = 2 from rfl) (show (K (F := F)).nSub 0 = 16 from rfl) (goB o d)]
  refine bigSep_congr fun c _ => (show (P (F := F) o).st 0 d c = bigSep Finset.univ fun s => goAt o d (task (F := F) 0 c s) from rfl).trans (bigSep_congr fun s _ => ?_)
  rw [goAt_eq, bt_task]

theorem dn_eq : (bigSep Finset.univ fun c : Fin ((K (F := F)).nCore 0) => (P (F := F) o).dn 0 d c) = bigSep (Finset.range 32) (tdB o d) := by
  rw [← reindex (show (K (F := F)).nCore 0 = 2 from rfl) (show (K (F := F)).nSub 0 = 16 from rfl) (tdB o d)]
  refine bigSep_congr fun c _ => (show (P (F := F) o).dn 0 d c = bigSep Finset.univ fun s => tdAt o d (task (F := F) 0 c s) from rfl).trans (bigSep_congr fun s _ => ?_)
  rw [tdAt_eq, bt_task]

/-- A whole array on the TensorCore is its every index held, on any tile. -/
theorem whole_reg {s : Shape} {e : EltTy} (v : View sig .scVector .hbm s e) (hv : v.setOn Finset.univ = Finset.univ) (f : Buf (Elt F) (v.loc (tile d i₀))) :
    (v.loc (tile d i₀) ↦{fullShare} f : sProp 𝕄) ⊢ Reg (F := F) (tile d i₀) fullShare v Finset.univ (v.read (Elt F) f) := by
  unfold Reg
  iintro H
  iexists f
  rw [hv]
  isplitl [H]; · iexact H
  ipureintro; exact fun x _ => rfl

/-- The arrays, dealt: each operand to every tile, each result array batch by batch. -/
theorem deal (X Y : S640000.Idx → F .f32) :
    iprop(((d, Proc.devRef .tc main_v24) ↦{fullShare} (o.psi d : Buf (Elt F) (d, Proc.devRef .tc main_v24))) ∗
        ((d, Proc.devRef .tc main_v25) ↦{fullShare} (o.all d : Buf (Elt F) (d, Proc.devRef .tc main_v25))) ∗
        ((d, Proc.devRef .tc main_v26) ↦{fullShare} (o.knn d : Buf (Elt F) (d, Proc.devRef .tc main_v26))) ∗
        ((d, Proc.devRef .tc main_v27) ↦{fullShare} (o.prm d : Buf (Elt F) (d, Proc.devRef .tc main_v27))) ∗
        ((d, Proc.devRef .tc main_v28_0) ↦{fullShare} (X : Buf (Elt F) (d, Proc.devRef .tc main_v28_0))) ∗
        ((d, Proc.devRef .tc main_v28_1) ↦{fullShare} (Y : Buf (Elt F) (d, Proc.devRef .tc main_v28_1))))
      ⊢ (bigSep Finset.univ fun c : Fin ((K (F := F)).nCore 0) => (P (F := F) o).st 0 d c : sProp 𝕄) := by
  rw [st_eq]
  unfold goB Both
  rw [bigSep_sep', bigSep_sep', bigSep_sep', bigSep_sep']
  iintro ⟨Hp, Ha, Hk, Hq, HX, HY⟩
  isplitl [Hp]
  · iapply (rd_copies (F := F) _ _ 32)
    unfold Rd; iexists fullShare
    iapply (whole_reg d (View.whole main_v24_scv) (View.set_whole _) (o.psi d)); iexact Hp
  isplitl [Ha]
  · iapply (rd_copies (F := F) _ _ 32)
    unfold Rd; iexists fullShare
    iapply (whole_reg d (View.whole main_v25_scv) (View.set_whole _) (o.all d)); iexact Ha
  isplitl [Hk]
  · iapply (rd_copies (F := F) _ _ 32)
    unfold Rd; iexists fullShare
    iapply (whole_reg d (View.whole main_v26_scv) (View.set_whole _) (o.knn d)); iexact Hk
  isplitl [Hq]
  · iapply (rd_copies (F := F) _ _ 32)
    unfold Rd; iexists fullShare
    iapply (whole_reg d (View.whole main_v27_scv) (View.set_whole _) (o.prm d)); iexact Hq
  have hx := cut (F := F) (c := tile d i₀) (View.whole main_v28_0_scv) X 32
  have hy := cut (F := F) (c := tile d i₀) (View.whole main_v28_1_scv) Y 32
  rw [iv_all] at hx hy
  ihave HX := ((whole_reg d (View.whole main_v28_0_scv) (View.set_whole _) X).trans hx) $$ HX
  ihave HY := ((whole_reg d (View.whole main_v28_1_scv) (View.set_whole _) Y).trans hy) $$ HY
  have hm : (bigSep (Finset.range 32) (fun b => iprop(Reg (F := F) (tile d i₀) fullShare (View.whole main_v28_0_scv) (iv (b * 20000) (b * 20000 + 20000)) X
        ∗ Reg (F := F) (tile d i₀) fullShare (View.whole main_v28_1_scv) (iv (b * 20000) (b * 20000 + 20000)) Y)) : sProp 𝕄)
      ⊢ bigSep (Finset.range 32) fun b => iprop(∃ X Y, Reg (F := F) (tile d i₀) fullShare (Memref.whole main_v28_0_scv : Memref sig .scVector .hbm S640000 .f32).view (iv (b * 20000) (b * 20000 + 20000)) X
        ∗ Reg (F := F) (tile d i₀) fullShare (Memref.whole main_v28_1_scv : Memref sig .scVector .hbm S640000 .f32).view (iv (b * 20000) (b * 20000 + 20000)) Y) :=
    bigSep_mono fun b _ => BIBase.Entails.trans (Q := iprop(Reg (F := F) (tile d i₀) fullShare (View.whole main_v28_0_scv) (iv (b * 20000) (b * 20000 + 20000)) X
        ∗ Reg (F := F) (tile d i₀) fullShare (View.whole main_v28_1_scv) (iv (b * 20000) (b * 20000 + 20000)) Y)) (BI.Entails.refl _) (by
      iintro H
      iexists X; iexists Y; iexact H)
  iapply hm
  rw [bigSep_sep']
  isplitl [HX]; · iexact HX
  iexact HY

/-- The whole first result: each element as the tile of its batch computed it. -/
def aAll : S640000.Idx → F .f32 := fun y => aOut o d ((y 0 : ℕ) / 20000) y
/-- The whole second result. -/
def dAll : S640000.Idx → F .f32 := fun y => dOut o d ((y 0 : ℕ) / 20000) y

theorem reg_whole (b : Ref sig .scVector) (G : b.ty.Contents (Elt F)) :
    (Reg (F := F) (tile d i₀) fullShare (View.whole b) Finset.univ G : sProp 𝕄) ⊢ ((tile d i₀).loc b ↦{fullShare} G) := by
  unfold Reg
  iintro ⟨%f, H, %hf⟩
  rw [show (View.whole b : View sig .scVector _ _ _).setOn Finset.univ = Finset.univ from View.set_whole b]
  have h : f = G := funext fun x => hf x (Finset.mem_univ x)
  rw [h]
  iexact H

/-- The results, taken back. -/
theorem gather :
    (bigSep Finset.univ fun c : Fin ((K (F := F)).nCore 0) => (P (F := F) o).dn 0 d c : sProp 𝕄)
      ⊢ iprop(((d, Proc.devRef .tc main_v28_0) ↦{fullShare} (aAll o d : Buf (Elt F) (d, Proc.devRef .tc main_v28_0))) ∗
        ((d, Proc.devRef .tc main_v28_1) ↦{fullShare} (dAll o d : Buf (Elt F) (d, Proc.devRef .tc main_v28_1)))) := by
  rw [dn_eq]
  unfold tdB Both
  rw [bigSep_sep']
  have ha := paste (F := F) (c := tile d i₀) (Memref.whole main_v28_0_scv).view (aOut o d) 31
  have hd := paste (F := F) (c := tile d i₀) (Memref.whole main_v28_1_scv).view (dOut o d) 31
  rw [show (31 + 1) * 20000 = 32 * 20000 from rfl, iv_all] at ha hd
  iintro ⟨HA, HD⟩
  ihave HA := (ha.trans (reg_whole d main_v28_0_scv (aAll o d))) $$ HA
  ihave HD := (hd.trans (reg_whole d main_v28_1_scv (dAll o d))) $$ HD
  isplitl [HA]; · iexact HA
  iexact HD

end Cert.Interference

end
-- ==== Proof.Region.lean ====
/-
  The second kernel, a pipeline of four points on the TensorCore: at each point it fetches eight rows of the
  interference, of the squared distance and of the mask, and writes back eight rows of the log-probabilities. Its body
  from the staging buffers to the staging buffers, its proof data, and the region over the four arrays its windows name.
-/
module

public import proofs.«01_k».proof.Proof.Setup
public import proofs.«01_k».proof.Proof.Gen.KernelIdeal.Points
public import Idealize.ShloMosaic.Lib.Pipeline.RegionArrays
public import Idealize.ShloMosaic.Lib.Pipeline.ValueKit.Geometry

@[expose] public section

noncomputable section

namespace Cert.Interference

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig (HIx 1) (Elt F) ℕ UU ℕ

/-! ## The body -/

/-- A memref owned whole at contents `X` is its view's every index held, reading `X`. -/
theorem owns_eq_reg (c : Thread nD τ) {sp : Space} {s : Shape} {e : EltTy} (m : Memref sig c.2.kind sp s e) (X : s.Idx → Elt F e) :
    (owns c m fullShare X : sProp 𝕄) ⊢ Reg c fullShare m.view Finset.univ X := by
  unfold owns Reg
  iintro ⟨%f, %hf, H⟩
  iexists f
  rw [View.setOn_univ]
  isplitl [H]; · iexact H
  ipureintro; intro x _; rw [hf]

theorem reg_eq_owns (c : Thread nD τ) {sp : Space} {s : Shape} {e : EltTy} (m : Memref sig c.2.kind sp s e) (X : s.Idx → Elt F e) :
    (Reg c fullShare m.view Finset.univ X : sProp 𝕄) ⊢ owns c m fullShare X := by
  unfold owns Reg
  iintro ⟨%f, H, %hf⟩
  iexists f
  rw [View.setOn_univ]
  isplitr; · ipureintro; funext x; exact hf x (Finset.mem_univ x)
  iexact H

/-- The rectangle the body loads and stores: every index, in place. -/
theorem emb_all (x : S8x20000.Idx) : (Rect.unit (s := S8x20000) ![0, 0] S8x20000.size inb_S8x20000_S8x20000_0_0).emb x = x := by
  funext a
  apply Fin.ext
  have h : ((Rect.unit (s := S8x20000) ![0, 0] S8x20000.size inb_S8x20000_S8x20000_0_0).emb x a : ℕ) = (![0, 0] : Fin 2 → ℕ) a + 1 * (x a : ℕ) := rfl
  rw [h]
  fin_cases a <;> simp

/-- The body reads the three staged blocks and leaves the rows' log-probabilities in the fourth buffer. -/
theorem body_run (d : Dev nD) (i : grid1.Coords) (M0 : Memref sig .tc .vmem S8x20000 .f32) (h0 : M0.IsWhole) (M1 : Memref sig .tc .vmem S8x20000 .f32) (h1 : M1.IsWhole)
    (M2 : Memref sig .tc .vmem S8x20000 .f32) (h2 : M2.IsWhole) (M3 : Memref sig .tc .vmem S8x20000 .f32) (h3 : M3.IsWhole)
    (X0 X1 X2 X3 : S8x20000.Idx → F .f32) (Q : PUnit → sProp 𝕄) :
    iprop(owns (Val := Elt F) (T d) M0 fullShare X0 ∗ owns (Val := Elt F) (T d) M1 fullShare X1 ∗ owns (Val := Elt F) (T d) M2 fullShare X2 ∗ owns (Val := Elt F) (T d) M3 fullShare X3 ∗
        (iprop(owns (Val := Elt F) (T d) M0 fullShare X0 ∗ owns (Val := Elt F) (T d) M1 fullShare X1 ∗ owns (Val := Elt F) (T d) M2 fullShare X2 ∗ owns (Val := Elt F) (T d) M3 fullShare (k1_pay1 X0 X1 X2)) -∗ Q ⟨⟩))
      ⊢ wp frame (wpE (defs₀ (F := F)) 𝒱₀ (T d) none) Set.univ (cc1__epilogue_body i M0 h0 M1 h1 M2 h2 M3 h3) Q := by
  rw [cc1__epilogue_body_eq_skeleton]
  unfold cc1__epilogue_body_skel
  simp only [Prog.lift, Prog.bind_op, Prog.bind_ret]
  iintro ⟨H0, H1, H2, H3, Hk⟩
  ihave H0 := (owns_eq_reg (T d) M0 X0) $$ H0
  ihave H1 := (owns_eq_reg (T d) M1 X1) $$ H1
  ihave H2 := (owns_eq_reg (T d) M2 X2) $$ H2
  ihave H3 := (owns_eq_reg (T d) M3 X3) $$ H3
  iapply (wp_load_reg 𝒱₀ (T d) none fun _ => Finset.mem_univ _) $$ H0
  iintro H0
  iapply (wp_load_reg 𝒱₀ (T d) none fun _ => Finset.mem_univ _) $$ H1
  iintro H1
  iapply (wp_load_reg 𝒱₀ (T d) none fun _ => Finset.mem_univ _) $$ H2
  iintro H2
  iapply (wp_load_reg 𝒱₀ (T d) none fun _ => Finset.mem_univ _) $$ H3
  iintro H3
  have hX : ∀ X : S8x20000.Idx → F .f32, (fun x => X ((Rect.unit (s := S8x20000) ![0, 0] S8x20000.size inb_S8x20000_S8x20000_0_0).emb x)) = X :=
    fun X => funext fun x => congrArg X (emb_all x)
  iapply (wp_store_reg 𝒱₀ (T d) none (k1_pay1 X0 X1 X2) (fun _ => Finset.mem_univ _)
    (fun x => (congrArg _ (emb_all x)).trans (congrFun (congr (congr (congrArg k1_pay1 (hX X0)) (hX X1)) (hX X2)) x).symm)
    (fun y _ hy => absurd (by rw [← Rect.map_emb_univ]; exact Finset.mem_map.mpr ⟨y, Finset.mem_univ _, emb_all y⟩) hy)) $$ H3
  iintro H3
  sl_step
  iapply Hk
  isplitl [H0]; · iapply (reg_eq_owns (T d) M0 X0); iexact H0
  isplitl [H1]; · iapply (reg_eq_owns (T d) M1 X1); iexact H1
  isplitl [H2]; · iapply (reg_eq_owns (T d) M2 X2); iexact H2
  iapply (reg_eq_owns (T d) M3 _); iexact H3

/-! ## The proof data -/

abbrev EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ (MT nD τ sig (HIx 1) (Elt F) ℕ UU ℕ)) := by unfold EP; infer_instance

abbrev adm : (p : Fin 1) → (pcfgs (F := F) p).Adm := fun p => (cfgs p).toPCfg_adm

variable (W : Dev nD → Valuation τ sig (Elt F))

/-- Window `w`'s block at point `t`, of the array at the entry valuation. -/
abbrev blk1 (c : Dev nD) (w : Fin 4) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What the TensorCore's waits may have recorded when the region is entered. -/
def recordedBelow (c : Dev nD) (b : ℕ) : Set (SemLoc sig × HIx 1) := {p | (K (F := F)).lev (T c, p.1) p.2 ≤ b}

/-- The region's proof data: the arrays at the entry valuation, the blocks as fetched, the result's as computed. -/
def dat (c : Dev nD) : Dat τ (Elt F) (HIx 1) ℕ UU ℕ cfg1 c where
  A w := W c (Proc.devRef .tc (Pipeline.arrRef spec1 w))
  after w t := match w with
    | 0 => blk1 W c 0 t
    | 1 => blk1 W c 1 t
    | 2 => blk1 W c 2 t
    | 3 => k1_pay1 (blk1 W c 0 t) (blk1 W c 1 t) (blk1 W c 2 t)
    | ⟨_ + 4, h⟩ => absurd h (Nat.not_lt.2 (Nat.le_add_left _ _))
  Φ _ := iprop(emp)
  q _ := fullShare
  owed _ := 0
  recorded _ := recordedBelow (F := F) c 8

theorem before0 (c : Dev nD) (t : Fin cfg1.N) (x : (cfg1.win 0).block.Idx → Elt F (cfg1.win 0).elt) : (dat W c).before 0 t x = blk1 W c 0 t := by
  unfold Dat.before; rw [if_pos (fetch1_0 t)]; rfl
theorem before1 (c : Dev nD) (t : Fin cfg1.N) (x : (cfg1.win 1).block.Idx → Elt F (cfg1.win 1).elt) : (dat W c).before 1 t x = blk1 W c 1 t := by
  unfold Dat.before; rw [if_pos (fetch1_1 t)]; rfl
theorem before2 (c : Dev nD) (t : Fin cfg1.N) (x : (cfg1.win 2).block.Idx → Elt F (cfg1.win 2).elt) : (dat W c).before 2 t x = blk1 W c 2 t := by
  unfold Dat.before; rw [if_pos (fetch1_2 t)]; rfl

/-- The body at every point. -/
theorem body_obligation (c : Dev nD) : BodyObligation (dat W c) (defs₀ (F := F)) 𝒱₀ none Set.univ := fun t => by
  rw [bigSep_W1, bigSep_W1]
  rw [show (dat W c).Φ t.castSucc = iprop(emp) from rfl, show (dat W c).Φ t.succ = iprop(emp) from rfl,
    show (dat W c).owesAt none t.succ = (dat W c).owesAt none t.castSucc from rfl]
  iintro ⟨-, Howes, ⟨%x0, H0⟩, ⟨%x1, H1⟩, ⟨%x2, H2⟩, ⟨%x3, H3⟩⟩
  rw [before0, before1, before2]
  iapply (body_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3)) (blk1 W c 0 t) (blk1 W c 1 t) (blk1 W c 2 t) _ _)
  isplitl [H0]; · iexact H0
  isplitl [H1]; · iexact H1
  isplitl [H2]; · iexact H2
  isplitl [H3]; · iexact H3
  iintro ⟨H0, H1, H2, H3⟩
  isplitr; · iempintro
  isplitl [Howes]; · iexact Howes
  isplitl [H0]; · iexact H0
  isplitl [H1]; · iexact H1
  isplitl [H2]; · iexact H2
  iexact H3

/-! ## The region -/

abbrev pdats : (p : Fin 1) → (c : Dev nD) → Dat τ (Elt F) (HIx 1) ℕ UU ℕ (Pipeline.pin (pcfgs (F := F)) adm p) c := fun _ => dat W

/-- The waits of the pipeline on its own cells are recorded at the copies' index, below every bound. -/
theorem bound_below (c : Dev nD) (t : Fin (cfg1.N + 1)) : (dat W c).bound none t ⊆ recordedBelow (F := F) c 8 := by
  intro p hp
  rcases hp with hp | ⟨w, s, rfl⟩
  · exact hp
  · exact Nat.zero_le _

set_option backward.isDefEq.respectTransparency.types false in
/-- The region, from its four arrays at a valuation to the same with the result's array as written back. -/
def region (W' : Dev nD → Valuation τ sig (Elt F))
    (hW' : ∀ c w, (dat W c).arrAt w cfg1.N = W' c (Proc.devRef .tc (Pipeline.arrRef spec1 w))) :
    Pipeline.RegionSeg (pcfgs (F := F)) adm (pdats W) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation W c).loose
  hwaits := Pipeline.hwaits_of_owed_zero _ _ _ _ _ _ 0 fun _ _ => rfl
  pre c := iprop(StableHlo.held (T c) (Pipeline.arrRefs spec1) (W c) ∗ ∃ X, ⌜(K (F := F)).WBelow (T c) X 8⌝ ∗ owes (T c) (0 : CellTallies nD τ sig (HIx 1)) X)
  post c := iprop(StableHlo.held (T c) (Pipeline.arrRefs spec1) (W' c) ∗ ∃ X, ⌜(K (F := F)).WBelow (T c) X 8⌝ ∗ owes (T c) (0 : CellTallies nD τ sig (HIx 1)) X)
  X _ := iprop(emp)
  Y _ := iprop(emp)
  Z _ := iprop(emp)
  hentry c := by
    rw [Pipeline.ownSems0_none, Pipeline.prefHeld_of_none _ rfl]
    have h := Pipeline.arrays_held (pcfgs (F := F)) adm (pdats W) 0 (launch1).toP c ((dat W c).share_full fun _ => rfl)
      ((dat W c).arrAt · 0) (W c) (fun _ => rfl)
    iintro ⟨⟨Ha, %X, %hX, HO⟩, -, -⟩
    imodintro
    isplitl [Ha]; · iapply (Entails.of_eq h.symm); iexact Ha
    isplitr; · iempintro
    isplitl [HO]
    · iexists X; isplitr; · ipureintro; exact fun p hp => Or.inl (hX p hp)
      iexact HO
    isplitr; · iempintro
    iempintro
  hin c := by
    rw [show (pdats W 0 c).Φ 0 = iprop(emp) from rfl, show Pipeline.scopedRest (pcfgs (F := F) 0).spec c = iprop(emp) from scopedRest1_eq c]
    iintro -; iempintro
  hout c := by
    rw [Pipeline.ownSems0_none, show (pdats W 0 c).Φ (Fin.last _) = iprop(emp) from rfl, show Pipeline.scopedRest (pcfgs (F := F) 0).spec c = iprop(emp) from scopedRest1_eq c]
    iintro -
    isplitr; · iempintro
    isplitr; · iempintro
    iempintro
  hexit c := by
    have h := Pipeline.arrays_held (pcfgs (F := F)) adm (pdats W) 0 (launch1).toP c ((dat W c).share_full fun _ => rfl)
      ((dat W c).arrAt · cfg1.N) (W' c) (hW' c)
    iintro ⟨Ha, ⟨%X, %hX, HO⟩, -, -⟩
    imodintro
    isplitl [Ha]; · iapply (Entails.of_eq h); iexact Ha
    iexists X; isplitr; · ipureintro; exact fun p hp => bound_below W c _ (hX hp)
    iexact HO

end Cert.Interference

end
-- ==== Proof.Main.lean ====
/-
  @main on the TensorCore, from the launch to its end: the first line of host operations, the SparseCore call over the
  operands they leave, the second line, the pipeline over its four arrays. Then the run of the whole program.
-/
module

public import proofs.«01_k».proof.Proof.Host
public import proofs.«01_k».proof.Proof.Deal
public import proofs.«01_k».proof.Proof.Region
public import proofs.«01_k».proof.Proof.Gen.KernelIdeal.Launch
public import Idealize.ShloMosaic.Lib.SparseCore.Quiescent
public import Idealize.ShloMosaic.Lib.StableHlo.RunRead

@[expose] public section

noncomputable section

namespace Cert.Interference

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## The contents, step by step -/

abbrev r24 : DevRef τ sig := Proc.devRef .tc main_v24
abbrev r25 : DevRef τ sig := Proc.devRef .tc main_v25
abbrev r26 : DevRef τ sig := Proc.devRef .tc main_v26
abbrev r27 : DevRef τ sig := Proc.devRef .tc main_v27
abbrev r28 : DevRef τ sig := Proc.devRef .tc main_v28_0
abbrev r28' : DevRef τ sig := Proc.devRef .tc main_v28_1
abbrev r32 : DevRef τ sig := Proc.devRef .tc main_v32

/-- At the launch. -/
def V0 (d : Dev nD) : Valuation τ sig (Elt F) := fun b => m (d, b)
/-- At the SparseCore call. -/
def V1 (d : Dev nD) : Valuation τ sig (Elt F) := after ops1 (V0 m d)
/-- What the call's four operands hold. -/
def opnds : Operands F where
  psi d := V1 m d r24
  all d := V1 m d r25
  knn d := V1 m d r26
  prm d := V1 m d r27
/-- After the call. -/
def V2 (d : Dev nD) : Valuation τ sig (Elt F) := Function.update (Function.update (V1 m d) r28 (aAll (opnds m) d)) r28' (dAll (opnds m) d)
/-- At the pipeline. -/
def V3 (d : Dev nD) : Valuation τ sig (Elt F) := after ops2 (V2 m d)
/-- At the end. -/
def V4 (d : Dev nD) : Valuation τ sig (Elt F) := Function.update (V3 m d) r32 ((dat (V3 m) d).arrAt 3 cfg1.N)

/-! ## The arrays the TensorCore holds -/

/-- The operands the call does not bring back. -/
abbrev T4 : Finset (DevRef τ sig) := {r24, r25, r26, r27}
/-- The arrays the call is handed. -/
abbrev T6 : Finset (DevRef τ sig) := {r24, r25, r26, r27, r28, r28'}
/-- What the TensorCore holds after the call. -/
abbrev Kept : Finset (DevRef τ sig) := Pipeline.ucRefs τ sig \ T4

theorem T6_sub : T6 ⊆ Pipeline.ucRefs τ sig := by decide +kernel
theorem T2_sub : ({r28, r28'} : Finset (DevRef τ sig)) ⊆ Kept := by decide +kernel
theorem rest_eq : Kept \ {r28, r28'} = Pipeline.ucRefs τ sig \ T6 := by
  rw [sdiff_sdiff_left]; rfl
theorem arr_sub : Pipeline.arrRefs (τ := τ) spec1 ⊆ Kept := by decide +kernel

/-- The second line stays within what the TensorCore holds after the call. -/
theorem ops2_kept : ∀ op ∈ (ops2 (F := F)), op.bufs ⊆ Kept := fun op h => by
  refine Finset.subset_sdiff.mpr ⟨Pipeline.sub_ucRefs op ((List.forall_iff_forall_mem.mp ops2_sub) op h), ?_⟩
  simp only [ops2, List.mem_cons, List.not_mem_nil, or_false] at h
  rcases h with rfl | rfl | rfl
  · show Disjoint ({Proc.devRef .tc main_arg3, Proc.devRef .tc main_v29} : Finset (DevRef τ sig)) T4; decide
  · show Disjoint ({r28, Proc.devRef .tc main_v30} : Finset (DevRef τ sig)) T4; decide
  · show Disjoint ({r28', Proc.devRef .tc main_v31} : Finset (DevRef τ sig)) T4; decide

/-- The call's arrays taken out of all. -/
theorem held_call (d : Dev nD) (W : Valuation τ sig (Elt F)) :
    (held (T d) (Pipeline.ucRefs τ sig) W : sProp 𝕄) = iprop((((d, r24) ↦{fullShare} W r24) ∗ ((d, r25) ↦{fullShare} W r25) ∗ ((d, r26) ↦{fullShare} W r26) ∗
      ((d, r27) ↦{fullShare} W r27) ∗ ((d, r28) ↦{fullShare} W r28) ∗ ((d, r28') ↦{fullShare} W r28')) ∗ held (T d) (Pipeline.ucRefs τ sig \ T6) W) := by
  rw [StableHlo.held_sub_split (T d) T6_sub]
  congr 1
  unfold held
  rw [SparseCore.bigSep_insert' (by decide), SparseCore.bigSep_insert' (by decide), SparseCore.bigSep_insert' (by decide), SparseCore.bigSep_insert' (by decide),
    SparseCore.bigSep_insert' (by decide), bigSep_singleton]

theorem V2_a (d : Dev nD) : V2 m d r28 = aAll (opnds m) d :=
  (Function.update_of_ne (show r28 ≠ r28' by decide) _ _).trans (Function.update_self _ _ _)
theorem V2_d (d : Dev nD) : V2 m d r28' = dAll (opnds m) d := Function.update_self _ _ _

/-- The results joined to the rest, at the contents after the call. -/
theorem held_back (d : Dev nD) :
    (held (T d) Kept (V2 m d) : sProp 𝕄) = iprop((((d, r28) ↦{fullShare} (aAll (opnds m) d : Buf (Elt F) (d, r28))) ∗
      ((d, r28') ↦{fullShare} (dAll (opnds m) d : Buf (Elt F) (d, r28')))) ∗ held (T d) (Pipeline.ucRefs τ sig \ T6) (V1 m d)) := by
  have h1 : (held (T d) {r28, r28'} (V2 m d) : sProp 𝕄) = iprop(((d, r28) ↦{fullShare} V2 m d r28) ∗ ((d, r28') ↦{fullShare} V2 m d r28')) := by
    unfold held
    rw [SparseCore.bigSep_insert' (by decide), bigSep_singleton]
  have h2 : (held (T d) (Pipeline.ucRefs τ sig \ T6) (V2 m d) : sProp 𝕄) = held (T d) (Pipeline.ucRefs τ sig \ T6) (V1 m d) :=
    StableHlo.held_congr (T d) fun b hb => by
      have hb' := (Finset.mem_sdiff.mp hb).2
      unfold V2
      rw [Function.update_of_ne (fun h => hb' (by rw [h]; decide)), Function.update_of_ne (fun h => hb' (by rw [h]; decide))]
  rw [StableHlo.held_sub_split (T d) T2_sub, rest_eq, h1, h2, V2_a, V2_d]

/-! ## The pipeline -/

/-- What the pipeline leaves in its four arrays is the contents at the end. -/
theorem arrs_end (c : Dev nD) (w : Fin 4) : (dat (V3 m) c).arrAt w cfg1.N = V4 m c (Proc.devRef .tc (Pipeline.arrRef spec1 w)) := by
  unfold V4
  match w with
  | 0 => rw [Function.update_of_ne (by decide)]; exact (dat (V3 m) c).arrAt_in 0 rfl _
  | 1 => rw [Function.update_of_ne (by decide)]; exact (dat (V3 m) c).arrAt_in 1 rfl _
  | 2 => rw [Function.update_of_ne (by decide)]; exact (dat (V3 m) c).arrAt_in 2 rfl _
  | 3 => show _ = Function.update (V3 m c) r32 _ r32; rw [Function.update_self]

/-- Outside them nothing changes. -/
theorem held_rest (d : Dev nD) : (held (T d) (Kept \ Pipeline.arrRefs spec1) (V3 m d) : sProp 𝕄) = held (T d) (Kept \ Pipeline.arrRefs spec1) (V4 m d) :=
  StableHlo.held_congr (T d) fun b hb => by
    have hb' := (Finset.mem_sdiff.mp hb).2
    unfold V4
    exact (Function.update_of_ne (fun h => hb' (by rw [h]; decide)) _ _).symm

/-- The pipeline's region from the contents before it to the contents at the end. -/
def reg : Pipeline.RegionSeg (pcfgs (F := F)) adm (pdats (V3 m)) none defs₀ 𝒱₀ (K (F := F)).L (K (F := F)).lev 0 :=
  region (V3 m) (V4 m) (arrs_end m)

theorem reg_pre (d : Dev nD) : ((reg m).pre d : sProp 𝕄) = iprop(held (T d) (Pipeline.arrRefs spec1) (V3 m d) ∗
    ∃ X, ⌜(K (F := F)).WBelow (T d) X 8⌝ ∗ owes (T d) (0 : CellTallies nD τ sig (HIx 1)) X) := rfl
theorem reg_post (d : Dev nD) : ((reg m).post d : sProp 𝕄) = iprop(held (T d) (Pipeline.arrRefs spec1) (V4 m d) ∗
    ∃ X, ⌜(K (F := F)).WBelow (T d) X 8⌝ ∗ owes (T d) (0 : CellTallies nD τ sig (HIx 1)) X) := rfl

/-- The pipeline's ghost state on device `d`. -/
def G (d : Dev nD) : sProp 𝕄 :=
  iprop((bigSep Finset.univ fun p : Fin 1 => Pipeline.cellsGhost (Pipeline.pin (pcfgs (F := F)) adm) EP p d) ∗
    bigSep Finset.univ fun p : Fin 1 => Pipeline.toksInit (Pipeline.pin (pcfgs (F := F)) adm) EP p d)

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The launch element gives the handshakes' rounds and every device's ghost state. -/
theorem hu₀ (o : Operands F) : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (P o).x q thr) := by
  unfold u₀ G
  iintro Hu
  ihave H := (ownU_pair _ _) $$ Hu
  icases H with ⟨HH, HR⟩
  ihave HR := (own_pair_emb _ _ _) $$ HR
  icases HR with ⟨HP, -⟩
  ihave HP := (Entails.of_eq (show BI.own (((Emb.inl : Emb UP (UP × Counters)).trans (embR : Emb (UP × Counters) 𝕄))
    (initOf (Pipeline.cells (Pipeline.pin (pcfgs (F := F)) adm) cellOf_inj) (Pipeline.launchToks (Pipeline.pin (pcfgs (F := F)) adm) cellOf_inj)))
      = (BI.own (EP (F := F) (initOf (Pipeline.cells (Pipeline.pin (pcfgs (F := F)) adm) cellOf_inj)
        (Pipeline.launchToks (Pipeline.pin (pcfgs (F := F)) adm) cellOf_inj))) : sProp 𝕄) from rfl)) $$ HP
  imod (Pipeline.fund_ghost (Pipeline.pin (pcfgs (F := F)) adm) (EP (F := F)) cellOf_inj) $$ HP with ⟨Hc, Ht⟩
  imodintro
  isplitl [HH]; · iexact HH
  isplitl [Hc Ht]
  · rw [bigSep_sep']; isplitl [Hc]; · iexact Hc
    iexact Ht
  · rw [show (bigSep Finset.univ fun thr : Thread nD τ => bigSep Finset.univ fun q : Fin 1 => (P o).x q thr) = (iprop(emp) : sProp 𝕄) from
      (bigSep_congr fun _ _ => bigSep_emp_const _).trans (bigSep_emp_const _)]
    iempintro

/-! ## @main -/

/-- What @main leaves the claim. -/
abbrev FIN (d : Dev nD) : sProp 𝕄 := held (T d) Kept (V4 m d)

variable (ρ : Dev nD → PrngReg)

theorem lift_eq : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl

set_option backward.isDefEq.respectTransparency.types false in
/-- The pipeline run: from the contents before it to the contents at the end. -/
theorem region_run (d : Dev nD) [∀ e, Nonempty (Elt F e)] (Q : PUnit → sProp 𝕄) :
    iprop(levAts (K (F := F)).L (K (F := F)).lev ∗ boundary (T d) ∗ (reg m).pre d ∗ G (F := F) d ∗ ((boundary (T d) ∗ (reg m).post d) -∗ Q ⟨⟩))
      ⊢ wp frame (wpE ((K (F := F)).defs (D (F := F))) 𝒱 (T d) none) Set.univ (Prog.lift (.customCall (SparseCore.inner (Pipeline.entry 0)) ())) Q := by
  have h := (K (F := F)).wp_liftProg (D (F := F)) 𝒱 (N := 1) (Name := ℕ) (U := UU) (T d) Set.univ none
    (.op (.customCall (Pipeline.entry 0) ()) .ret) Q
  rw [lift_eq]
  refine BIBase.Entails.trans ?_ h
  unfold G
  iintro ⟨Hl, Hb, Hpre, ⟨Hc, Ht⟩, Hk⟩
  iapply (Pipeline.RegionSeg.wp (pcfgs (F := F)) adm (pdats (V3 m)) none cellOf_inj EP defs₀ 𝒱₀ (K (F := F)).L (K (F := F)).lev (reg m) d none
    (fun _ h => nomatch h) .ret Q)
  isplitl [Hk]
  · iintro H; rw [wp_ret]; imodintro; iapply Hk; iexact H
  isplitl [Hb]; · iexact Hb
  isplitl [Hpre]; · iexact Hpre
  isplitl [Hl]; · iexact Hl
  isplitl [Hc]
  · iapply (Entails.of_eq (bigSep_singleton (Φ := fun p : Fin 1 => (Pipeline.cellsGhost (Pipeline.pin (pcfgs (F := F)) adm) EP p d : sProp 𝕄)))); iexact Hc
  · iapply (Entails.of_eq (bigSep_singleton (Φ := fun p : Fin 1 => (Pipeline.toksInit (Pipeline.pin (pcfgs (F := F)) adm) EP p d : sProp 𝕄)))); iexact Ht

/-- The launch's arrays, held at their contents. -/
theorem launch_held (d : Dev nD) :
    (unscopedBufs d (fun b => m ((SparseCore.T d : Thread nD τ).loc b)) : sProp 𝕄) = held (T d) (Pipeline.ucRefs τ sig) (V0 m d) := by
  unfold V0
  exact Pipeline.unscopedBufs_held (Ix := HIx 1) (Name := ℕ) (U := UU) (Lvl := ℕ) d (fun b => m (d, b))

set_option backward.isDefEq.respectTransparency.types false in
/-- @main on device `d`: from the launch to the contents at the end. -/
theorem hmain (κ : GSem nD τ sig → ℕ) (d : Dev nD) [∀ e, Nonempty (Elt F e)] :
    iprop((K (F := F)).ctx (EH (F := F)) (P (opnds m)) κ ∗ (K (F := F)).tcSt (EH (F := F)) d 0 ∗ (K (F := F)).tcRes m ρ d ∗ G (F := F) d)
      ⊢ wp frame (wpE ((K (F := F)).defs (D (F := F))) 𝒱 (T d) none) Set.univ (main d)
          fun _ => iprop((K (F := F)).tcSt (EH (F := F)) d 1 ∗ FIN m d ∗ (K (F := F)).tcEnd d) := by
  unfold SparseCore.Cfg.tcRes SparseCore.Cfg.tcEnd
  rw [launch_held, main_eq]
  iintro ⟨#Hctx, Hst, ⟨Hb, Hh, Hts, -⟩, HG⟩
  -- the first line
  iapply (StableHlo.wp_seq 𝒱 none Set.univ d (Pipeline.ucRefs τ sig) _ ops1
    (fun op h => Pipeline.sub_ucRefs op ((List.forall_iff_forall_mem.mp ops1_sub) op h))
    (fun op h => (List.forall_iff_forall_mem.mp ops1_fresh) op h) (V0 m d)) $$ [Hb Hh]
  · isplitl [Hb]; · iexact Hb
    iexact Hh
  rw [show after ops1 (V0 m d) = V1 m d from rfl]
  iintro ⟨Hb, Hh⟩
  -- the call
  ihave Hh := (Entails.of_eq (held_call d (V1 m d))) $$ Hh
  icases Hh with ⟨Ha, Hr⟩
  rw [wp_bind]
  iapply ((K (F := F)).wp_run (D (F := F)) 𝒱 (EH := EH) (P := P (opnds m)) κ d 0) $$ [Hst Ha Hb Hr Hts HG]
  isplitr; · iexact Hctx
  isplitl [Hst]; · iexact Hst
  isplitl [Ha]; · iapply (deal (opnds m) d (V1 m d r28) (V1 m d r28')); iexact Ha
  iintro ⟨Hst, Hdn⟩
  ihave Hdn := (gather (opnds m) d) $$ Hdn
  ihave Hh := (Entails.of_eq (held_back m d).symm) $$ [Hdn Hr]
  · isplitl [Hdn]; · iexact Hdn
    iexact Hr
  -- the second line
  iapply (StableHlo.wp_seq 𝒱 none Set.univ d Kept _ ops2 ops2_kept
    (fun op h => (List.forall_iff_forall_mem.mp ops2_fresh) op h) (V2 m d)) $$ [Hb Hh]
  · isplitl [Hb]; · iexact Hb
    iexact Hh
  rw [show after ops2 (V2 m d) = V3 m d from rfl]
  iintro ⟨Hb, Hh⟩
  -- the pipeline
  ihave Hh := (Entails.of_eq (StableHlo.held_sub_split (T d) arr_sub (V3 m d))) $$ Hh
  icases Hh with ⟨Ha, Hr⟩
  unfold SparseCore.Cfg.tcSt
  icases Hst with ⟨HO, Hst⟩
  rw [wp_bind]
  iapply (region_run m d _) $$ [Ha HO Hb HG Hst Hr Hts]
  isplitr; · iapply ((K (F := F)).ctx_levAts κ); iexact Hctx
  isplitl [Hb]; · iexact Hb
  isplitl [Ha HO]
  · rw [reg_pre]
    isplitl [Ha]; · iexact Ha
    rw [← (K (F := F)).Otc_end d (n := 1) le_rfl]; iexact HO
  isplitl [HG]; · iexact HG
  rw [reg_post]
  iintro ⟨Hb, Ha, HO⟩
  rw [wp_pure]; imodintro
  isplitl [HO Hst]
  · isplitl [HO]; · rw [(K (F := F)).Otc_end d (n := 1) le_rfl]; iexact HO
    iexact Hst
  isplitl [Ha Hr]
  · iapply (Entails.of_eq (StableHlo.held_sub_split (T d) arr_sub (V4 m d)).symm)
    isplitl [Ha]; · iexact Ha
    iapply (Entails.of_eq (held_rest m d)); iexact Hr
  isplitl [Hb] <;> iassumption

/-! ## The run -/

/-- What the claims read of a final state on device `d`: every array held holds the contents at the end. -/
def fq (d : Dev nD) (s' : Phys nD τ sig (Elt F)) : Prop := ∀ b ∈ Kept, s'.mem.mem (d, b) = V4 m d b

theorem hfin (d : Dev nD) (s' : Phys nD τ sig (Elt F)) : iprop(FIN m d ∗ SI s') ⊢ (⌜fq m d s'⌝ : sProp 𝕄) := by
  unfold FIN held
  iintro H
  ihave H := (pointsTo_read_all (q := fullShare) Kept (fun b => ((d, b) : Loc nD τ sig)) (fun b => V4 m d b) s') $$ H
  icases H with ⟨%h, -⟩
  ipureintro; exact h

/-- A final state: the arrays the TensorCore still holds at their contents at the end, every counter at zero. -/
def QC : PUnit × MemSt nD τ sig (Elt F) → Prop := fun r => (∀ d : Dev nD, ∀ b ∈ Kept, r.2.mem (d, b) = V4 m d b) ∧ r.2.sem = fun _ => 0

/-- The program runs, provided the neighbour lists name nodes. -/
theorem run_main [∀ e, Nonempty (Elt F e)] (hk : ∀ d x, ((opnds m).knn d x).toNat < 20000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (opnds m)) (A := ∅) facts v₀
    (fun q hq => match q with | 0 => nomatch hq)
    (fun q _ => match q with | 0 => tileObl (opnds m) hk)
    (fun q _ => match q with | 0 => SparseCore.Cfg.VecSplit.of_plain (vecSplit (opnds m)))
    m ρ main (G (F := F)) (FIN m) (u₀ (F := F)) (sep_elim_left.trans (hu₀ (opnds m))) (fun κ d => hmain m ρ κ d) (fq m) (hfin m) (QC m) (fun _ h hz => ⟨h, hz⟩)

end Cert.Interference

end
-- ==== Proof.Pre.lean ====
/-
  What the precondition on the indices says of a single one: it names a node.  Also the readings of single comparisons
  that both preconditions are made of.
-/
module

public import proofs.«01_k».proof.Pre_indices_name_nodes
public import Idealize.ShloMosaic.Lib.ReduceAll
public import Idealize.ShloMosaic.Lib.Pointwise.Select
public import Idealize.ShloMosaic.PureOps.Ideal.Laws

@[expose] public section

noncomputable section

namespace Cert.Interference

open Idealize.ShloMosaic

/-- A word that is at least 0 and below 20000 as a signed number is below 20000 as an unsigned one. -/
theorem word_lt {w : BitVec 32} (h0 : IntOp.cmpi .sge w 0#32 = 1#1) (h1 : IntOp.cmpi .slt w 20000#32 = 1#1) : w.toNat < 20000 := by
  rw [IntOp.cmpi_sge] at h0
  rw [IntOp.cmpi_slt] at h1
  rw [show (0#32 : BitVec 32).toInt = 0 from by decide] at h0
  rw [show (20000#32 : BitVec 32).toInt = 20000 from by decide] at h1
  have h2 := BitVec.toInt_eq_toNat_cond w
  have h3 := w.isLt
  split at h2 <;> omega

/-- A number whose size is below infinity is finite. -/
theorem finite_of_lt {a : EReal} (h : Ideal.cmp .olt (max a (-a)) (Ideal.ofBits .f32 0x7F800000#32) = 1) : a ≠ ⊤ ∧ a ≠ ⊥ := by
  rw [Ideal.cmp_olt_eq_one, show Ideal.ofBits .f32 0x7F800000#32 = (⊤ : EReal) by simp [Ideal.ofBits, Ideal.ieee], max_lt_iff] at h
  refine ⟨h.1.ne, fun e => ?_⟩
  rw [e] at h
  exact absurd h.2 (by simp)

/-- A number not below the constant zero is not negative. -/
theorem nonneg_of_ge {a : EReal} (h : Ideal.cmp .oge a (Ideal.ofBits .f32 0x00000000#32) = 1) : 0 ≤ a := by
  rwa [Ideal.cmp_oge_eq_one, Ideal.ofBits_zero_f32] at h

/-- The one index of a scalar. -/
def pt : (⟨0, ![]⟩ : Shape).Idx := fun d => d.elim0

section Names

variable {F : FTy → Type} [FloatOps F] [Cert.Pre_indices_name_nodes.Facts]
open Cert.Pre_indices_name_nodes

/-- Every neighbour index names a node. -/
theorem names_nodes {a0 : FVec F S32x2 .f32} {a1 : FVec F S32x20000x2 .f32} {a2 : IVec S32x20000x32 32} {a3 : IVec S32x20000 1} {a4 : FVec F S32x2 .f32}
    {a5 : FVec F S32x20000x2 .f32} {a6 a7 : FVec F S_ .f32} (h : fn a0 a1 a2 a3 a4 a5 a6 a7 = fun _ => 1#1) (x : S32x20000x32.Idx) : (a2 x).toNat < 20000 := by
  have h := congrFun h pt
  haveI : Subsingleton S_.Idx := ⟨fun a b => funext fun d => d.elim0⟩
  have h := Host.reduce_andi_all _ _ _ _ _ h x
  have h := IntOp.andi_eq_one.1 h
  exact word_lt h.1 h.2

end Names

end Cert.Interference

end
-- ==== Proof.Same.lean ====
/-
  The program read at its own floats and the program read at the extended reals are one text: their body tables are equal,
  case by case.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Interference

open Idealize.ShloMosaic

variable {F : FTy → Type} [FloatOps F]

/-- The kernels' bodies, on every processor and at every label. -/
theorem same_bodies : (Cert.Kernel.defs₀ (F := F)) = Cert.KernelIdeal.defs₀ (F := F) := by
  funext p ℓ a
  cases p with
  | tc =>
    match ℓ, a with
    | 0, _ => rfl
    | 1, (t, s) => rfl
  | scScalar c =>
    match ℓ, a with
    | 0, _ => rfl
    | 1, _ => rfl
  | scVector c s =>
    match ℓ, a with
    | 0, _ => rfl
    | 1, _ => rfl

/-- The whole body table. -/
theorem same_defs : (Cert.Kernel.defs (F := F)) = Cert.KernelIdeal.defs (F := F) := by
  show Cert.KernelIdeal.sc.defs (Pipeline.defs Cert.KernelIdeal.pcfgs Cert.Kernel.defs₀) = _
  rw [same_bodies]
  rfl

/-- Every thread's program. -/
theorem same_threads : (Cert.Kernel.threads (F := F)) = Cert.KernelIdeal.threads (F := F) := rfl

end Cert.Interference

end
-- ==== Proof.Frame.lean ====
/-
  The two frames: the program runs, leaves its arguments as they were, and ends with every counter at zero.
-/
module

public import proofs.«01_k».proof.Defs
public import proofs.«01_k».proof.Proof.Main
public import proofs.«01_k».proof.Proof.Pre
public import proofs.«01_k».proof.Proof.Same
public import proofs.«01_k».proof.Proof.Gen.Kernel
public import proofs.«01_k».proof.Proof.Gen.Pre_indices_name_nodes

@[expose] public section

noncomputable section

namespace Cert.Interference

open Cert.KernelIdeal Cert.KernelIdeal.Gen
open Idealize.ShloMosaic
open Idealize.ShloMosaic.TcCoe
open Idealize.ShloMosaic.StableHlo (after)
open Idealize.SL.Sem

variable {F : FTy → Type} [FloatOps F] (m : (ℓ : Loc nD τ sig) → Buf (Elt F) ℓ)

/-! ## Contents that no operation changes -/

/-- What the first line writes. -/
def W1 : List (Ref sig .tc) :=
  [main_cst, main_v0, main_v1, main_v2, main_c, main_v3, main_v4, main_v5, main_v6, main_c_0, main_v7, main_v8, main_c_1, main_v9, main_v10, main_v11,
    main_v12, main_c_2, main_v13, main_v14, main_v15, main_v16, main_v17, main_c_3, main_v18, main_v19, main_v20, main_v21, main_c_4, main_v22, main_v23,
    main_v24, main_v25, main_v26, main_v27]

/-- What the second line writes. -/
def W2 : List (Ref sig .tc) := [main_v29, main_v30, main_v31]

theorem V1_of_not_mem (d : Dev nD) (r : Ref sig .tc) (h : r ∉ W1) : V1 m d (Proc.devRef .tc r) = m (d, Proc.devRef .tc r) :=
  StableHlo.after_unwritten W1 rfl h _

theorem V3_of_not_mem (d : Dev nD) (r : Ref sig .tc) (h : r ∉ W2) : V3 m d (Proc.devRef .tc r) = V2 m d (Proc.devRef .tc r) :=
  StableHlo.after_unwritten W2 rfl h _

/-- An array that neither line, nor the call, nor the pipeline writes ends as it began. -/
theorem V4_unwritten (d : Dev nD) (r : Ref sig .tc) (h1 : r ∉ W1) (h2 : r ∉ W2) (h : r ∉ [main_v28_0, main_v28_1, main_v32]) :
    V4 m d (Proc.devRef .tc r) = m (d, Proc.devRef .tc r) := by
  have hne : ∀ y ∈ [main_v28_0, main_v28_1, main_v32], (Proc.devRef .tc r : DevRef τ sig) ≠ Proc.devRef .tc y :=
    fun y hy e => h (Proc.devRef_injective _ e ▸ hy)
  unfold V4
  rw [Function.update_of_ne (hne main_v32 (by decide)), V3_of_not_mem m d r h2]
  unfold V2
  rw [Function.update_of_ne (hne main_v28_1 (by decide)), Function.update_of_ne (hne main_v28_0 (by decide)), V1_of_not_mem m d r h1]

/-- The neighbour lists at the call are the argument's, lists as columns. -/
theorem knn_eq (d : Dev nD) : (opnds m).knn d = transpose S32x32x20000 [0, 2, 1] (m (d, Proc.devRef .tc main_arg2)) transposes_S32x20000x32_S32x32x20000_0_2_1 := by
  show V1 m d r26 = _
  unfold V1 ops1
  after_reads_simp
  rfl

/-- Each names a node if the argument's do. -/
theorem knn_lt (h : ∀ d x, (m (d, Proc.devRef .tc main_arg2) x : BitVec 32).toNat < 20000) (d : Dev nD) (x : S32x32x20000.Idx) :
    ((opnds m).knn d x).toNat < 20000 := by
  rw [knn_eq]; exact h d _

/-! ## The frames -/

/-- A final state keeps the arguments. -/
theorem args_kept {r : PUnit × MemSt nD τ sig (Elt F)} (h : QC m r) (c : Dev nD) (a : Ref sig .tc) (hk : (Proc.devRef .tc a : DevRef τ sig) ∈ Kept)
    (h1 : a ∉ W1) (h2 : a ∉ W2) (h3 : a ∉ [main_v28_0, main_v28_1, main_v32]) :
    r.2.mem ((c.tc : Thread nD τ).loc a) = m ((c.tc : Thread nD τ).loc a) :=
  (h.1 c _ hk).trans (V4_unwritten m c a h1 h2 h3)

/-- All eight of them. -/
theorem all_args {r : PUnit × MemSt nD τ sig (Elt F)} (h : QC m r) (c : Dev nD) :
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) := by
  refine ⟨?_, ?_, ?_, ?_, ?_, ?_, ?_, ?_⟩ <;>
    exact args_kept m h c _ (by decide +kernel) (by decide) (by decide) (by decide)

/-- The program at its own floats. -/
theorem frame_kernel : Cert.quiescent_Kernel := fun m ρ hpre => by
  refine (θ_run Cert.Kernel.defs _ _).mono (Q := QC (F := Bits) m) (fun _ h => ⟨fun c => all_args m h c, h.2⟩) ?_
  rw [same_defs, same_threads]
  exact run_main (F := Bits) m ρ (knn_lt m fun d x => names_nodes (hpre d) x)

/-- The program at the extended reals. -/
theorem frame_ideal : Cert.quiescent_KernelIdeal := fun m ρ hpre =>
  (θ_run Cert.KernelIdeal.defs _ _).mono (fun _ h => ⟨fun c => all_args m h c, h.2⟩)
    (run_main (F := Ideal) m ρ (knn_lt m fun d x => names_nodes (hpre d) x))

end Cert.Interference

end
-- ==== Proof.RefFrame.lean ====
/-
  The reference's frame: a straight line of host operations that writes none of its arguments.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Interference

open Idealize.ShloMosaic Idealize.SL.Sem

/-- The reference runs, keeps its arguments and, having no counter at all, ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Interference

end
-- ==== Proof.Finite.lean ====
/-
  The stronger precondition, of single elements: every neighbour index names a node, every embedding and the
  interference's weight are finite, and the travel scale is not negative.  The two ideal programs' frames under it.
-/
module

public import proofs.«01_k».proof.Defs
public import proofs.«01_k».proof.Pre_indices_and_finite
public import proofs.«01_k».proof.Proof.Frame
public import proofs.«01_k».proof.Proof.RefFrame
public import proofs.«01_k».proof.Proof.Gen.Pre_indices_and_finite

@[expose] public section

noncomputable section

namespace Cert.Interference

open Idealize.ShloMosaic Idealize.SL.Sem

section Finite

variable [Cert.Pre_indices_and_finite.Facts]
open Cert.Pre_indices_and_finite

/-- Every neighbour index names a node, every embedding is finite, the weight is finite, the travel scale is not negative. -/
theorem finite_of_pre {a0 : FVec Ideal S32x2 .f32} {a1 : FVec Ideal S32x20000x2 .f32} {a2 : IVec S32x20000x32 32} {a3 : IVec S32x20000 1}
    {a4 : FVec Ideal S32x2 .f32} {a5 : FVec Ideal S32x20000x2 .f32} {a6 a7 : FVec Ideal S_ .f32} (h : fn a0 a1 a2 a3 a4 a5 a6 a7 = fun _ => 1#1) :
    (∀ x, (a2 x).toNat < 20000) ∧ (∀ x, a1 x ≠ (⊤ : EReal) ∧ a1 x ≠ (⊥ : EReal)) ∧ (a6 pt ≠ (⊤ : EReal) ∧ a6 pt ≠ (⊥ : EReal)) ∧ (0 : EReal) ≤ a7 pt := by
  have h := congrFun h pt
  haveI : Subsingleton S_.Idx := ⟨fun a b => funext fun d => d.elim0⟩
  obtain ⟨h, hmu⟩ := IntOp.andi_eq_one.1 h
  obtain ⟨hk, h⟩ := IntOp.andi_eq_one.1 h
  obtain ⟨hp, hl⟩ := IntOp.andi_eq_one.1 h
  refine ⟨fun x => ?_, fun x => ?_, finite_of_lt hl, nonneg_of_ge hmu⟩
  · obtain ⟨h0, h1⟩ := IntOp.andi_eq_one.1 (Host.reduce_andi_all _ _ _ _ _ hk x)
    exact word_lt h0 h1
  · exact finite_of_lt (Host.reduce_andi_all _ _ _ _ _ hp x)

end Finite

/-- The kernel's frame under the stronger precondition. -/
theorem frame_ideal' : Cert.quiescent_KernelIdeal_pre_indices_and_finite := fun m ρ hpre =>
  (θ_run Cert.KernelIdeal.defs _ _).mono (fun _ h => ⟨fun c => all_args m h c, h.2⟩)
    (run_main (F := Ideal) m ρ (knn_lt m fun d x => (finite_of_pre (hpre d)).1 x))

/-- The reference's frame under the stronger precondition. -/
theorem frame_reference' : Cert.quiescent_ReferenceIdeal_pre_indices_and_finite := fun m ρ _ => frame_reference m ρ trivial

end Cert.Interference

end
-- ==== Proof.Table.lean ====
/-
  What the host operations before the SparseCore kernel leave in its four operands, in the arguments: the positions and
  the neighbours with their last two axes exchanged, and, per batch element, a row of parameters.
-/
module

public import proofs.«01_k».proof.Defs
public import proofs.«01_k».proof.Proof.Frame
public import Idealize.ShloMosaic.Lib.Pointwise
public import Idealize.ShloMosaic.Lib.Routing.OpsOne
public import Idealize.ShloMosaic.PureOps.Ideal.Laws

@[expose] public section

noncomputable section

namespace Cert.Interference

open Cert.KernelIdeal Cert.KernelIdeal.Gen
open Idealize.ShloMosaic
open Idealize.ShloMosaic.TcCoe
open Idealize.ShloMosaic.StableHlo (after)

variable {F : FTy → Type} [FloatOps F]

/-- A table of rows with column `k` set. -/
def setCol (x : FVec F S32x16 .f32) (k : BitVec 32) (u : FVec F S32 .f32) : FVec F S32x16 .f32 :=
  Host.scatter scatter_S32x16_S1_S32_0_1_1_0 (fun _ b => b) x (broadcastInDim S1 ![] bcast_S_S1 (constantI S_ 32 k)) u

/-- Its elements: the column's new ones, the others kept. -/
theorem setCol_apply (x : FVec F S32x16 .f32) (k : BitVec 32) (j : Fin 16) (hk : k.toInt = (j : ℕ)) (u : FVec F S32 .f32) (b : Fin 32) (e : Fin 16) :
    setCol x k u (ix2 b e) = if e = j then u (ValueIdx.ix1 b) else x (ix2 b e) := by
  have hl := fun w' => Routing.lands_col scatter_S32x16_S1_S32_0_1_1_0 rfl rfl
    (broadcastInDim S1 ![] bcast_S_S1 (constantI S_ 32 k)) j (by exact hk) w' b e
  have lands : ∀ y : S32.Idx, scatter_S32x16_S1_S32_0_1_1_0.resultIdx? y (broadcastInDim S1 ![] bcast_S_S1 (constantI S_ 32 k)) = some (ValueIdx.ix2 b e) →
      y 0 = b ∧ e = j := fun y hy =>
    (hl (y 0)).1 ((congrArg (fun t => scatter_S32x16_S1_S32_0_1_1_0.resultIdx? t _) (ValueIdx.eq_ix1 y).symm).trans hy)
  show Host.scatter _ _ _ _ _ (ValueIdx.ix2 b e) = _
  by_cases h : e = j
  · rw [if_pos h]
    exact Routing.scatter_set_hit _ x _ u _ _ (fun y hy => (congrArg u (ValueIdx.eq_ix1 y)).trans (congrArg (fun t => u (ValueIdx.ix1 t)) (lands y hy).1))
      (ValueIdx.ix1 b) ((hl b).2 ⟨rfl, h⟩)
  · rw [if_neg h]
    exact Routing.scatter_set_miss _ x _ u _ fun y hy => h (lands y hy).2

/-- The table of parameters: a batch element's query, the weight of its neighbours, the squared weight of the distance
    and the current point. -/
def table (a0 a4 : FVec F S32x2 .f32) (a6 a7 : FVec F S_ .f32) : FVec F S32x16 .f32 :=
  setCol (setCol (setCol (setCol (setCol (setCol (broadcastInDim S32x16 ![] bcast_S_S32x16 (constant S_ .f32 0x00000000#32))
    0#32 (shapeCast S32 (extractStridedSlice S32x1 ![0, 0] a0 slices_S32x2_S32x1_0_0) shapeCasts_S32x1_S32))
    1#32 (shapeCast S32 (extractStridedSlice S32x1 ![0, 1] a0 slices_S32x2_S32x1_0_1) shapeCasts_S32x1_S32))
    2#32 (broadcastInDim S32 ![] bcast_S_S32 a6))
    3#32 (broadcastInDim S32 ![] bcast_S_S32 (mulf a7 a7)))
    4#32 (shapeCast S32 (extractStridedSlice S32x1 ![0, 0] a4 slices_S32x2_S32x1_0_0) shapeCasts_S32x1_S32))
    5#32 (shapeCast S32 (extractStridedSlice S32x1 ![0, 1] a4 slices_S32x2_S32x1_0_1) shapeCasts_S32x1_S32)

section Reads

variable (m : (b : Loc nD τ sig) → Buf (Elt F) b)

/-- The kernel's first operand: the positions' axes exchanged. -/
theorem psi_eq (d : Dev nD) : (opnds m).psi d = transpose S32x2x20000 [0, 2, 1] (m (d, Proc.devRef .tc main_arg1)) transposes_S32x20000x2_S32x2x20000_0_2_1 := by
  show V1 m d r24 = _
  unfold V1 ops1
  after_reads_simp
  rfl

/-- Its second: the coordinates' axes exchanged. -/
theorem all_eq (d : Dev nD) : (opnds m).all d = transpose S32x2x20000 [0, 2, 1] (m (d, Proc.devRef .tc main_arg5)) transposes_S32x20000x2_S32x2x20000_0_2_1 := by
  show V1 m d r25 = _
  unfold V1 ops1
  after_reads_simp
  rfl

/-- Its fourth: the table of parameters, its rows one after the other. -/
theorem prm_eq (d : Dev nD) : (opnds m).prm d = shapeCast S512 (table (m (d, Proc.devRef .tc main_arg0)) (m (d, Proc.devRef .tc main_arg4))
    (m (d, Proc.devRef .tc main_arg6)) (m (d, Proc.devRef .tc main_arg7))) shapeCasts_S32x16_S512 := by
  show after (ops1 (F := F)) (V0 m d) (Proc.devRef .tc main_v27) = _
  unfold ops1
  after_reads_simp
  rfl

end Reads

/-- A parameter, out of the table. -/
theorem prm_table (t : FVec F S32x16 .f32) (b : Fin 32) (k : Fin 16) : prm (shapeCast S512 t shapeCasts_S32x16_S512) b k = t (ix2 b k) := by
  unfold prm at1
  have h : (ValueIdx.ix1 (Fin.ofNat 512 ((b : ℕ) * 16 + k)) : S512.Idx) = ValueIdx.ix1 ⟨(b : ℕ) * 16 + k, by omega⟩ := by
    congr 1; apply Fin.ext; show _ % 512 = _; rw [Nat.mod_eq_of_lt (by omega)]
  rw [h]
  apply shapeCast_apply
  rw [Shape.rowMajor_val_two, Shape.rowMajor_val_one]
  rfl

set_option maxRecDepth 16384 in
/-- A column of the query, or of the current points, as a vector. -/
theorem col_apply (a : FVec F S32x2 .f32) (b : Fin 32) :
    shapeCast S32 (extractStridedSlice S32x1 ![0, 0] a slices_S32x2_S32x1_0_0) shapeCasts_S32x1_S32 (ValueIdx.ix1 b) = a (ix2 b (0 : Fin 2)) ∧
    shapeCast S32 (extractStridedSlice S32x1 ![0, 1] a slices_S32x2_S32x1_0_1) shapeCasts_S32x1_S32 (ValueIdx.ix1 b) = a (ix2 b (1 : Fin 2)) := by
  constructor
  · rw [shapeCast_apply _ _ _ (ix2 b (0 : Fin 1) : S32x1.Idx) (by rw [Shape.rowMajor_val_two, Shape.rowMajor_val_one]; show (b : ℕ) * 1 + 0 = b; omega)]
    pointwise
  · rw [shapeCast_apply _ _ _ (ix2 b (0 : Fin 1) : S32x1.Idx) (by rw [Shape.rowMajor_val_two, Shape.rowMajor_val_one]; show (b : ℕ) * 1 + 0 = b; omega)]
    pointwise

/-- The row of parameters of a batch element: the query's two coordinates, the weight of the neighbours, the squared
    weight of the distance, the current point's two coordinates. -/
theorem table_apply (a0 a4 : FVec F S32x2 .f32) (a6 a7 : FVec F S_ .f32) (b : Fin 32) :
    table a0 a4 a6 a7 (ix2 b (0 : Fin 16)) = a0 (ix2 b (0 : Fin 2)) ∧ table a0 a4 a6 a7 (ix2 b (1 : Fin 16)) = a0 (ix2 b (1 : Fin 2)) ∧
    table a0 a4 a6 a7 (ix2 b (2 : Fin 16)) = a6 ix0 ∧ table a0 a4 a6 a7 (ix2 b (3 : Fin 16)) = FloatOps.mulf (a7 ix0) (a7 ix0) ∧
    table a0 a4 a6 a7 (ix2 b (4 : Fin 16)) = a4 (ix2 b (0 : Fin 2)) ∧ table a0 a4 a6 a7 (ix2 b (5 : Fin 16)) = a4 (ix2 b (1 : Fin 2)) := by
  have hs : ∀ a : FVec F S_ .f32, broadcastInDim S32 ![] bcast_S_S32 a (ValueIdx.ix1 b) = a ix0 := fun a => by
    pointwise
  have h : ∀ e : Fin 16, table a0 a4 a6 a7 (ix2 b e) = if e = 5 then a4 (ix2 b (1 : Fin 2)) else if e = 4 then a4 (ix2 b (0 : Fin 2)) else
      if e = 3 then FloatOps.mulf (a7 ix0) (a7 ix0) else if e = 2 then a6 ix0 else if e = 1 then a0 (ix2 b (1 : Fin 2)) else
      if e = 0 then a0 (ix2 b (0 : Fin 2)) else broadcastInDim S32x16 ![] bcast_S_S32x16 (constant S_ .f32 0x00000000#32) (ix2 b e) := fun e => by
    unfold table
    rw [setCol_apply _ 5#32 5 (by rfl), setCol_apply _ 4#32 4 (by rfl), setCol_apply _ 3#32 3 (by rfl), setCol_apply _ 2#32 2 (by rfl),
      setCol_apply _ 1#32 1 (by rfl), setCol_apply _ 0#32 0 (by rfl), (col_apply a4 b).1, (col_apply a4 b).2, (col_apply a0 b).1, (col_apply a0 b).2, hs, hs]
    rfl
  refine ⟨?_, ?_, ?_, ?_, ?_, ?_⟩ <;> rw [h] <;> rfl

section Operands

variable (m : (b : Loc nD τ sig) → Buf (Elt F) b)

/-- An element of an operand whose axes were exchanged. -/
theorem psi_at (d : Dev nD) (b : Fin 32) (e : Fin 2) (n : ℕ) (hn : n < 20000) :
    at3 ((opnds m).psi d) b e n = (m (d, Proc.devRef .tc main_arg1) : S32x20000x2.Idx → F .f32) (ix3 b ⟨n, hn⟩ e) := by
  rw [psi_eq]
  unfold at3
  rw [show Fin.ofNat 32 (b : ℕ) = b by simp, show Fin.ofNat 2 (e : ℕ) = e by simp, show Fin.ofNat 20000 n = ⟨n, hn⟩ from Fin.ext (Nat.mod_eq_of_lt hn)]
  show transpose S32x2x20000 [0, 2, 1] _ _ (ix3 b e (⟨n, hn⟩ : Fin 20000)) = _
  pointwise

theorem all_at (d : Dev nD) (b : Fin 32) (e : Fin 2) (n : Fin 20000) :
    at3 ((opnds m).all d) b e n = (m (d, Proc.devRef .tc main_arg5) : S32x20000x2.Idx → F .f32) (ix3 b n e) := by
  rw [all_eq]
  unfold at3
  rw [show Fin.ofNat 32 (b : ℕ) = b by simp, show Fin.ofNat 2 (e : ℕ) = e by simp, show Fin.ofNat 20000 (n : ℕ) = n by simp]
  show transpose S32x2x20000 [0, 2, 1] _ _ (ix3 b e n) = _
  pointwise

theorem knn_at (d : Dev nD) (b : Fin 32) (k : Fin 32) (n : Fin 20000) :
    at3 ((opnds m).knn d) b k n = (m (d, Proc.devRef .tc main_arg2) : S32x20000x32.Idx → BitVec 32) (ix3 b n k) := by
  rw [knn_eq]
  unfold at3
  rw [show Fin.ofNat 32 (b : ℕ) = b by simp, show Fin.ofNat 32 (k : ℕ) = k by simp, show Fin.ofNat 20000 (n : ℕ) = n by simp]
  show transpose S32x32x20000 [0, 2, 1] _ _ (ix3 b k n) = _
  pointwise

end Operands

end Cert.Interference

end
-- ==== Proof.Softmax.lean ====
/-
  A row's log-probabilities, over the extended reals, and the last kernel's payload at an element: the log-probability
  of its row's masked scores.
-/
module

public import proofs.«01_k».proof.Proof.Gen.KernelIdeal
public import proofs.«01_k».proof.Proof.Gen.KernelIdeal.Skeleton
public import Idealize.ShloMosaic.Lib.Pointwise
public import Idealize.ShloMosaic.PureOps.Ideal.Laws
public import Idealize.ShloMosaic.Lib.IdealHost

@[expose] public section

noncomputable section

namespace Cert.Interference

open Cert.KernelIdeal Cert.KernelIdeal.Gen
open Idealize.ShloMosaic

/-- The largest score of a row. -/
def rowMax (s : Fin 20000 → EReal) : EReal := Finset.fold max (Ideal.ofBits .f32 0xFF800000#32) s Finset.univ

/-- An element's log-probability within its row of scores. -/
def logProb (s : Fin 20000 → EReal) (n : Fin 20000) : EReal := s n - rowMax s - Ideal.log (∑ k, Ideal.exp (s k - rowMax s))

/-- A score, or the constant that stands for a masked one. -/
def masked (p : Prop) [Decidable p] (x : EReal) : EReal := if p then Ideal.ofBits .f32 0xCE6E6B28#32 else x

set_option maxRecDepth 16384 in
/-- The last kernel's payload: the log-probability, within the row, of the interference less the root of the squared
    distance, masked where the mask exceeds one half. -/
theorem pay_eq (a d f : Vec Ideal S8x20000 .f32) (i : Fin 8) (n : Fin 20000) :
    k1_pay1 a d f (ix2 i n)
      = logProb (fun k => masked (Ideal.ofBits .f32 0x3F000000#32 < f (ix2 i k)) (a (ix2 i k) - Ideal.sqrt (d (ix2 i k)))) n := by
  pointwise [k1_pay1]
  rfl

end Cert.Interference

end
-- ==== Proof.Result.lean ====
/-
  The result array after the last kernel, in what the two kernels before it computed: each row holds the
  log-probabilities of the row's masked scores.
-/
module

public import proofs.«01_k».proof.Proof.Main
public import proofs.«01_k».proof.Proof.Softmax

@[expose] public section

noncomputable section

namespace Cert.Interference

open Cert.KernelIdeal Cert.KernelIdeal.Gen
open Idealize.ShloMosaic
open Idealize.ShloMosaic.TcCoe
open Idealize.ShloMosaic.StableHlo (after)
open Idealize.ShloMosaic.Pipeline (Dat Cfg)

/-- An array whose rows are the log-probabilities of the interference less the root of the squared distance, masked
    where the mask exceeds one half. -/
def rows (a d f : S32x20000.Idx → EReal) : S32x20000.Idx → EReal := fun y =>
  logProb (fun k => masked (Ideal.ofBits .f32 0x3F000000#32 < f (ix2 (y 0 : Fin 32) k)) (a (ix2 (y 0 : Fin 32) k) - Ideal.sqrt (d (ix2 (y 0 : Fin 32) k)))) (y 1)

section Blocks

variable (W : Dev nD → Valuation τ sig (Elt Ideal))

/-- The row at which a block's row lies. -/
theorem index_all : ∀ t : Fin cfg1.N, win1_0.index t = ![(t : ℕ), 0] ∧ win1_1.index t = ![(t : ℕ), 0] ∧ win1_2.index t = ![(t : ℕ), 0] ∧ win1_3.index t = ![(t : ℕ), 0] :=
  (by decide +kernel : ∀ t : Fin grid1.N, _)

/-- The array after the pipeline. -/
theorem final (c : Dev nD) : (dat W c).arrAt 3 cfg1.N
    = rows (W c (Proc.devRef .tc main_v30)) (W c (Proc.devRef .tc main_v31)) (W c (Proc.devRef .tc main_v29)) := by
  refine (dat W c).arrAt_eq_of_covers 3 _ (by decide +kernel) fun t hf y => ?_
  blk_simp
  have e0 := (index_all t).1
  have e1 := (index_all t).2.1
  have e2 := (index_all t).2.2.1
  have e3 := (index_all t).2.2.2
  obtain ⟨i, n, rfl⟩ : ∃ (i : Fin 8) (n : Fin 20000), y = (ix2 i n : S8x20000.Idx) := ⟨y 0, y 1, ValueIdx.eq_ix2 y⟩
  have ht : (t : ℕ) < 4 := t.isLt
  let r : Fin 32 := ⟨(t : ℕ) * 8 + i, by omega⟩
  have h0 : ∀ k : Fin 20000, ((cfg1.win 0).blk t).view.emb (ix2 i k : S8x20000.Idx) = (ix2 r k : S32x20000.Idx) := fun k => by blk_ext [e0]; rfl
  have h1 : ∀ k : Fin 20000, ((cfg1.win 1).blk t).view.emb (ix2 i k : S8x20000.Idx) = (ix2 r k : S32x20000.Idx) := fun k => by blk_ext [e1]; rfl
  have h2 : ∀ k : Fin 20000, ((cfg1.win 2).blk t).view.emb (ix2 i k : S8x20000.Idx) = (ix2 r k : S32x20000.Idx) := fun k => by blk_ext [e2]; rfl
  have h3 : (win1_3.blk t).view.emb (ix2 i n : S8x20000.Idx) = (ix2 r n : S32x20000.Idx) := by blk_ext [e3]; rfl
  rw [show (win1_3.blk t).view.emb _ = _ from h3]
  refine (pay_eq (blk1 W c 0 t) (blk1 W c 1 t) (blk1 W c 2 t) i n).trans ?_
  have g0 : ∀ k, blk1 W c 0 t (ix2 i k : S8x20000.Idx) = W c (Proc.devRef .tc main_v30) (ix2 r k : S32x20000.Idx) := fun k => congrArg _ (h0 k)
  have g1 : ∀ k, blk1 W c 1 t (ix2 i k : S8x20000.Idx) = W c (Proc.devRef .tc main_v31) (ix2 r k : S32x20000.Idx) := fun k => congrArg _ (h1 k)
  have g2 : ∀ k, blk1 W c 2 t (ix2 i k : S8x20000.Idx) = W c (Proc.devRef .tc main_v29) (ix2 r k : S32x20000.Idx) := fun k => congrArg _ (h2 k)
  simp only [g0, g1, g2]
  rfl

end Blocks

section Between

variable (m : (ℓ : Loc nD τ sig) → Buf (Elt Ideal) ℓ)

/-- The interference, in rows. -/
theorem V3_a (c : Dev nD) (i : Fin 32) (n : Fin 20000) : V3 m c (Proc.devRef .tc main_v30) (ix2 i n)
    = aAt (F := Ideal) (prm ((opnds m).prm c) i 0) (prm ((opnds m).prm c) i 1) (prm ((opnds m).prm c) i 2) ((opnds m).psi c) ((opnds m).knn c) i n := by
  have h : V3 m c (Proc.devRef .tc main_v30) = shapeCast S32x20000 (aAll (opnds m) c) shapeCasts_S640000_S32x20000 := by
    rw [← V2_a]
    show after (ops2 (F := Ideal)) (V2 m c) (Proc.devRef .tc main_v30) = _
    unfold ops2
    after_reads_simp
    rfl
  rw [h, shapeCast_apply _ _ (ix2 i n) (ValueIdx.ix1 ⟨(i : ℕ) * 20000 + n, by omega⟩ : S640000.Idx) (by rw [Shape.rowMajor_val_two, Shape.rowMajor_val_one]; rfl)]
  show aOut (opnds m) c (((i : ℕ) * 20000 + n) / 20000) _ = _
  rw [show ((i : ℕ) * 20000 + n) / 20000 = i by omega]
  show aAt _ _ _ _ _ _ ((i : ℕ) * 20000 + n - i * 20000) = _
  rw [show (i : ℕ) * 20000 + n - i * 20000 = n by omega]

/-- The squared distance, in rows. -/
theorem V3_d (c : Dev nD) (i : Fin 32) (n : Fin 20000) : V3 m c (Proc.devRef .tc main_v31) (ix2 i n)
    = dAt (F := Ideal) (prm ((opnds m).prm c) i 3) (prm ((opnds m).prm c) i 4) (prm ((opnds m).prm c) i 5) ((opnds m).all c) i n := by
  have h : V3 m c (Proc.devRef .tc main_v31) = shapeCast S32x20000 (dAll (opnds m) c) shapeCasts_S640000_S32x20000 := by
    rw [← V2_d]
    show after (ops2 (F := Ideal)) (V2 m c) (Proc.devRef .tc main_v31) = _
    unfold ops2
    after_reads_simp
    rfl
  rw [h, shapeCast_apply _ _ (ix2 i n) (ValueIdx.ix1 ⟨(i : ℕ) * 20000 + n, by omega⟩ : S640000.Idx) (by rw [Shape.rowMajor_val_two, Shape.rowMajor_val_one]; rfl)]
  show dOut (opnds m) c (((i : ℕ) * 20000 + n) / 20000) _ = _
  rw [show ((i : ℕ) * 20000 + n) / 20000 = i by omega]
  show dAt _ _ _ _ _ ((i : ℕ) * 20000 + n - i * 20000) = _
  rw [show (i : ℕ) * 20000 + n - i * 20000 = n by omega]

/-- The mask, as floats. -/
theorem V3_f (c : Dev nD) (x : S32x20000.Idx) : V3 m c (Proc.devRef .tc main_v29) x
    = ((((V2 m c (Proc.devRef .tc main_arg3) x : BitVec 1).toNat : ℝ) : EReal)) := by
  have h : V3 m c (Proc.devRef .tc main_v29) = uitofp (F := Ideal) .f32 (V2 m c (Proc.devRef .tc main_arg3)) := by
    show after (ops2 (F := Ideal)) (V2 m c) (Proc.devRef .tc main_v29) = _
    unfold ops2
    after_reads_simp
  rw [h]
  rfl

end Between

end Cert.Interference

end
-- ==== Proof.Score.lean ====
/-
  The equation between the two scores, over the extended reals: a sum in four interleaved parts is the sum of the
  thirty-two terms; a node's interference, taken with finite positions and a finite weight, is its product with the
  query plus the weight times its products with its neighbours; and the root of the distance scaled by a square is the
  scaled root of the distance.
-/
module

public import proofs.«01_k».proof.Proof.Node
public import proofs.«01_k».proof.Proof.Softmax

@[expose] public section

noncomputable section

namespace Cert.Interference

open Idealize.ShloMosaic

/-! ## The sum of thirty-two -/

theorem zero_word : (Scalar.ofBits (F := Ideal) .f32 0x00000000#32 : EReal) = 0 := by
  show Ideal.ofBits .f32 0x00000000#32 = 0
  exact Ideal.ofBits_zero_f32

/-- The four interleaved parts add up to the sum. -/
theorem sum32_eq (r : ℕ → EReal) : sum32 (F := Ideal) r = ∑ k : Fin 32, r k := by
  rw [Fin.sum_univ_eq_sum_range]
  have hp : ∀ w, (List.range 8).foldl (fun (s : EReal) m => s + r (4 * m + w)) 0 = ∑ m ∈ Finset.range 8, r (4 * m + w) := by
    intro w
    simp [List.range_succ, Finset.sum_range_succ]
  have hs : sum32 (F := Ideal) r = ((List.range 8).foldl (fun (s : EReal) m => s + r (4 * m + 0)) 0 + (List.range 8).foldl (fun (s : EReal) m => s + r (4 * m + 1)) 0)
      + ((List.range 8).foldl (fun (s : EReal) m => s + r (4 * m + 2)) 0 + (List.range 8).foldl (fun (s : EReal) m => s + r (4 * m + 3)) 0) := by
    rw [← zero_word]; rfl
  rw [hs, hp, hp, hp, hp, ← Finset.sum_add_distrib, ← Finset.sum_add_distrib, ← Finset.sum_add_distrib]
  simp only [Finset.sum_range_succ, Finset.sum_range_zero, zero_add, Nat.reduceMul, Nat.reduceAdd, add_assoc]

/-! ## Finite values -/

/-- A finite value is a real number. -/
theorem real_of_finite {x : EReal} (h : x ≠ ⊤ ∧ x ≠ ⊥) : ∃ r : ℝ, x = (r : EReal) := ⟨x.toReal, (EReal.coe_toReal h.1 h.2).symm⟩

/-- The reals' sum, as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real factor distributes over a sum whose second term is real. -/
theorem real_mul_add (p y : ℝ) (q : EReal) : (p : EReal) * (q + (y : EReal)) = (p : EReal) * q + ((p * y : ℝ) : EReal) := by
  induction q with
  | coe q => norm_cast; ring
  | top =>
    rw [EReal.top_add_coe]
    rcases lt_trichotomy p 0 with h | h | h
    · rw [EReal.coe_mul_top_of_neg h, EReal.bot_add]
    · subst h; simp
    · rw [EReal.coe_mul_top_of_pos h, EReal.top_add_coe]
  | bot =>
    rw [EReal.bot_add]
    rcases lt_trichotomy p 0 with h | h | h
    · rw [EReal.coe_mul_bot_of_neg h, EReal.top_add_coe]
    · subst h; simp
    · rw [EReal.coe_mul_bot_of_pos h, EReal.bot_add]

/-- A node's interference: its product with the query, plus the weight times its products with its neighbours. -/
theorem aNode_eq (q : Fin 2 → EReal) (lam : EReal) (T : ℕ → ℕ → EReal) (nb : ℕ → BitVec 32) (own : ℕ) (hl : lam ≠ ⊤ ∧ lam ≠ ⊥)
    (hT : ∀ e n, T e n ≠ ⊤ ∧ T e n ≠ ⊥) :
    aNode (F := Ideal) (q 0) (q 1) lam T nb own
      = (∑ e : Fin 2, T e own * q e) + lam * ∑ k : Fin 32, ∑ e : Fin 2, T e own * T e (nb k).toNat := by
  obtain ⟨l, rfl⟩ := real_of_finite hl
  choose t ht using fun e n => real_of_finite (hT e n)
  show T 0 own * (q 0 + (l : EReal) * sum32 (F := Ideal) fun k => T 0 (nb k).toNat) + T 1 own * (q 1 + (l : EReal) * sum32 (F := Ideal) fun k => T 1 (nb k).toNat) = _
  simp only [sum32_eq, Fin.sum_univ_two, ht, Fin.val_zero, Fin.val_one]
  simp only [← EReal.coe_mul, ← EReal.coe_add, ← coe_sum]
  rw [real_mul_add, real_mul_add, add_add_add_comm, ← EReal.coe_add]
  congr 2
  rw [Finset.sum_add_distrib, ← Finset.mul_sum, ← Finset.mul_sum]
  ring

/-! ## The distance -/

/-- A square is not negative. -/
theorem square_nonneg (x : EReal) : 0 ≤ x * x := by
  rcases le_total 0 x with h | h
  · exact mul_nonneg h h
  · rw [← neg_mul_neg]
    have h' : 0 ≤ -x := by rw [EReal.le_neg]; simpa using h
    exact mul_nonneg h' h'

/-- The root of a real that is not negative. -/
theorem sqrt_coe {r : ℝ} (h : 0 ≤ r) : Ideal.sqrt (r : EReal) = (Real.sqrt r : EReal) := by
  show (if r < 0 then ⊥ else (Real.sqrt r : EReal)) = _
  rw [if_neg (not_lt.2 h)]

theorem sqrt_top : Ideal.sqrt ⊤ = ⊤ := rfl

theorem sqrt_zero : Ideal.sqrt 0 = 0 := by
  have h := sqrt_coe (le_refl (0 : ℝ))
  rw [Real.sqrt_zero] at h
  exact_mod_cast h

/-- The root of a value scaled by a square is the scaled root. -/
theorem sqrt_scaled {mu x : EReal} (hm : 0 ≤ mu) (hx : 0 ≤ x) : Ideal.sqrt (mu * mu * x) = mu * Ideal.sqrt x := by
  rcases hm.eq_or_lt with rfl | hm'
  · rw [zero_mul, zero_mul, zero_mul, sqrt_zero]
  rcases hx.eq_or_lt with rfl | hx'
  · rw [mul_zero, sqrt_zero, mul_zero]
  induction x with
  | bot => exact absurd hx' (by simp)
  | top => rw [EReal.mul_top_of_pos (EReal.mul_pos hm' hm'), sqrt_top, EReal.mul_top_of_pos hm']
  | coe x =>
    have hx0 : 0 < x := by exact_mod_cast hx'
    induction mu with
    | bot => exact absurd hm' (by simp)
    | top =>
      rw [EReal.top_mul_of_pos (EReal.coe_lt_top 0), EReal.top_mul_of_pos hx', sqrt_coe hx0.le, sqrt_top,
        EReal.top_mul_of_pos (by exact_mod_cast Real.sqrt_pos.2 hx0)]
    | coe mu =>
      have hm0 : 0 < mu := by exact_mod_cast hm'
      rw [← EReal.coe_mul, ← EReal.coe_mul, sqrt_coe (by positivity), sqrt_coe hx0.le, ← EReal.coe_mul,
        Real.sqrt_mul (by positivity), Real.sqrt_mul_self hm0.le]

/-- The root of a node's weighted squared distance is its weight times the root of the squared distance. -/
theorem dNode_eq (mu : EReal) (c v : Fin 2 → EReal) (hm : 0 ≤ mu) :
    Ideal.sqrt (dNode (F := Ideal) (mu * mu) (c 0) (c 1) (v 0) (v 1)) = mu * Ideal.sqrt (∑ e : Fin 2, (v e - c e) * (v e - c e)) := by
  rw [Fin.sum_univ_two]
  exact sqrt_scaled hm (add_nonneg (square_nonneg _) (square_nonneg _))

/-! ## The mask -/

/-- A mask bit, as a float, exceeds one half exactly if it is set. -/
theorem mask_iff (w : BitVec 1) : (Ideal.ofBits .f32 0x3F000000#32 < (((w.toNat : ℝ)) : EReal)) ↔ w = 1#1 := by
  have h : Ideal.ofBits .f32 0x3F000000#32 = ((1 / 2 : ℝ) : EReal) := by
    show Ideal.ieee 8 23 0x3F000000#32 = _
    unfold Ideal.ieee
    norm_num [show (BitVec.extractLsb' 23 8 0x3F000000#32).toNat = 126 from rfl, show (BitVec.extractLsb' 0 23 0x3F000000#32).toNat = 0 from rfl,
      show (BitVec.extractLsb' (8 + 23) 1 0x3F000000#32 == 1#1) = false from rfl]
  rw [h]
  have hw : w = 0#1 ∨ w = 1#1 := by revert w; decide
  rcases hw with rfl | rfl
  · norm_num
  · norm_num
    exact_mod_cast (by norm_num : (1 / 2 : ℝ) < 1)

end Cert.Interference

end
-- ==== Proof.RefGather.lean ====
/-
  The reference's neighbours: what it reads, for every node and every one of its thirty-two indices, out of the
  embeddings. Where every index names a node, nothing is wrapped around and nothing is masked out.
-/
module

public import proofs.«01_k».proof.Proof.Gen.ReferenceIdeal
public import Idealize.ShloMosaic.Lib.Pointwise
public import Idealize.ShloMosaic.Lib.ReduceAll
public import Idealize.ShloMosaic.PureOps.Ideal.Laws
public import Idealize.ShloMosaic.Lib.IdealHost

@[expose] public section

noncomputable section

namespace Cert.Interference

open Cert.ReferenceIdeal Cert.ReferenceIdeal.Gen
open Idealize.ShloMosaic

section Gather

variable {α : Type}

/-- An element of a gather of rows by a batch's own indices: the batch's row that the index names, held within the table. -/
theorem gather_apply (x : S32x20000x2.Idx → α) (idx : IVec S32x640000x1 32) (i : Fin 32) (j : Fin 640000) (e : Fin 2) :
    Host.gather gather_S32x20000x2_S32x640000x1_S32x640000x2_2_1_0_0_1_2_112 x idx (ix3 i j e)
      = x (ix3 i ⟨min (idx (ix3 i j 0)).toInt.toNat 19999, by omega⟩ e) := by
  unfold Host.gather
  congr 1
  funext a
  refine Fin.ext ?_
  set d := gather_S32x20000x2_S32x640000x1_S32x640000x2_2_1_0_0_1_2_112
  show d.start (ix3 i j e) idx a + d.batchCoord (ix3 i j e) a + d.offCoord (ix3 i j e) a = _
  have hk : a = 0 ∨ a = 1 ∨ a = 2 := by
    have := a.isLt
    match a with
    | ⟨0, _⟩ => exact .inl rfl
    | ⟨1, _⟩ => exact .inr (.inl rfl)
    | ⟨2, _⟩ => exact .inr (.inr rfl)
  have n10 : (1 : Fin 3) ≠ 0 := by decide
  have n20 : (2 : Fin 3) ≠ 0 := by decide
  have n21 : (2 : Fin 3) ≠ 1 := by decide
  rcases hk with rfl | rfl | rfl
  · rw [d.start_batching _ _ _ (List.mem_singleton.2 rfl), d.offCoord_eq_zero _ _ (fun h => ((d.mem_sKept _).1 h).2 (List.mem_singleton.2 rfl))]
    unfold GatherDims.batchCoord
    rw [dif_pos (show (0 : Fin 3) ∈ d.operandBatchingDims from List.mem_singleton.2 rfl)]
    simp only [Nat.zero_add, Nat.add_zero]
    rfl
  · rw [d.batchCoord_eq_zero _ _ (fun h => n10 (List.mem_singleton.1 h)),
      d.offCoord_eq_zero _ _ (fun h => ((d.mem_sKept _).1 h).1 (List.mem_singleton.2 rfl))]
    unfold GatherDims.start
    rw [dif_pos (show (1 : Fin 3) ∈ d.startIndexMap from List.mem_singleton.2 rfl)]
    have hs : ∀ q, d.siIdx (ix3 i j e) q = ix3 i j 0 := fun q => by
      funext b
      refine Fin.ext ?_
      match b with
      | ⟨0, _⟩ => rfl
      | ⟨1, _⟩ => rfl
      | ⟨2, _⟩ => exact congrArg Fin.val (Subsingleton.elim (α := Fin 1) _ _)
    rw [hs]
    rfl
  · rw [d.batchCoord_eq_zero _ _ (fun h => n20 (List.mem_singleton.1 h))]
    unfold GatherDims.start
    rw [dif_neg (show (2 : Fin 3) ∉ d.startIndexMap from fun h => n21 (List.mem_singleton.1 h))]
    unfold GatherDims.offCoord
    rw [dif_pos ((d.mem_sKept _).2 ⟨fun h => n21 (List.mem_singleton.1 h), fun h => n20 (List.mem_singleton.1 h)⟩)]
    simp only [Nat.zero_add]
    rfl

end Gather

/-- The reference's indices as one list per batch, a negative one wrapped around. -/
def wrapped (a2 : IVec S32x20000x32 32) : IVec S32x640000x1 32 :=
  select (cmpi .slt (shapeCast _ a2 shapeCasts_S32x20000x32_S32x640000x1) (broadcastInDim S32x640000x1 ![] bcast_S_S32x640000x1 (constantI S_ 32 0#32)))
    (addi (shapeCast _ a2 shapeCasts_S32x20000x32_S32x640000x1) (broadcastInDim S32x640000x1 ![] bcast_S_S32x640000x1 (constantI S_ 32 20000#32)))
    (shapeCast _ a2 shapeCasts_S32x20000x32_S32x640000x1)

/-- Which of them lie within the table. -/
def within (a2 : IVec S32x20000x32 32) : IVec S32x640000 1 :=
  Host.reduce IntOp.andi (andi (cmpi .sge (wrapped a2) (broadcastInDim S32x640000x1 ![] bcast_S_S32x640000x1 (constantI S_ 32 0#32)))
    (cmpi .sle (wrapped a2) (broadcastInDim S32x640000x1 ![0, 1, 2] bcast_S1x1x1_S32x640000x1_0_1_2 (broadcastInDim S1x1x1 ![2] bcast_S1_S1x1x1_2 (constantI S1 32 19999#32)))))
    (constantI S_ 1 1#1) reducesTo_S32x640000x1_S32x640000_d2 h_S_

/-- The neighbours' embeddings. -/
def neighbours (a1 : FVec Ideal S32x20000x2 .f32) (a2 : IVec S32x20000x32 32) : FVec Ideal S32x640000x2 .f32 :=
  select (broadcastInDim S32x640000x2 ![0, 1] bcast_S32x640000_S32x640000x2_0_1 (within a2))
    (Host.gather gather_S32x20000x2_S32x640000x1_S32x640000x2_2_1_0_0_1_2_112 a1 (wrapped a2))
    (broadcastInDim S32x640000x2 ![] bcast_S_S32x640000x2 (constant S_ .f32 0x7FC00000#32))

variable {a1 : FVec Ideal S32x20000x2 .f32} {a2 : IVec S32x20000x32 32}

/-- A word below 20000 is not negative, is at most 19999, and reads the same with a sign. -/
theorem small_word {w : BitVec 32} (h : w.toNat < 20000) :
    IntOp.cmpi .slt w 0#32 = 0#1 ∧ IntOp.cmpi .sge w 0#32 = 1#1 ∧ IntOp.cmpi .sle w 19999#32 = 1#1 ∧ w.toInt = (w.toNat : ℤ) := by
  have h2 : w.toInt = (w.toNat : ℤ) := by
    have := BitVec.toInt_eq_toNat_cond w
    split at this <;> omega
  have e0 : (0#32 : BitVec 32).toInt = 0 := by decide
  have e1 : (19999#32 : BitVec 32).toInt = 19999 := by decide
  refine ⟨?_, ?_, ?_, h2⟩
  · refine Idealize.ShloMosaic.ValueIdx.eq_zero_of_ne_one fun hh => ?_
    rw [IntOp.cmpi_slt, e0] at hh
    omega
  · rw [IntOp.cmpi_sge, e0]; omega
  · rw [IntOp.cmpi_sle, e1]; omega

set_option maxRecDepth 16384 in
/-- Nothing is wrapped. -/
theorem wrapped_apply (h : ∀ x, (a2 x).toNat < 20000) (i : Fin 32) (n : Fin 20000) (k : Fin 32) :
    wrapped a2 (ix3 i ⟨(n : ℕ) * 32 + k, by omega⟩ 0) = a2 (ix3 i n k) := by
  pointwise [wrapped]
  have e : ∀ p q, (ix3 i ⟨((n : ℕ) * 32 + k) / 32, p⟩ ⟨((n : ℕ) * 32 + k) % 32, q⟩ : S32x20000x32.Idx) = ix3 i n k := fun p q => by
    congr 1 <;> exact Fin.ext (by simp only; omega)
  simp only [e, (small_word (h (ix3 i n k))).1]
  rfl

set_option maxRecDepth 16384 in
/-- Nothing lies outside. -/
theorem within_apply (h : ∀ x, (a2 x).toNat < 20000) (i : Fin 32) (n : Fin 20000) (k : Fin 32) :
    within a2 (ix2 i ⟨(n : ℕ) * 32 + k, by omega⟩) = 1#1 := by
  pointwise [within]
  have e : ∀ x : Fin 1, wrapped a2 (ix3 i ⟨(n : ℕ) * 32 + k, by omega⟩ x) = a2 (ix3 i n k) := fun x => by
    rw [Subsingleton.elim x 0, wrapped_apply h]
  obtain ⟨-, h1, h2, -⟩ := small_word (h (ix3 i n k))
  simp only [e, h1, h2]
  rfl

set_option maxRecDepth 16384 in
/-- So a neighbour is the row that its index names. -/
theorem neighbours_apply (h : ∀ x, (a2 x).toNat < 20000) (i : Fin 32) (n : Fin 20000) (k : Fin 32) (e : Fin 2) :
    neighbours a1 a2 (ix3 i ⟨(n : ℕ) * 32 + k, by omega⟩ e) = a1 (ix3 i ⟨(a2 (ix3 i n k)).toNat, h _⟩ e) := by
  pointwise [neighbours]
  rw [within_apply h, gather_apply, Idealize.ShloMosaic.ValueIdx.select_one]
  congr 2
  refine Fin.ext ?_
  show min (wrapped a2 _).toInt.toNat 19999 = _
  rw [wrapped_apply h, (small_word (h (ix3 i n k))).2.2.2]
  have := h (ix3 i n k)
  simp only [Int.toNat_natCast]
  omega

end Cert.Interference

end
-- ==== Proof.RefValue.lean ====
/-
  The reference's result at an element: the log-probability, within its row, of its masked score.
-/
module

public import proofs.«01_k».proof.Proof.Gen.ReferenceIdeal
public import proofs.«01_k».proof.Proof.Gen.ReferenceIdeal.Run
public import proofs.«01_k».proof.Proof.RefGather
public import proofs.«01_k».proof.Proof.Softmax
public import Idealize.ShloMosaic.Lib.Pointwise
public import Idealize.ShloMosaic.PureOps.Ideal.Laws
public import Idealize.ShloMosaic.Lib.IdealHost

@[expose] public section

noncomputable section

namespace Cert.Interference

open Cert.ReferenceIdeal Cert.ReferenceIdeal.Gen
open Idealize.ShloMosaic

/-- The squared distances from the current points. -/
def refDist (a4 : FVec Ideal S32x2 .f32) (a5 : FVec Ideal S32x20000x2 .f32) : FVec Ideal S32x20000 .f32 :=
  let v := subf a5 (broadcastInDim S32x20000x2 ![0, 1, 2] bcast_S32x1x2_S32x20000x2_0_1_2 (broadcastInDim S32x1x2 ![0, 2] bcast_S32x2_S32x1x2_0_2 a4))
  Host.reduceAdd (mulf v v) (constant S_ .f32 0x00000000#32) reducesTo_S32x20000x2_S32x20000_d2 h_S_

/-- The dots with the query. -/
def refContext (a0 : FVec Ideal S32x2 .f32) (a1 : FVec Ideal S32x20000x2 .f32) : FVec Ideal S32x20000 .f32 :=
  Host.reduceAdd (mulf a1 (broadcastInDim S32x20000x2 ![0, 1, 2] bcast_S32x1x2_S32x20000x2_0_1_2 (broadcastInDim S32x1x2 ![0, 2] bcast_S32x2_S32x1x2_0_2 a0)))
    (constant S_ .f32 0x00000000#32) reducesTo_S32x20000x2_S32x20000_d2 h_S_

/-- The sums of the dots with the neighbours. -/
def refDots (a1 : FVec Ideal S32x20000x2 .f32) (nb : FVec Ideal S32x640000x2 .f32) : FVec Ideal S32x20000 .f32 :=
  Host.reduceAdd (Host.reduceAdd (mulf (broadcastInDim S32x20000x32x2 ![0, 1, 2, 3] bcast_S32x20000x1x2_S32x20000x32x2_0_1_2_3
    (broadcastInDim S32x20000x1x2 ![0, 1, 3] bcast_S32x20000x2_S32x20000x1x2_0_1_3 a1)) (shapeCast _ nb shapeCasts_S32x640000x2_S32x20000x32x2))
    (constant S_ .f32 0x00000000#32) reducesTo_S32x20000x32x2_S32x20000x32_d3 h_S_) (constant S_ .f32 0x00000000#32) reducesTo_S32x20000x32_S32x20000_d2 h_S_

/-- The masked scores, of the dots and the squared distances. -/
def refScore (a3 : IVec S32x20000 1) (a6 a7 : FVec Ideal S_ .f32) (q s d : FVec Ideal S32x20000 .f32) : FVec Ideal S32x20000 .f32 :=
  select a3 (broadcastInDim S32x20000 ![] bcast_S_S32x20000 (constant S_ .f32 0xCE6E6B28#32))
    (subf (addf q (mulf (broadcastInDim S32x20000 ![] bcast_S_S32x20000 a6) s)) (mulf (broadcastInDim S32x20000 ![] bcast_S_S32x20000 a7) (Host.sqrt d)))

/-- The rows' log-probabilities. -/
def refOut (s : FVec Ideal S32x20000 .f32) : FVec Ideal S32x20000 .f32 :=
  let v := subf s (broadcastInDim S32x20000 ![0, 1] bcast_S32x1_S32x20000_0_1 (broadcastInDim S32x1 ![0] bcast_S32_S32x1_0
    (maximumf (broadcastInDim S32 ![] bcast_S_S32 (constant S_ .f32 0xFF800000#32))
      (Host.reduce FloatOps.maximumf s (constant S_ .f32 0xFF800000#32) reducesTo_S32x20000_S32_d1 h_S_))))
  subf v (broadcastInDim S32x20000 ![0, 1] bcast_S32x1_S32x20000_0_1 (Host.log (broadcastInDim S32x1 ![0] bcast_S32_S32x1_0
    (Host.reduceAdd (Host.exp v) (constant S_ .f32 0x00000000#32) reducesTo_S32x20000_S32_d1 h_S_))))

/-- A squared distance. -/
theorem refDist_apply (a4 : FVec Ideal S32x2 .f32) (a5 : FVec Ideal S32x20000x2 .f32) (i : Fin 32) (n : Fin 20000) :
    refDist a4 a5 (ix2 i n) = ∑ e, (a5 (ix3 i n e) - a4 (ix2 i e)) * (a5 (ix3 i n e) - a4 (ix2 i e)) := by
  pointwise [refDist]

/-- A dot with the query. -/
theorem refContext_apply (a0 : FVec Ideal S32x2 .f32) (a1 : FVec Ideal S32x20000x2 .f32) (i : Fin 32) (n : Fin 20000) :
    refContext a0 a1 (ix2 i n) = ∑ e, a1 (ix3 i n e) * a0 (ix2 i e) := by
  pointwise [refContext]

set_option maxRecDepth 16384 in
/-- A sum of dots with the neighbours. -/
theorem refDots_apply (a1 : FVec Ideal S32x20000x2 .f32) (nb : FVec Ideal S32x640000x2 .f32) (i : Fin 32) (n : Fin 20000) :
    refDots a1 nb (ix2 i n) = ∑ k : Fin 32, ∑ e : Fin 2, a1 (ix3 i n e) * nb (ix3 i ⟨(n : ℕ) * 32 + k, by omega⟩ e) := by
  pointwise [refDots]

/-- A masked score. -/
theorem refScore_apply (a3 : IVec S32x20000 1) (a6 a7 : FVec Ideal S_ .f32) (q s d : FVec Ideal S32x20000 .f32) (i : Fin 32) (n : Fin 20000) :
    refScore a3 a6 a7 q s d (ix2 i n)
      = masked (a3 (ix2 i n) = 1#1) (q (ix2 i n) + a6 ix0 * s (ix2 i n) - a7 ix0 * Ideal.sqrt (d (ix2 i n))) := by
  pointwise [refScore]
  rfl

set_option maxRecDepth 16384 in
/-- A log-probability: the row's maximum is taken once more with minus infinity, from which it started. -/
theorem refOut_apply (s : FVec Ideal S32x20000 .f32) (i : Fin 32) (n : Fin 20000) : refOut s (ix2 i n) = logProb (fun k => s (ix2 i k)) n := by
  have hm : max (Ideal.ofBits .f32 0xFF800000#32) (rowMax fun k => s (ix2 i k)) = rowMax fun k => s (ix2 i k) :=
    max_eq_right ((Finset.le_fold_max _).2 (.inl le_rfl))
  unfold rowMax at hm
  pointwise [refOut]
  rw [hm]
  rfl

set_option maxRecDepth 8192 in
/-- The reference's result, in these pieces. -/
theorem ref_eq (m : (ℓ : Loc nD τ sig) → Buf (Elt Ideal) ℓ) (c : Dev nD) (a0 a4 : FVec Ideal S32x2 .f32) (a1 a5 : FVec Ideal S32x20000x2 .f32)
    (a2 : IVec S32x20000x32 32) (a3 : IVec S32x20000 1) (a6 a7 : FVec Ideal S_ .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) (h7 : m ((c.tc : Thread nD τ).loc main_arg7) = a7) :
    Cert.ReferenceIdeal.Value.res_main_v25 m c
      = refOut (refScore a3 a6 a7 (refContext a0 a1) (refDots a1 (neighbours a1 a2)) (refDist a4 a5)) := by
  subst h0 h1 h2 h3 h4 h5 h6 h7
  rfl

end Cert.Interference

end
-- ==== Proof.Equal.lean ====
/-
  The two programs' results are equal: element by element the kernel's masked score is the reference's, so each row's
  log-probabilities are.
-/
module

public import proofs.«01_k».proof.Defs
public import proofs.«01_k».proof.Proof.Table
public import proofs.«01_k».proof.Proof.Result
public import proofs.«01_k».proof.Proof.Score
public import proofs.«01_k».proof.Proof.RefValue
public import proofs.«01_k».proof.Proof.Finite

@[expose] public section

noncomputable section

namespace Cert.Interference

open Cert.KernelIdeal Cert.KernelIdeal.Gen
open Idealize.ShloMosaic Idealize.SL.Sem
open Idealize.ShloMosaic.TcCoe

/-- Two masked scores are equal if the conditions say the same and the scores are equal. -/
theorem masked_congr {p q : Prop} [Decidable p] [Decidable q] {x y : EReal} (h : p ↔ q) (hxy : x = y) : masked p x = masked q y := by
  unfold masked
  subst hxy
  exact if_congr h rfl rfl

variable (m : (ℓ : Loc nD τ sig) → Buf (Elt Ideal) ℓ) (c : Dev nD)
variable (a0 a4 : FVec Ideal S32x2 .f32) (a1 a5 : FVec Ideal S32x20000x2 .f32) (a2 : IVec S32x20000x32 32) (a3 : IVec S32x20000 1) (a6 a7 : FVec Ideal S_ .f32)

/-- A coordinate of a node's position, as a tile reads it. -/
theorem position (h1 : m ((c.tc : Thread nD τ).loc main_arg1) = a1) (b : Fin 32) (e n : ℕ) :
    at2 (chunk3 (r := 2) (W := 20000) ((opnds m).psi c) b 0) e n
      = a1 (ix3 b ⟨n % 20000, Nat.mod_lt _ (by decide)⟩ ⟨e % 2, Nat.mod_lt _ (by decide)⟩) := by
  show at3 ((opnds m).psi c) b (e % 2) (0 + n % 20000) = _
  rw [zero_add, ← h1]
  exact psi_at m c b ⟨e % 2, Nat.mod_lt _ (by decide)⟩ _ _

/-- A parameter of a batch element, out of the table. -/
theorem param (h0 : m ((c.tc : Thread nD τ).loc main_arg0) = a0) (h4 : m ((c.tc : Thread nD τ).loc main_arg4) = a4)
    (h6 : m ((c.tc : Thread nD τ).loc main_arg6) = a6) (h7 : m ((c.tc : Thread nD τ).loc main_arg7) = a7) (b : Fin 32) (k : Fin 16) :
    prm ((opnds m).prm c) b k = table a0 a4 a6 a7 (ix2 b k) := by
  subst h0 h4 h6 h7
  rw [prm_eq]
  exact prm_table _ b k

/-- The kernel's interference of a node is the reference's dots. -/
theorem interference_eq (h0 : m ((c.tc : Thread nD τ).loc main_arg0) = a0) (h1 : m ((c.tc : Thread nD τ).loc main_arg1) = a1)
    (h2 : m ((c.tc : Thread nD τ).loc main_arg2) = a2) (h4 : m ((c.tc : Thread nD τ).loc main_arg4) = a4)
    (h6 : m ((c.tc : Thread nD τ).loc main_arg6) = a6) (h7 : m ((c.tc : Thread nD τ).loc main_arg7) = a7)
    (hk : ∀ x, (a2 x).toNat < 20000) (hp : ∀ x, a1 x ≠ (⊤ : EReal) ∧ a1 x ≠ (⊥ : EReal)) (hl : a6 ix0 ≠ (⊤ : EReal) ∧ a6 ix0 ≠ (⊥ : EReal))
    (i : Fin 32) (n : Fin 20000) :
    V3 m c (Proc.devRef .tc main_v30) (ix2 i n) = refContext a0 a1 (ix2 i n) + a6 ix0 * refDots a1 (neighbours a1 a2) (ix2 i n) := by
  have hq : ∀ k : Fin 16, prm ((opnds m).prm c) i (k : ℕ) = table a0 a4 a6 a7 (ix2 i k) := param m c a0 a4 a6 a7 h0 h4 h6 h7 i
  have t := table_apply a0 a4 a6 a7 i
  rw [V3_a, show prm ((opnds m).prm c) i 0 = _ from (hq 0).trans t.1, show prm ((opnds m).prm c) i 1 = _ from (hq 1).trans t.2.1,
    show prm ((opnds m).prm c) i 2 = _ from (hq 2).trans t.2.2.1]
  unfold aAt
  have hT : ∀ e k : ℕ, at2 (chunk3 (r := 2) (W := 20000) ((opnds m).psi c) i 0) e k ≠ (⊤ : EReal) ∧
      at2 (chunk3 (r := 2) (W := 20000) ((opnds m).psi c) i 0) e k ≠ (⊥ : EReal) := fun e k => by
    rw [position m c a1 h1]; exact hp _
  refine (aNode_eq (fun e => a0 (ix2 i e)) (a6 ix0) _ _ _ hl hT).trans ?_
  rw [refContext_apply, refDots_apply]
  have hown : ∀ e : Fin 2, at2 (chunk3 (r := 2) (W := 20000) ((opnds m).psi c) i 0) e n = a1 (ix3 i n e) := fun e => by
    rw [position m c a1 h1]
    congr 2
    · exact Fin.ext (Nat.mod_eq_of_lt n.isLt)
    · exact Fin.ext (Nat.mod_eq_of_lt e.isLt)
  have hnb : ∀ (k : Fin 32) (e : Fin 2), at2 (chunk3 (r := 2) (W := 20000) ((opnds m).psi c) i 0) e (at3 ((opnds m).knn c) i k n).toNat
      = neighbours a1 a2 (ix3 i ⟨(n : ℕ) * 32 + k, by omega⟩ e) := fun k e => by
    have hw : at3 ((opnds m).knn c) i k n = a2 (ix3 i n k) := by rw [← h2]; exact knn_at m c i k n
    rw [position m c a1 h1, neighbours_apply (h := hk)]
    simp only [hw]
    congr 2
    · exact Fin.ext (Nat.mod_eq_of_lt (hk _))
    · exact Fin.ext (Nat.mod_eq_of_lt e.isLt)
  simp only [hown, hnb]

/-- The root of the kernel's distance of a node is the reference's scaled root. -/
theorem distance_eq (h0 : m ((c.tc : Thread nD τ).loc main_arg0) = a0) (h4 : m ((c.tc : Thread nD τ).loc main_arg4) = a4)
    (h5 : m ((c.tc : Thread nD τ).loc main_arg5) = a5)
    (h6 : m ((c.tc : Thread nD τ).loc main_arg6) = a6) (h7 : m ((c.tc : Thread nD τ).loc main_arg7) = a7) (hm : (0 : EReal) ≤ a7 ix0)
    (i : Fin 32) (n : Fin 20000) :
    Ideal.sqrt (V3 m c (Proc.devRef .tc main_v31) (ix2 i n)) = a7 ix0 * Ideal.sqrt (refDist a4 a5 (ix2 i n)) := by
  have hq : ∀ k : Fin 16, prm ((opnds m).prm c) i (k : ℕ) = table a0 a4 a6 a7 (ix2 i k) := param m c a0 a4 a6 a7 h0 h4 h6 h7 i
  have t := table_apply a0 a4 a6 a7 i
  rw [V3_d, show prm ((opnds m).prm c) i 3 = _ from (hq 3).trans t.2.2.2.1, show prm ((opnds m).prm c) i 4 = _ from (hq 4).trans t.2.2.2.2.1,
    show prm ((opnds m).prm c) i 5 = _ from (hq 5).trans t.2.2.2.2.2]
  unfold dAt
  rw [show at3 ((opnds m).all c) i 0 n = a5 (ix3 i n (0 : Fin 2)) by rw [← h5]; exact all_at m c i 0 n,
    show at3 ((opnds m).all c) i 1 n = a5 (ix3 i n (1 : Fin 2)) by rw [← h5]; exact all_at m c i 1 n, refDist_apply]
  exact dNode_eq (a7 ix0) (fun e => a4 (ix2 i e)) (fun e => a5 (ix3 i n e)) hm

/-- The last kernel's mask is the argument's. -/
theorem mask_eq (h3 : m ((c.tc : Thread nD τ).loc main_arg3) = a3) (x : S32x20000.Idx) :
    (Ideal.ofBits .f32 0x3F000000#32 < V3 m c (Proc.devRef .tc main_v29) x) ↔ a3 x = 1#1 := by
  have h : V2 m c (Proc.devRef .tc main_arg3) = a3 := by
    unfold V2
    rw [Function.update_of_ne (by decide), Function.update_of_ne (by decide), V1_of_not_mem m c main_arg3 (by decide)]
    exact h3
  rw [V3_f, h]
  exact mask_iff _

/-- What the kernel leaves in its result is what the reference computes. -/
theorem result_eq (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) (h7 : m ((c.tc : Thread nD τ).loc main_arg7) = a7)
    (hk : ∀ x, (a2 x).toNat < 20000) (hp : ∀ x, a1 x ≠ (⊤ : EReal) ∧ a1 x ≠ (⊥ : EReal)) (hl : a6 ix0 ≠ (⊤ : EReal) ∧ a6 ix0 ≠ (⊥ : EReal))
    (hm : (0 : EReal) ≤ a7 ix0) :
    V4 m c r32 = refOut (refScore a3 a6 a7 (refContext a0 a1) (refDots a1 (neighbours a1 a2)) (refDist a4 a5)) := by
  have h : V4 m c r32 = (dat (V3 m) c).arrAt 3 cfg1.N := Function.update_self _ _ _
  rw [h, final]
  funext y
  obtain ⟨i, n, rfl⟩ : ∃ (i : Fin 32) (n : Fin 20000), y = (ix2 i n : S32x20000.Idx) := ⟨y 0, y 1, ValueIdx.eq_ix2 y⟩
  rw [refOut_apply]
  refine congrArg (fun s => logProb s n) (funext fun k => ?_)
  rw [refScore_apply]
  refine masked_congr (mask_eq m c a3 h3 _) ?_
  exact congrArg₂ (fun x y : EReal => x - y) (interference_eq m c a0 a4 a1 a2 a6 a7 h0 h1 h2 h4 h6 h7 hk hp hl i k)
    (distance_eq m c a0 a4 a5 a6 a7 h0 h4 h5 h6 h7 hm i k)

/-- The kernel and the reference run to equal results, provided the neighbours name nodes, the positions and the weight
    of the neighbours are finite and the weight of the distance is not negative. -/
theorem algebraic : Cert.algebraic_KernelIdeal_ReferenceIdeal_pre_indices_and_finite := fun m g m' g' hpre hag => by
  refine ⟨fun c => V4 m c r32, ?_, ?_⟩
  · exact (θ_run Cert.KernelIdeal.defs _ _).mono (fun _ h c => ⟨h.1 c r32 (by decide +kernel), all_args m h c⟩)
      (run_main (F := Ideal) m g (knn_lt m fun d x => (finite_of_pre (hpre d)).1 x))
  · refine (θ_run Cert.ReferenceIdeal.defs _ _).mono (fun r h c => ⟨(h c).1.trans ?_, (h c).2⟩) (Cert.ReferenceIdeal.Value.run (F := Ideal) m' g')
    obtain ⟨g0, g1, g2, g3, g4, g5, g6, g7⟩ := hag c
    obtain ⟨hk, hp, hl, hm⟩ := finite_of_pre (hpre c)
    have hi : (pt : S_.Idx) = ix0 := funext fun d => d.elim0
    rw [hi] at hl hm
    refine (ref_eq m' c _ _ _ _ _ _ _ _ g0 g1 g2 g3 g4 g5 g6 g7).trans ?_
    exact (result_eq m c _ _ _ _ _ _ _ _ rfl rfl rfl rfl rfl rfl rfl rfl hk hp hl hm).symm

end Cert.Interference

end
-- ==== Proof.lean ====
/-
  The proof of `Cert.Claim`: the frames, the (empty) idealization and the equality of the kernel's result with the
  reference's, put together from the modules under `Proof/`.
-/
module

public import proofs.«01_k».proof.Defs
public import proofs.«01_k».proof.Proof.Frame
public import proofs.«01_k».proof.Proof.RefFrame
public import proofs.«01_k».proof.Proof.Finite
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_indices_name_nodes
public import proofs.«01_k».proof.Proof.Gen.Pre_indices_and_finite

@[expose] public section

noncomputable section

namespace Cert.Proof

open Cert.Interference

/-- Everything the certificate claims. -/
theorem claim : Cert.Claim :=
  ⟨Cert.Kernel.Gen.facts, Cert.KernelIdeal.Gen.facts, Cert.ReferenceIdeal.Gen.facts, Cert.Pre_indices_name_nodes.Gen.facts,
    Cert.Pre_indices_and_finite.Gen.facts, frame_kernel, frame_ideal, frame_ideal', frame_reference, frame_reference', trivial, algebraic⟩

end Cert.Proof

end
